-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scan [hPre_finite_scan : Cert.Pre_finite_scan.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scan.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scan [hPre_finite_scan : Cert.Pre_finite_scan.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scan.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mix [hPre_finite_mix : Cert.Pre_finite_mix.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mix.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mix [hPre_finite_mix : Cert.Pre_finite_mix.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mix.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite_scan [hKernel3Ideal : Cert.Kernel3Ideal.Facts] [hPre_finite_scan : Cert.Pre_finite_scan.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scan m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite_scan [hReference3Ideal : Cert.Reference3Ideal.Facts] [hPre_finite_scan : Cert.Pre_finite_scan.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scan m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite_mix [hKernel5Ideal : Cert.Kernel5Ideal.Facts] [hPre_finite_mix : Cert.Pre_finite_mix.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mix m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite_mix [hReference5Ideal : Cert.Reference5Ideal.Facts] [hPre_finite_mix : Cert.Pre_finite_mix.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mix m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_v8) = v2 c
          ∧ r.2.mem ((c.tc : Thread Cert.Reference2Ideal.nD Cert.Reference2Ideal.τ).loc Cert.Reference2Ideal.main_v14) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_scan [hKernel3Ideal : Cert.Kernel3Ideal.Facts] [hReference3Ideal : Cert.Reference3Ideal.Facts] [hPre_finite_scan : Cert.Pre_finite_scan.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scan m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_mix [hKernel5Ideal : Cert.Kernel5Ideal.Facts] [hReference5Ideal : Cert.Reference5Ideal.Facts] [hPre_finite_mix : Cert.Pre_finite_mix.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mix m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)) (v2 : (c : Dev Cert.Kernel5Ideal.nD) → Buf (Elt Ideal) ((c.tc : Thread Cert.Kernel5Ideal.nD Cert.Kernel5Ideal.τ).loc Cert.Kernel5Ideal.main_v23_2)) (v3 : (c : Dev Cert.Kernel5Ideal.nD) → Buf (Elt Ideal) ((c.tc : Thread Cert.Kernel5Ideal.nD Cert.Kernel5Ideal.τ).loc Cert.Kernel5Ideal.main_v23_3)) (v4 : (c : Dev Cert.Kernel5Ideal.nD) → Buf (Elt Ideal) ((c.tc : Thread Cert.Kernel5Ideal.nD Cert.Kernel5Ideal.τ).loc Cert.Kernel5Ideal.main_v23_4)) (v5 : (c : Dev Cert.Kernel5Ideal.nD) → Buf (Elt Ideal) ((c.tc : Thread Cert.Kernel5Ideal.nD Cert.Kernel5Ideal.τ).loc Cert.Kernel5Ideal.main_v23_5)) (v6 : (c : Dev Cert.Kernel5Ideal.nD) → Buf (Elt Ideal) ((c.tc : Thread Cert.Kernel5Ideal.nD Cert.Kernel5Ideal.τ).loc Cert.Kernel5Ideal.main_v23_6)) (v7 : (c : Dev Cert.Kernel5Ideal.nD) → Buf (Elt Ideal) ((c.tc : Thread Cert.Kernel5Ideal.nD Cert.Kernel5Ideal.τ).loc Cert.Kernel5Ideal.main_v23_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_v23_2) = v2 c
          ∧ r.2.mem ((c.tc : Thread Cert.Kernel5Ideal.nD Cert.Kernel5Ideal.τ).loc Cert.Kernel5Ideal.main_v23_3) = v3 c
          ∧ r.2.mem ((c.tc : Thread Cert.Kernel5Ideal.nD Cert.Kernel5Ideal.τ).loc Cert.Kernel5Ideal.main_v23_4) = v4 c
          ∧ r.2.mem ((c.tc : Thread Cert.Kernel5Ideal.nD Cert.Kernel5Ideal.τ).loc Cert.Kernel5Ideal.main_v23_5) = v5 c
          ∧ r.2.mem ((c.tc : Thread Cert.Kernel5Ideal.nD Cert.Kernel5Ideal.τ).loc Cert.Kernel5Ideal.main_v23_6) = v6 c
          ∧ r.2.mem ((c.tc : Thread Cert.Kernel5Ideal.nD Cert.Kernel5Ideal.τ).loc Cert.Kernel5Ideal.main_v23_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v85) = v0 c
          ∧ r.2.mem ((c.tc : Thread Cert.Reference5Ideal.nD Cert.Reference5Ideal.τ).loc Cert.Reference5Ideal.main_v90) = v1 c
          ∧ r.2.mem ((c.tc : Thread Cert.Reference5Ideal.nD Cert.Reference5Ideal.τ).loc Cert.Reference5Ideal.main_v94) = v2 c
          ∧ r.2.mem ((c.tc : Thread Cert.Reference5Ideal.nD Cert.Reference5Ideal.τ).loc Cert.Reference5Ideal.main_v97) = v3 c
          ∧ r.2.mem ((c.tc : Thread Cert.Reference5Ideal.nD Cert.Reference5Ideal.τ).loc Cert.Reference5Ideal.main_v98) = v4 c
          ∧ r.2.mem ((c.tc : Thread Cert.Reference5Ideal.nD Cert.Reference5Ideal.τ).loc Cert.Reference5Ideal.main_v99) = v5 c
          ∧ r.2.mem ((c.tc : Thread Cert.Reference5Ideal.nD Cert.Reference5Ideal.τ).loc Cert.Reference5Ideal.main_v73) = v6 c
          ∧ r.2.mem ((c.tc : Thread Cert.Reference5Ideal.nD Cert.Reference5Ideal.τ).loc Cert.Reference5Ideal.main_v40) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_router : Cert.Pre_finite_router.Facts) (hPre_finite_scan : Cert.Pre_finite_scan.Facts) (hPre_finite_mix : Cert.Pre_finite_mix.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scan (hKernel3Ideal := hKernel3Ideal) (hPre_finite_scan := hPre_finite_scan)
    ∧ quiescent_Reference3Ideal (hReference3Ideal := hReference3Ideal)
    ∧ quiescent_Reference3Ideal_pre_finite_scan (hReference3Ideal := hReference3Ideal) (hPre_finite_scan := hPre_finite_scan)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_mix (hKernel5Ideal := hKernel5Ideal) (hPre_finite_mix := hPre_finite_mix)
    ∧ quiescent_Reference5Ideal (hReference5Ideal := hReference5Ideal)
    ∧ quiescent_Reference5Ideal_pre_finite_mix (hReference5Ideal := hReference5Ideal) (hPre_finite_mix := hPre_finite_mix)
    ∧ preserves_Kernel_KernelIdeal
    ∧ algebraic_KernelIdeal_ReferenceIdeal_pre_finite_router (hKernelIdeal := hKernelIdeal) (hReferenceIdeal := hReferenceIdeal) (hPre_finite_router := hPre_finite_router)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scan (hKernel3Ideal := hKernel3Ideal) (hReference3Ideal := hReference3Ideal) (hPre_finite_scan := hPre_finite_scan)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_mix (hKernel5Ideal := hKernel5Ideal) (hReference5Ideal := hReference5Ideal) (hPre_finite_mix := hPre_finite_mix)
-- ==== Pre_finite_mix.lean ====
abbrev S4x4224x1792 : Shape := ⟨3, ![4, 4224, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S4x4224x1024 : Shape := ⟨3, ![4, 4224, 1024]⟩
abbrev S_ : Shape := ⟨0, ![]⟩
abbrev S1024 : Shape := ⟨1, ![1024]⟩
abbrev S1x1x1024 : Shape := ⟨3, ![1, 1, 1024]⟩

class Facts : Prop where
  shapeCasts_S8x64_S512 : S8x64.ShapeCasts S512
  slices_S4x4224x1792_S4x4224x1024_0_0_0 : S4x4224x1792.Slices ![0, 0, 0] S4x4224x1024
  bcast_S_S4x4224x1024 : S_.BroadcastsInDim S4x4224x1024 (![] : Fin 0 → Fin S4x4224x1024.rank)
  slices_S1792_S1024_0 : S1792.Slices ![0] S1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S4x4224x1024_0_1_2 : S1x1x1024.BroadcastsInDim S4x4224x1024 (![0, 1, 2] : Fin 3 → Fin S4x4224x1024.rank)
  concatenates_S512_S512_S1024_d0 : Shape.Concatenates [S512, S512] S1024 0

variable [Facts]

def fn_part1 {F : FTy → Type} [FloatOps F] (main_v18 : IVec S4x4224x1024 1) (main_v20 : FVec F S1024 .f32) : IVec S4x4224x1024 1 :=
  let main_cst_2 : FVec F S_ .f32 := constant S_ .f32 0x7F800000#32
  let main_v21 : FVec F S1024 .f32 := broadcastInDim S1024 ![] bcast_S_S1024 main_cst_2
  let main_v22 : IVec S1024 1 := cmpf .olt main_v20 main_v21
  let main_v23 : IVec S1x1x1024 1 := broadcastInDim S1x1x1024 ![2] bcast_S1024_S1x1x1024_2 main_v22
  let main_v24 : IVec S4x4224x1024 1 := broadcastInDim S4x4224x1024 ![0, 1, 2] bcast_S1x1x1024_S4x4224x1024_0_1_2 main_v23
  let main_v25 : IVec S4x4224x1024 1 := andi main_v18 main_v24
  main_v25

def fn {F : FTy → Type} [FloatOps F] (main_arg0 : FVec F S4x4224x1792 .f32) (main_arg1 : FVec F S1792 .f32) (main_arg2 : FVec F S512 .f32) (main_arg3 : FVec F S64x512 .f32) (main_arg4 : FVec F S512 .f32) (main_arg5 : FVec F S64x512 .f32) (main_arg6 : FVec F S128x512 .f32) (main_arg7 : FVec F S512 .f32) (main_arg8 : FVec F S512 .f32) (main_arg9 : FVec F S8x64 .f32) : IVec S4x4224x1024 1 :=
  let main_v0 : FVec F S512 .f32 := shapeCast S512 main_arg9 shapeCasts_S8x64_S512
  let main_v1 : FVec F S4x4224x1024 .f32 := (extractStridedSlice S4x4224x1024 ![0, 0, 0] · slices_S4x4224x1792_S4x4224x1024_0_0_0) main_arg0
  let main_v2 : FVec F S4x4224x1024 .f32 := Host.absf main_v1
  let main_cst : FVec F S_ .f32 := constant S_ .f32 0x7F800000#32
  let main_v3 : FVec F S4x4224x1024 .f32 := broadcastInDim S4x4224x1024 ![] bcast_S_S4x4224x1024 main_cst
  let main_v4 : IVec S4x4224x1024 1 := cmpf .olt main_v2 main_v3
  let main_v5 : FVec F S1024 .f32 := (extractStridedSlice S1024 ![0] · slices_S1792_S1024_0) main_arg1
  let main_v6 : FVec F S1024 .f32 := Host.absf main_v5
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_v9 : IVec S1x1x1024 1 := broadcastInDim S1x1x1024 ![2] bcast_S1024_S1x1x1024_2 main_v8
  let main_v10 : IVec S4x4224x1024 1 := broadcastInDim S4x4224x1024 ![0, 1, 2] bcast_S1x1x1024_S4x4224x1024_0_1_2 main_v9
  let main_v11 : IVec S4x4224x1024 1 := andi main_v4 main_v10
  let main_v12 : FVec F S1024 .f32 := (fun a b => concatenate S1024 0 [⟨S512, a⟩, ⟨S512, b⟩] concatenates_S512_S512_S1024_d0) main_arg7 main_arg8
  let main_v13 : FVec F S1024 .f32 := Host.absf main_v12
  let main_cst_1 : FVec F S_ .f32 := constant S_ .f32 0x7F800000#32
  let main_v14 : FVec F S1024 .f32 := broadcastInDim S1024 ![] bcast_S_S1024 main_cst_1
  let main_v15 : IVec S1024 1 := cmpf .olt main_v13 main_v14
  let main_v16 : IVec S1x1x1024 1 := broadcastInDim S1x1x1024 ![2] bcast_S1024_S1x1x1024_2 main_v15
  let main_v17 : IVec S4x4224x1024 1 := broadcastInDim S4x4224x1024 ![0, 1, 2] bcast_S1x1x1024_S4x4224x1024_0_1_2 main_v16
  let main_v18 : IVec S4x4224x1024 1 := andi main_v11 main_v17
  let main_v19 : FVec F S1024 .f32 := (fun a b => concatenate S1024 0 [⟨S512, a⟩, ⟨S512, b⟩] concatenates_S512_S512_S1024_d0) main_v0 main_v0
  let main_v20 : FVec F S1024 .f32 := Host.absf main_v19
  fn_part1 (F := F) main_v18 main_v20
-- ==== Pre_finite_router.lean ====
abbrev S4x4224x1024 : Shape := ⟨3, ![4, 4224, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩

class Facts : Prop where
  bcast_S_S1024x16 : S_.BroadcastsInDim S1024x16 (![] : Fin 0 → Fin S1024x16.rank)

variable [Facts]

def fn {F : FTy → Type} [FloatOps F] (main_arg0 : FVec F S4x4224x1024 .f32) (main_arg1 : FVec F S1024x16 .f32) (main_arg2 : FVec F S16 .f32) (main_arg3 : FVec F S16x1024x512 .f32) (main_arg4 : FVec F S16x1024x512 .f32) (main_arg5 : FVec F S16x512x1024 .f32) (main_arg6 : FVec F S1024 .f32) (main_arg7 : FVec F S1024 .f32) : IVec S1024x16 1 :=
  let main_v0 : FVec F S1024x16 .f32 := Host.absf main_arg1
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  main_v2
-- ==== Pre_finite_scan.lean ====
abbrev S4x4224x1024 : Shape := ⟨3, ![4, 4224, 1024]⟩
abbrev S4x4224x512 : Shape := ⟨3, ![4, 4224, 512]⟩
abbrev S4x4224x2048 : Shape := ⟨3, ![4, 4224, 2048]⟩
abbrev S2048 : Shape := ⟨1, ![2048]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S4x4224x512 : S_.BroadcastsInDim S4x4224x512 (![] : Fin 0 → Fin S4x4224x512.rank)

variable [Facts]

def fn {F : FTy → Type} [FloatOps F] (main_arg0 : FVec F S4x4224x1024 .f32) (main_arg1 : FVec F S4x4224x512 .bf16) (main_arg2 : FVec F S4x4224x512 .f32) (main_arg3 : FVec F S4x4224x512 .f32) (main_arg4 : FVec F S4x4224x512 .f32) (main_arg5 : FVec F S4x4224x2048 .bf16) (main_arg6 : FVec F S2048 .f32) (main_arg7 : FVec F S512 .f32) (main_arg8 : FVec F S512 .f32) (main_arg9 : FVec F S512x1024 .f32) (main_arg10 : FVec F S512x1024 .f32) (main_arg11 : FVec F S1024x1024 .f32) (main_arg12 : FVec F S1024 .f32) (main_arg13 : FVec F S1024 .f32) : IVec S4x4224x512 1 :=
  let main_v0 : FVec F S4x4224x512 .f32 := Host.absf main_arg2
  let main_cst : FVec F S_ .f32 := constant S_ .f32 0x7F800000#32
  let main_v1 : FVec F S4x4224x512 .f32 := broadcastInDim S4x4224x512 ![] bcast_S_S4x4224x512 main_cst
  let main_v2 : IVec S4x4224x512 1 := cmpf .olt main_v0 main_v1
  main_v2
-- ==== Kernel.lean ====
abbrev S4x4224x1024 : Shape := ⟨3, ![4, 4224, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S16x1024 : Shape := ⟨2, ![16, 1024]⟩
abbrev S16896x1024 : Shape := ⟨2, ![16896, 1024]⟩
abbrev S16x1 : Shape := ⟨2, ![16, 1]⟩
abbrev S1x1024 : Shape := ⟨2, ![1, 1024]⟩
abbrev S1536x1024 : Shape := ⟨2, ![1536, 1024]⟩
abbrev S1x1024x512 : Shape := ⟨3, ![1, 1024, 512]⟩
abbrev S1x512x1024 : Shape := ⟨3, ![1, 512, 1024]⟩
abbrev S1536x128 : Shape := ⟨2, ![1536, 128]⟩
abbrev S16x1536 : Shape := ⟨2, ![16, 1536]⟩
abbrev S1x1536 : Shape := ⟨2, ![1, 1536]⟩
abbrev S112x1536 : Shape := ⟨2, ![112, 1536]⟩
abbrev S128x1536 : Shape := ⟨2, ![128, 1536]⟩
abbrev S1024x512 : Shape := ⟨2, ![1024, 512]⟩
abbrev S1536x512 : Shape := ⟨2, ![1536, 512]⟩
abbrev S512x1024 : Shape := ⟨2, ![512, 1024]⟩
abbrev S1536 : Shape := ⟨1, ![1536]⟩
abbrev S1536x1 : Shape := ⟨2, ![1536, 1]⟩

abbrev nBuf : Space → Nat
  | .hbm => 17
  | .vmem => 17
  | .smem => 0
  | _ => 0

abbrev bufTy : (tb : Table) → Fin (tcTables nBuf tb) → BufTy
  | .hbm, ⟨0, _⟩ => ⟨S4x4224x1024, .f32⟩
  | .hbm, ⟨1, _⟩ => ⟨S1024x16, .f32⟩
  | .hbm, ⟨2, _⟩ => ⟨S16, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S1024, .f32⟩
  | .hbm, ⟨8, _⟩ => ⟨S16x1024, .f32⟩
  | .hbm, ⟨9, _⟩ => ⟨S16896x1024, .f32⟩
  | .hbm, ⟨10, _⟩ => ⟨S16x1024x512, .bf16⟩
  | .hbm, ⟨11, _⟩ => ⟨S16x1024x512, .bf16⟩
  | .hbm, ⟨12, _⟩ => ⟨S16x512x1024, .bf16⟩
  | .hbm, ⟨13, _⟩ => ⟨S16x1, .f32⟩
  | .hbm, ⟨14, _⟩ => ⟨S1x1024, .f32⟩
  | .hbm, ⟨15, _⟩ => ⟨S1x1024, .f32⟩
  | .hbm, ⟨16, _⟩ => ⟨S16896x1024, .f32⟩
  | .local _ .vmem, ⟨0, _⟩ => ⟨S1536x1024, .f32⟩
  | .local _ .vmem, ⟨1, _⟩ => ⟨S1536x1024, .f32⟩
  | .local _ .vmem, ⟨2, _⟩ => ⟨S16x1024, .f32⟩
  | .local _ .vmem, ⟨3, _⟩ => ⟨S16x1, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024, .f32⟩
  | .local _ .vmem, ⟨11, _⟩ => ⟨S1x1024, .f32⟩
  | .local _ .vmem, ⟨12, _⟩ => ⟨S1536x1024, .f32⟩
  | .local _ .vmem, ⟨13, _⟩ => ⟨S1536x1024, .f32⟩
  | .local _ .vmem, ⟨14, _⟩ => ⟨S1536x1024, .bf16⟩
  | .local _ .vmem, ⟨15, _⟩ => ⟨S1536x128, .f32⟩
  | .local _ .vmem, ⟨16, _⟩ => ⟨S1536x1024, .f32⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![11, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1536x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x4224x1024 : Shape := ⟨3, ![4, 4224, 1024]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S16896x1024 : Shape := ⟨2, ![16896, 1024]⟩
abbrev S16896x16 : Shape := ⟨2, ![16896, 16]⟩
abbrev S_ : Shape := ⟨0, ![]⟩
abbrev S1x16 : Shape := ⟨2, ![1, 16]⟩
abbrev S16896x4x4 : Shape := ⟨3, ![16896, 4, 4]⟩
abbrev S16896x4x2 : Shape := ⟨3, ![16896, 4, 2]⟩
abbrev S16896x4 : Shape := ⟨2, ![16896, 4]⟩
abbrev S16896x1 : Shape := ⟨2, ![16896, 1]⟩
abbrev S16896 : Shape := ⟨1, ![16896]⟩
abbrev S16896x2 : Shape := ⟨2, ![16896, 2]⟩
abbrev S16896x2x1 : Shape := ⟨3, ![16896, 2, 1]⟩
abbrev S1 : Shape := ⟨1, ![1]⟩
abbrev S1x1x1 : Shape := ⟨3, ![1, 1, 1]⟩
abbrev S1x1x16 : Shape := ⟨3, ![1, 1, 16]⟩
abbrev S16896x2x16 : Shape := ⟨3, ![16896, 2, 16]⟩
abbrev S16x512x16896 : Shape := ⟨3, ![16, 512, 16896]⟩
abbrev S16x16896x512 : Shape := ⟨3, ![16, 16896, 512]⟩
abbrev S16x16896x1024 : Shape := ⟨3, ![16, 16896, 1024]⟩
abbrev S1x1024 : Shape := ⟨2, ![1, 1024]⟩

abbrev nBuf : Space → Nat
  | .hbm => 143
  | .vmem => 0
  | .smem => 0
  | _ => 0

abbrev hbmTy0_0 (i : Nat) : BufTy := match i % 128 with
  | 0 => ⟨S4x4224x1024, .f32⟩
  | 1 => ⟨S1024x16, .f32⟩
  | 2 => ⟨S16, .f32⟩
  | 3 => ⟨S16x1024x512, .f32⟩
  | 4 => ⟨S16x1024x512, .f32⟩
  | 5 => ⟨S16x512x1024, .f32⟩
  | 6 => ⟨S1024, .f32⟩
  | 7 => ⟨S1024, .f32⟩
  | 8 => ⟨S16896x1024, .f32⟩
  | 9 => ⟨S16896x16, .f32⟩
  | 10 => ⟨S16896x16, .f32⟩
  | 11 => ⟨S16896x16, .f32⟩
  | 12 => ⟨S_, .f32⟩
  | 13 => ⟨S16896x16, .f32⟩
  | 14 => ⟨S16896x16, .f32⟩
  | 15 => ⟨S_, .f32⟩
  | 16 => ⟨S16896x16, .f32⟩
  | 17 => ⟨S16896x16, .f32⟩
  | 18 => ⟨S1x16, .f32⟩
  | 19 => ⟨S16896x16, .f32⟩
  | 20 => ⟨S16896x16, .f32⟩
  | 21 => ⟨S16896x4x4, .f32⟩
  | 22 => ⟨S16896x4x2, .f32⟩
  | 23 => ⟨S16896x4x2, .i32⟩
  | 24 => ⟨S_, .f32⟩
  | 25 => ⟨S16896x4, .f32⟩
  | 26 => ⟨S16896x1, .f32⟩
  | 27 => ⟨S16896x1, .i32⟩
  | 28 => ⟨S16896, .i32⟩
  | 29 => ⟨S16896, .i32⟩
  | 30 => ⟨S_, .i32⟩
  | 31 => ⟨S16896, .i32⟩
  | 32 => ⟨S16896, .i1⟩
  | 33 => ⟨S_, .i32⟩
  | 34 => ⟨S16896, .i32⟩
  | 35 => ⟨S16896, .i32⟩
  | 36 => ⟨S16896, .i32⟩
  | 37 => ⟨S_, .i32⟩
  | 38 => ⟨S16896, .i32⟩
  | 39 => ⟨S16896, .i1⟩
  | 40 => ⟨S_, .i32⟩
  | 41 => ⟨S16896, .i32⟩
  | 42 => ⟨S16896, .i32⟩
  | 43 => ⟨S16896, .i32⟩
  | 44 => ⟨S16896x1, .i32⟩
  | 45 => ⟨S16896x1, .i32⟩
  | 46 => ⟨S16896x2, .i32⟩
  | 47 => ⟨S16896x4, .f32⟩
  | 48 => ⟨S16896x2, .f32⟩
  | 49 => ⟨S16896x2, .i32⟩
  | 50 => ⟨S16896x1, .i32⟩
  | 51 => ⟨S_, .i32⟩
  | 52 => ⟨S16896x1, .i32⟩
  | 53 => ⟨S16896x1, .i32⟩
  | 54 => ⟨S16896x2, .i32⟩
  | 55 => ⟨S16896x2, .i32⟩
  | 56 => ⟨S_, .i32⟩
  | 57 => ⟨S16896x2, .i32⟩
  | 58 => ⟨S16896x2, .i1⟩
  | 59 => ⟨S_, .i32⟩
  | 60 => ⟨S16896x2, .i32⟩
  | 61 => ⟨S16896x2, .i32⟩
  | 62 => ⟨S16896x2, .i32⟩
  | 63 => ⟨S16896x2x1, .i32⟩
  | 64 => ⟨S1, .i32⟩
  | 65 => ⟨S_, .i32⟩
  | 66 => ⟨S16896x2x1, .i32⟩
  | 67 => ⟨S16896x2x1, .i1⟩
  | 68 => ⟨S1x1x1, .i32⟩
  | 69 => ⟨S16896x2x1, .i32⟩
  | 70 => ⟨S16896x2x1, .i1⟩
  | 71 => ⟨S16896x2x1, .i1⟩
  | 72 => ⟨S_, .i1⟩
  | 73 => ⟨S16896x2, .i1⟩
  | 74 => ⟨S16896x2, .f32⟩
  | 75 => ⟨S_, .f32⟩
  | 76 => ⟨S16896x2, .f32⟩
  | 77 => ⟨S16896x2, .f32⟩
  | 78 => ⟨S_, .f32⟩
  | 79 => ⟨S16896, .f32⟩
  | 80 => ⟨S16896x1, .f32⟩
  | 81 => ⟨S16896x2, .f32⟩
  | 82 => ⟨S16896x2, .f32⟩
  | 83 => ⟨S16896x2x1, .i32⟩
  | 84 => ⟨S1x1x16, .i32⟩
  | 85 => ⟨S16896x2x16, .i32⟩
  | 86 => ⟨S16896x2x16, .i32⟩
  | 87 => ⟨S16896x2x16, .i1⟩
  | 88 => ⟨S16896x2x16, .f32⟩
  | 89 => ⟨S16896x2x1, .f32⟩
  | 90 => ⟨S16896x2x16, .f32⟩
  | 91 => ⟨S16896x2x16, .f32⟩
  | 92 => ⟨S_, .f32⟩
  | 93 => ⟨S16896x16, .f32⟩
  | 94 => ⟨S16x512x16896, .f32⟩
  | 95 => ⟨S16x16896x512, .f32⟩
  | 96 => ⟨S16x16896x512, .f32⟩
  | 97 => ⟨S16x16896x512, .f32⟩
  | 98 => ⟨S_, .f32⟩
  | 99 => ⟨S16x16896x512, .f32⟩
  | 100 => ⟨S16x16896x512, .f32⟩
  | 101 => ⟨S_, .f32⟩
  | 102 => ⟨S16x16896x512, .f32⟩
  | 103 => ⟨S16x16896x512, .f32⟩
  | 104 => ⟨S16x16896x512, .f32⟩
  | 105 => ⟨S16x512x16896, .f32⟩
  | 106 => ⟨S16x16896x512, .f32⟩
  | 107 => ⟨S16x16896x512, .f32⟩
  | 108 => ⟨S16x16896x1024, .f32⟩
  | 109 => ⟨S16896x1024, .f32⟩
  | 110 => ⟨S_, .f32⟩
  | 111 => ⟨S16896x1024, .f32⟩
  | 112 => ⟨S16896x1024, .f32⟩
  | 113 => ⟨S16896x1024, .f32⟩
  | 114 => ⟨S_, .f32⟩
  | 115 => ⟨S16896, .f32⟩
  | 116 => ⟨S16896x1, .f32⟩
  | 117 => ⟨S_, .f32⟩
  | 118 => ⟨S16896x1, .f32⟩
  | 119 => ⟨S16896x1, .f32⟩
  | 120 => ⟨S16896x1024, .f32⟩
  | 121 => ⟨S16896x1024, .f32⟩
  | 122 => ⟨S16896x1024, .f32⟩
  | 123 => ⟨S_, .f32⟩
  | 124 => ⟨S16896, .f32⟩
  | 125 => ⟨S16896x1, .f32⟩
  | 126 => ⟨S_, .f32⟩
  | 127 => ⟨S16896x1, .f32⟩
  | _ => ⟨S4x4224x1024, .f32⟩

abbrev hbmTy0_1 (i : Nat) : BufTy := match i % 128 with
  | 0 => ⟨S16896x1, .f32⟩
  | 1 => ⟨S16896x1024, .f32⟩
  | 2 => ⟨S16896x1024, .f32⟩
  | 3 => ⟨S_, .f32⟩
  | 4 => ⟨S16896x1, .f32⟩
  | 5 => ⟨S16896x1, .f32⟩
  | 6 => ⟨S16896x1, .f32⟩
  | 7 => ⟨S16896x1024, .f32⟩
  | 8 => ⟨S16896x1024, .f32⟩
  | 9 => ⟨S1x1024, .f32⟩
  | 10 => ⟨S16896x1024, .f32⟩
  | 11 => ⟨S16896x1024, .f32⟩
  | 12 => ⟨S1x1024, .f32⟩
  | 13 => ⟨S16896x1024, .f32⟩
  | 14 => ⟨S16896x1024, .f32⟩
  | _ => ⟨S4x4224x1024, .f32⟩

abbrev hbmTy (i : Nat) : BufTy := match i / 128 with
  | 0 => hbmTy0_0 i
  | 1 => hbmTy0_1 i
  | _ => ⟨S4x4224x1024, .f32⟩

abbrev bufTy : (tb : Table) → Fin (tcTables nBuf tb) → BufTy
  | .hbm, ⟨i, _⟩ => hbmTy i
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_values : Ref sig .tc := ⟨.hbm, 22, rfl⟩
abbrev main_indices : Ref sig .tc := ⟨.hbm, 23, rfl⟩
abbrev main_cst_1 : Ref sig .tc := ⟨.hbm, 24, rfl⟩
abbrev main_v12 : Ref sig .tc := ⟨.hbm, 25, rfl⟩
abbrev main_values_2 : Ref sig .tc := ⟨.hbm, 26, rfl⟩
abbrev main_indices_3 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_values_7 : Ref sig .tc := ⟨.hbm, 48, rfl⟩
abbrev main_indices_8 : Ref sig .tc := ⟨.hbm, 49, rfl⟩
abbrev main_v29 : Ref sig .tc := ⟨.hbm, 50, rfl⟩
abbrev main_c_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_cst : Ref sig .tc := ⟨.hbm, 75, rfl⟩
abbrev main_call0_v14 : Ref sig .tc := ⟨.hbm, 76, rfl⟩
abbrev main_v34 : Ref sig .tc := ⟨.hbm, 77, rfl⟩
abbrev main_cst_10 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_11 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_cst_12 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_13 : Ref sig .tc := ⟨.hbm, 114, rfl⟩
abbrev main_v55 : Ref sig .tc := ⟨.hbm, 115, rfl⟩
abbrev main_v56 : Ref sig .tc := ⟨.hbm, 116, rfl⟩
abbrev main_cst_14 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_cst_15 : Ref sig .tc := ⟨.hbm, 123, rfl⟩
abbrev main_v62 : Ref sig .tc := ⟨.hbm, 124, rfl⟩
abbrev main_v63 : Ref sig .tc := ⟨.hbm, 125, rfl⟩
abbrev main_cst_16 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_17 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩

abbrev nD : Nat := 1
abbrev τ : Topo := Topo.v7x

variable {F : FTy → Type} [FloatOps F]
-- ==== Kernel2.lean ====
abbrev S4x4224x1024 : Shape := ⟨3, ![4, 4224, 1024]⟩
abbrev S1024x4904 : Shape := ⟨2, ![1024, 4904]⟩
abbrev S1024x512 : Shape := ⟨2, ![1024, 512]⟩
abbrev S1024x128 : Shape := ⟨2, ![1024, 128]⟩
abbrev S1024x256 : Shape := ⟨2, ![1024, 256]⟩
abbrev S1024x40 : Shape := ⟨2, ![1024, 40]⟩
abbrev S_ : Shape := ⟨0, ![]⟩
abbrev S1024x88 : Shape := ⟨2, ![1024, 88]⟩
abbrev S1024x1152 : Shape := ⟨2, ![1024, 1152]⟩
abbrev S1024x1792 : Shape := ⟨2, ![1024, 1792]⟩
abbrev S1024x2048 : Shape := ⟨2, ![1024, 2048]⟩
abbrev S16896x1024 : Shape := ⟨2, ![16896, 1024]⟩
abbrev S16896x1152 : Shape := ⟨2, ![16896, 1152]⟩
abbrev S16896x128 : Shape := ⟨2, ![16896, 128]⟩
abbrev S16896x1792 : Shape := ⟨2, ![16896, 1792]⟩
abbrev S16896x2048 : Shape := ⟨2, ![16896, 2048]⟩
abbrev S256x1024 : Shape := ⟨2, ![256, 1024]⟩
abbrev S256x1152 : Shape := ⟨2, ![256, 1152]⟩
abbrev S256x128 : Shape := ⟨2, ![256, 128]⟩
abbrev S256x1792 : Shape := ⟨2, ![256, 1792]⟩
abbrev S256x2048 : Shape := ⟨2, ![256, 2048]⟩

abbrev nBuf : Space → Nat
  | .hbm => 20
  | .vmem => 13
  | .smem => 0
  | _ => 0

abbrev bufTy : (tb : Table) → Fin (tcTables nBuf tb) → BufTy
  | .hbm, ⟨0, _⟩ => ⟨S4x4224x1024, .f32⟩
  | .hbm, ⟨1, _⟩ => ⟨S1024x4904, .f32⟩
  | .hbm, ⟨2, _⟩ => ⟨S1024x512, .f32⟩
  | .hbm, ⟨3, _⟩ => ⟨S1024x128, .f32⟩
  | .hbm, ⟨4, _⟩ => ⟨S1024x128, .f32⟩
  | .hbm, ⟨5, _⟩ => ⟨S1024x256, .f32⟩
  | .hbm, ⟨6, _⟩ => ⟨S1024x40, .f32⟩
  | .hbm, ⟨7, _⟩ => ⟨S_, .f32⟩
  | .hbm, ⟨8, _⟩ => ⟨S1024x88, .f32⟩
  | .hbm, ⟨9, _⟩ => ⟨S1024x1152, .f32⟩
  | .hbm, ⟨10, _⟩ => ⟨S1024x1792, .f32⟩
  | .hbm, ⟨11, _⟩ => ⟨S1024x2048, .f32⟩
  | .hbm, ⟨12, _⟩ => ⟨S1024x1152, .bf16⟩
  | .hbm, ⟨13, _⟩ => ⟨S1024x1792, .bf16⟩
  | .hbm, ⟨14, _⟩ => ⟨S1024x2048, .bf16⟩
  | .hbm, ⟨15, _⟩ => ⟨S16896x1024, .f32⟩
  | .hbm, ⟨16, _⟩ => ⟨S16896x1152, .bf16⟩
  | .hbm, ⟨17, _⟩ => ⟨S16896x128, .f32⟩
  | .hbm, ⟨18, _⟩ => ⟨S16896x1792, .f32⟩
  | .hbm, ⟨19, _⟩ => ⟨S16896x2048, .bf16⟩
  | .local _ .vmem, ⟨0, _⟩ => ⟨S256x1024, .f32⟩
  | .local _ .vmem, ⟨1, _⟩ => ⟨S256x1024, .f32⟩
  | .local _ .vmem, ⟨2, _⟩ => ⟨S1024x1152, .bf16⟩
  | .local _ .vmem, ⟨3, _⟩ => ⟨S1024x1792, .bf16⟩
  | .local _ .vmem, ⟨4, _⟩ => ⟨S1024x2048, .bf16⟩
  | .local _ .vmem, ⟨5, _⟩ => ⟨S256x1152, .bf16⟩
  | .local _ .vmem, ⟨6, _⟩ => ⟨S256x1152, .bf16⟩
  | .local _ .vmem, ⟨7, _⟩ => ⟨S256x128, .f32⟩
  | .local _ .vmem, ⟨8, _⟩ => ⟨S256x128, .f32⟩
  | .local _ .vmem, ⟨9, _⟩ => ⟨S256x1792, .f32⟩
  | .local _ .vmem, ⟨10, _⟩ => ⟨S256x1792, .f32⟩
  | .local _ .vmem, ⟨11, _⟩ => ⟨S256x2048, .bf16⟩
  | .local _ .vmem, ⟨12, _⟩ => ⟨S256x2048, .bf16⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev main_v13_2 : Ref sig .tc := ⟨.hbm, 18, rfl⟩
abbrev main_v13_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x4224x1024 : Shape := ⟨3, ![4, 4224, 1024]⟩
abbrev S1024x4904 : Shape := ⟨2, ![1024, 4904]⟩
abbrev S16896x1024 : Shape := ⟨2, ![16896, 1024]⟩
abbrev S16896x4904 : Shape := ⟨2, ![16896, 4904]⟩
abbrev S16896x512 : Shape := ⟨2, ![16896, 512]⟩
abbrev S16896x128 : Shape := ⟨2, ![16896, 128]⟩
abbrev S16896x256 : Shape := ⟨2, ![16896, 256]⟩
abbrev S16896x32 : Shape := ⟨2, ![16896, 32]⟩
abbrev S16896x8 : Shape := ⟨2, ![16896, 8]⟩
abbrev S16896x1792 : Shape := ⟨2, ![16896, 1792]⟩
abbrev S16896x2048 : Shape := ⟨2, ![16896, 2048]⟩
abbrev S_ : Shape := ⟨0, ![]⟩
abbrev S16896x88 : Shape := ⟨2, ![16896, 88]⟩
abbrev S16896x1152 : Shape := ⟨2, ![16896, 1152]⟩

abbrev nBuf : Space → Nat
  | .hbm => 18
  | .vmem => 0
  | .smem => 0
  | _ => 0

abbrev bufTy : (tb : Table) → Fin (tcTables nBuf tb) → BufTy
  | .hbm, ⟨0, _⟩ => ⟨S4x4224x1024, .f32⟩
  | .hbm, ⟨1, _⟩ => ⟨S1024x4904, .f32⟩
  | .hbm, ⟨2, _⟩ => ⟨S16896x1024, .f32⟩
  | .hbm, ⟨3, _⟩ => ⟨S16896x4904, .f32⟩
  | .hbm, ⟨4, _⟩ => ⟨S16896x512, .f32⟩
  | .hbm, ⟨5, _⟩ => ⟨S16896x128, .f32⟩
  | .hbm, ⟨6, _⟩ => ⟨S16896x128, .f32⟩
  | .hbm, ⟨7, _⟩ => ⟨S16896x256, .f32⟩
  | .hbm, ⟨8, _⟩ => ⟨S16896x32, .f32⟩
  | .hbm, ⟨9, _⟩ => ⟨S16896x8, .f32⟩
  | .hbm, ⟨10, _⟩ => ⟨S16896x1792, .f32⟩
  | .hbm, ⟨11, _⟩ => ⟨S16896x2048, .f32⟩
  | .hbm, ⟨12, _⟩ => ⟨S_, .f32⟩
  | .hbm, ⟨13, _⟩ => ⟨S16896x88, .f32⟩
  | .hbm, ⟨14, _⟩ => ⟨S16896x128, .f32⟩
  | .hbm, ⟨15, _⟩ => ⟨S16896x1152, .f32⟩
  | .hbm, ⟨16, _⟩ => ⟨S16896x1152, .bf16⟩
  | .hbm, ⟨17, _⟩ => ⟨S16896x2048, .bf16⟩
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel3.lean ====
abbrev S4x4224x1024 : Shape := ⟨3, ![4, 4224, 1024]⟩
abbrev S4x4224x512 : Shape := ⟨3, ![4, 4224, 512]⟩
abbrev S4x4224x2048 : Shape := ⟨3, ![4, 4224, 2048]⟩
abbrev S2048 : Shape := ⟨1, ![2048]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S16896x1024 : Shape := ⟨2, ![16896, 1024]⟩
abbrev S16896x512 : Shape := ⟨2, ![16896, 512]⟩
abbrev S16896x2048 : Shape := ⟨2, ![16896, 2048]⟩
abbrev S512x512 : Shape := ⟨2, ![512, 512]⟩
abbrev S_ : Shape := ⟨0, ![]⟩
abbrev S1x2048 : Shape := ⟨2, ![1, 2048]⟩
abbrev S1x512 : Shape := ⟨2, ![1, 512]⟩
abbrev S1x1024 : Shape := ⟨2, ![1, 1024]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 74
  | .vmem => 23
  | .smem => 0
  | _ => 0

abbrev bufTy : (tb : Table) → Fin (tcTables nBuf tb) → BufTy
  | .hbm, ⟨0, _⟩ => ⟨S4x4224x1024, .f32⟩
  | .hbm, ⟨1, _⟩ => ⟨S4x4224x512, .bf16⟩
  | .hbm, ⟨2, _⟩ => ⟨S4x4224x512, .f32⟩
  | .hbm, ⟨3, _⟩ => ⟨S4x4224x512, .f32⟩
  | .hbm, ⟨4, _⟩ => ⟨S4x4224x512, .f32⟩
  | .hbm, ⟨5, _⟩ => ⟨S4x4224x2048, .bf16⟩
  | .hbm, ⟨6, _⟩ => ⟨S2048, .f32⟩
  | .hbm, ⟨7, _⟩ => ⟨S512, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S16896x1024, .f32⟩
  | .hbm, ⟨15, _⟩ => ⟨S16896x512, .bf16⟩
  | .hbm, ⟨16, _⟩ => ⟨S16896x512, .f32⟩
  | .hbm, ⟨17, _⟩ => ⟨S16896x512, .f32⟩
  | .hbm, ⟨18, _⟩ => ⟨S16896x512, .f32⟩
  | .hbm, ⟨19, _⟩ => ⟨S16896x2048, .bf16⟩
  | .hbm, ⟨20, _⟩ => ⟨S512x512, .i32⟩
  | .hbm, ⟨21, _⟩ => ⟨S_, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i1⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i1⟩
  | .hbm, ⟨34, _⟩ => ⟨S512x512, .i1⟩
  | .hbm, ⟨35, _⟩ => ⟨S_, .i32⟩
  | .hbm, ⟨36, _⟩ => ⟨S512x512, .i32⟩
  | .hbm, ⟨37, _⟩ => ⟨S512x512, .i32⟩
  | .hbm, ⟨38, _⟩ => ⟨S512x512, .i32⟩
  | .hbm, ⟨39, _⟩ => ⟨S512x512, .i32⟩
  | .hbm, ⟨40, _⟩ => ⟨S_, .i32⟩
  | .hbm, ⟨41, _⟩ => ⟨S_, .i32⟩
  | .hbm, ⟨42, _⟩ => ⟨S512x512, .i32⟩
  | .hbm, ⟨43, _⟩ => ⟨S512x512, .i32⟩
  | .hbm, ⟨44, _⟩ => ⟨S512x512, .i32⟩
  | .hbm, ⟨45, _⟩ => ⟨S_, .i32⟩
  | .hbm, ⟨46, _⟩ => ⟨S512x512, .i32⟩
  | .hbm, ⟨47, _⟩ => ⟨S512x512, .i1⟩
  | .hbm, ⟨48, _⟩ => ⟨S512x512, .i32⟩
  | .hbm, ⟨49, _⟩ => ⟨S512x512, .i32⟩
  | .hbm, ⟨50, _⟩ => ⟨S_, .i32⟩
  | .hbm, ⟨51, _⟩ => ⟨S512x512, .i32⟩
  | .hbm, ⟨52, _⟩ => ⟨S512x512, .i1⟩
  | .hbm, ⟨53, _⟩ => ⟨S512x512, .i1⟩
  | .hbm, ⟨54, _⟩ => ⟨S_, .i32⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S_, .f32⟩
  | .hbm, ⟨60, _⟩ => ⟨S_, .f32⟩
  | .hbm, ⟨61, _⟩ => ⟨S512x512, .f32⟩
  | .hbm, ⟨62, _⟩ => ⟨S512x512, .f32⟩
  | .hbm, ⟨63, _⟩ => ⟨S512x512, .f32⟩
  | .hbm, ⟨64, _⟩ => ⟨S512x512, .bf16⟩
  | .hbm, ⟨65, _⟩ => ⟨S1x2048, .f32⟩
  | .hbm, ⟨66, _⟩ => ⟨S1x512, .f32⟩
  | .hbm, ⟨67, _⟩ => ⟨S1x512, .f32⟩
  | .hbm, ⟨68, _⟩ => ⟨S512x1024, .bf16⟩
  | .hbm, ⟨69, _⟩ => ⟨S512x1024, .bf16⟩
  | .hbm, ⟨70, _⟩ => ⟨S1024x1024, .bf16⟩
  | .hbm, ⟨71, _⟩ => ⟨S1x1024, .f32⟩
  | .hbm, ⟨72, _⟩ => ⟨S1x1024, .f32⟩
  | .hbm, ⟨73, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v7 : Ref sig .tc := ⟨.hbm, 38, rfl⟩
abbrev main_v8 : Ref sig .tc := ⟨.hbm, 39, rfl⟩
abbrev main_c_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v9 : Ref sig .tc := ⟨.hbm, 57, rfl⟩
abbrev main_v10 : Ref sig .tc := ⟨.hbm, 58, rfl⟩
abbrev main_cst : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4x4224x1024 : Shape := ⟨3, ![4, 4224, 1024]⟩
abbrev S4x4224x512 : Shape := ⟨3, ![4, 4224, 512]⟩
abbrev S4x4224x2048 : Shape := ⟨3, ![4, 4224, 2048]⟩
abbrev S2048 : Shape := ⟨1, ![2048]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S16896x1024 : Shape := ⟨2, ![16896, 1024]⟩
abbrev S16896x512 : Shape := ⟨2, ![16896, 512]⟩
abbrev S16896x2048 : Shape := ⟨2, ![16896, 2048]⟩
abbrev S16896x8x64 : Shape := ⟨3, ![16896, 8, 64]⟩
abbrev S_ : Shape := ⟨0, ![]⟩
abbrev S16896x8 : Shape := ⟨2, ![16896, 8]⟩
abbrev S16896x8x1 : Shape := ⟨3, ![16896, 8, 1]⟩
abbrev S1x512 : Shape := ⟨2, ![1, 512]⟩
abbrev S1x2048 : Shape := ⟨2, ![1, 2048]⟩
abbrev S16896 : Shape := ⟨1, ![16896]⟩
abbrev S16896x1 : Shape := ⟨2, ![16896, 1]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4x4224x1024, .f32⟩
  | .hbm, ⟨1, _⟩ => ⟨S4x4224x512, .bf16⟩
  | .hbm, ⟨2, _⟩ => ⟨S4x4224x512, .f32⟩
  | .hbm, ⟨3, _⟩ => ⟨S4x4224x512, .f32⟩
  | .hbm, ⟨4, _⟩ => ⟨S4x4224x512, .f32⟩
  | .hbm, ⟨5, _⟩ => ⟨S4x4224x2048, .bf16⟩
  | .hbm, ⟨6, _⟩ => ⟨S2048, .f32⟩
  | .hbm, ⟨7, _⟩ => ⟨S512, .f32⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S16896x1024, .f32⟩
  | .hbm, ⟨15, _⟩ => ⟨S16896x512, .bf16⟩
  | .hbm, ⟨16, _⟩ => ⟨S16896x512, .f32⟩
  | .hbm, ⟨17, _⟩ => ⟨S16896x512, .f32⟩
  | .hbm, ⟨18, _⟩ => ⟨S16896x512, .f32⟩
  | .hbm, ⟨19, _⟩ => ⟨S16896x2048, .bf16⟩
  | .hbm, ⟨20, _⟩ => ⟨S16896x8x64, .f32⟩
  | .hbm, ⟨21, _⟩ => ⟨S_, .f32⟩
  | .hbm, ⟨22, _⟩ => ⟨S16896x8, .f32⟩
  | .hbm, ⟨23, _⟩ => ⟨S16896x8x1, .f32⟩
  | .hbm, ⟨24, _⟩ => ⟨S_, .f32⟩
  | .hbm, ⟨25, _⟩ => ⟨S16896x8x1, .f32⟩
  | .hbm, ⟨26, _⟩ => ⟨S16896x8x1, .f32⟩
  | .hbm, ⟨27, _⟩ => ⟨S16896x8x64, .f32⟩
  | .hbm, ⟨28, _⟩ => ⟨S16896x8x64, .f32⟩
  | .hbm, ⟨29, _⟩ => ⟨S16896x8x64, .f32⟩
  | .hbm, ⟨30, _⟩ => ⟨S_, .f32⟩
  | .hbm, ⟨31, _⟩ => ⟨S16896x8, .f32⟩
  | .hbm, ⟨32, _⟩ => ⟨S16896x8x1, .f32⟩
  | .hbm, ⟨33, _⟩ => ⟨S_, .f32⟩
  | .hbm, ⟨34, _⟩ => ⟨S16896x8x1, .f32⟩
  | .hbm, ⟨35, _⟩ => ⟨S16896x8x1, .f32⟩
  | .hbm, ⟨36, _⟩ => ⟨S16896x8x64, .f32⟩
  | .hbm, ⟨37, _⟩ => ⟨S16896x8x64, .f32⟩
  | .hbm, ⟨38, _⟩ => ⟨S_, .f32⟩
  | .hbm, ⟨39, _⟩ => ⟨S16896x8x1, .f32⟩
  | .hbm, ⟨40, _⟩ => ⟨S16896x8x1, .f32⟩
  | .hbm, ⟨41, _⟩ => ⟨S16896x8x1, .f32⟩
  | .hbm, ⟨42, _⟩ => ⟨S16896x8x64, .f32⟩
  | .hbm, ⟨43, _⟩ => ⟨S16896x8x64, .f32⟩
  | .hbm, ⟨44, _⟩ => ⟨S16896x512, .f32⟩
  | .hbm, ⟨45, _⟩ => ⟨S1x512, .f32⟩
  | .hbm, ⟨46, _⟩ => ⟨S16896x512, .f32⟩
  | .hbm, ⟨47, _⟩ => ⟨S16896x512, .f32⟩
  | .hbm, ⟨48, _⟩ => ⟨S1x512, .f32⟩
  | .hbm, ⟨49, _⟩ => ⟨S16896x512, .f32⟩
  | .hbm, ⟨50, _⟩ => ⟨S16896x512, .f32⟩
  | .hbm, ⟨51, _⟩ => ⟨S16896x512, .f32⟩
  | .hbm, ⟨52, _⟩ => ⟨S16896x512, .f32⟩
  | .hbm, ⟨53, _⟩ => ⟨S16896x2048, .f32⟩
  | .hbm, ⟨54, _⟩ => ⟨S1x2048, .f32⟩
  | .hbm, ⟨55, _⟩ => ⟨S16896x2048, .f32⟩
  | .hbm, ⟨56, _⟩ => ⟨S16896x2048, .f32⟩
  | .hbm, ⟨57, _⟩ => ⟨S16896x2048, .f32⟩
  | .hbm, ⟨58, _⟩ => ⟨S16896x2048, .f32⟩
  | .hbm, ⟨59, _⟩ => ⟨S_, .f32⟩
  | .hbm, ⟨60, _⟩ => ⟨S16896x2048, .f32⟩
  | .hbm, ⟨61, _⟩ => ⟨S16896x2048, .f32⟩
  | .hbm, ⟨62, _⟩ => ⟨S_, .f32⟩
  | .hbm, ⟨63, _⟩ => ⟨S16896x2048, .f32⟩
  | .hbm, ⟨64, _⟩ => ⟨S16896x2048, .f32⟩
  | .hbm, ⟨65, _⟩ => ⟨S16896x1024, .f32⟩
  | .hbm, ⟨66, _⟩ => ⟨S16896x1024, .f32⟩
  | .hbm, ⟨67, _⟩ => ⟨S16896x512, .f32⟩
  | .hbm, ⟨68, _⟩ => ⟨S16896x1024, .f32⟩
  | .hbm, ⟨69, _⟩ => ⟨S16896x1024, .f32⟩
  | .hbm, ⟨70, _⟩ => ⟨S16896x1024, .f32⟩
  | .hbm, ⟨71, _⟩ => ⟨S16896x1024, .f32⟩
  | .hbm, ⟨72, _⟩ => ⟨S16896x1024, .f32⟩
  | .hbm, ⟨73, _⟩ => ⟨S_, .f32⟩
  | .hbm, ⟨74, _⟩ => ⟨S16896x1024, .f32⟩
  | .hbm, ⟨75, _⟩ => ⟨S16896x1024, .f32⟩
  | .hbm, ⟨76, _⟩ => ⟨S16896x1024, .f32⟩
  | .hbm, ⟨77, _⟩ => ⟨S16896x1024, .f32⟩
  | .hbm, ⟨78, _⟩ => ⟨S_, .f32⟩
  | .hbm, ⟨79, _⟩ => ⟨S16896, .f32⟩
  | .hbm, ⟨80, _⟩ => ⟨S16896x1, .f32⟩
  | .hbm, ⟨81, _⟩ => ⟨S_, .f32⟩
  | .hbm, ⟨82, _⟩ => ⟨S16896x1, .f32⟩
  | .hbm, ⟨83, _⟩ => ⟨S16896x1, .f32⟩
  | .hbm, ⟨84, _⟩ => ⟨S16896x1024, .f32⟩
  | .hbm, ⟨85, _⟩ => ⟨S16896x1024, .f32⟩
  | .hbm, ⟨86, _⟩ => ⟨S16896x1024, .f32⟩
  | .hbm, ⟨87, _⟩ => ⟨S_, .f32⟩
  | .hbm, ⟨88, _⟩ => ⟨S16896, .f32⟩
  | .hbm, ⟨89, _⟩ => ⟨S16896x1, .f32⟩
  | .hbm, ⟨90, _⟩ => ⟨S_, .f32⟩
  | .hbm, ⟨91, _⟩ => ⟨S16896x1, .f32⟩
  | .hbm, ⟨92, _⟩ => ⟨S16896x1, .f32⟩
  | .hbm, ⟨93, _⟩ => ⟨S16896x1024, .f32⟩
  | .hbm, ⟨94, _⟩ => ⟨S16896x1024, .f32⟩
  | .hbm, ⟨95, _⟩ => ⟨S_, .f32⟩
  | .hbm, ⟨96, _⟩ => ⟨S16896x1, .f32⟩
  | .hbm, ⟨97, _⟩ => ⟨S16896x1, .f32⟩
  | .hbm, ⟨98, _⟩ => ⟨S16896x1, .f32⟩
  | .hbm, ⟨99, _⟩ => ⟨S16896x1024, .f32⟩
  | .hbm, ⟨100, _⟩ => ⟨S16896x1024, .f32⟩
  | .hbm, ⟨101, _⟩ => ⟨S1x1024, .f32⟩
  | .hbm, ⟨102, _⟩ => ⟨S16896x1024, .f32⟩
  | .hbm, ⟨103, _⟩ => ⟨S16896x1024, .f32⟩
  | .hbm, ⟨104, _⟩ => ⟨S1x1024, .f32⟩
  | .hbm, ⟨105, _⟩ => ⟨S16896x1024, .f32⟩
  | .hbm, ⟨106, _⟩ => ⟨S16896x1024, .f32⟩
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_11 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Kernel4.lean ====
abbrev S4x4096x1024 : Shape := ⟨3, ![4, 4096, 1024]⟩
abbrev S16x1024 : Shape := ⟨2, ![16, 1024]⟩
abbrev S1024 : Shape := ⟨1, ![1024]⟩
abbrev S1x16x1024 : Shape := ⟨3, ![1, 16, 1024]⟩
abbrev S4x16x1024 : Shape := ⟨3, ![4, 16, 1024]⟩
abbrev S_ : Shape := ⟨0, ![]⟩
abbrev S4x112x1024 : Shape := ⟨3, ![4, 112, 1024]⟩
abbrev S4x4224x1024 : Shape := ⟨3, ![4, 4224, 1024]⟩
abbrev S16896x1024 : Shape := ⟨2, ![16896, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x16x1024, .f32⟩
  | .hbm, ⟨5, _⟩ => ⟨S4x16x1024, .f32⟩
  | .hbm, ⟨6, _⟩ => ⟨S_, .f32⟩
  | .hbm, ⟨7, _⟩ => ⟨S4x112x1024, .f32⟩
  | .hbm, ⟨8, _⟩ => ⟨S4x4224x1024, .f32⟩
  | .hbm, ⟨9, _⟩ => ⟨S16896x1024, .f32⟩
  | .hbm, ⟨10, _⟩ => ⟨S1x1024, .f32⟩
  | .hbm, ⟨11, _⟩ => ⟨S1x1024, .f32⟩
  | .hbm, ⟨12, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x4096x1024 : Shape := ⟨3, ![4, 4096, 1024]⟩
abbrev S16x1024 : Shape := ⟨2, ![16, 1024]⟩
abbrev S1024 : Shape := ⟨1, ![1024]⟩
abbrev S1x16x1024 : Shape := ⟨3, ![1, 16, 1024]⟩
abbrev S4x16x1024 : Shape := ⟨3, ![4, 16, 1024]⟩
abbrev S_ : Shape := ⟨0, ![]⟩
abbrev S4x112x1024 : Shape := ⟨3, ![4, 112, 1024]⟩
abbrev S4x4224x1024 : Shape := ⟨3, ![4, 4224, 1024]⟩
abbrev S16896x1024 : Shape := ⟨2, ![16896, 1024]⟩
abbrev S16896 : Shape := ⟨1, ![16896]⟩
abbrev S16896x1 : Shape := ⟨2, ![16896, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x16x1024, .f32⟩
  | .hbm, ⟨5, _⟩ => ⟨S4x16x1024, .f32⟩
  | .hbm, ⟨6, _⟩ => ⟨S_, .f32⟩
  | .hbm, ⟨7, _⟩ => ⟨S4x112x1024, .f32⟩
  | .hbm, ⟨8, _⟩ => ⟨S4x4224x1024, .f32⟩
  | .hbm, ⟨9, _⟩ => ⟨S16896x1024, .f32⟩
  | .hbm, ⟨10, _⟩ => ⟨S_, .f32⟩
  | .hbm, ⟨11, _⟩ => ⟨S16896, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1024, .f32⟩
  | .hbm, ⟨17, _⟩ => ⟨S16896x1024, .f32⟩
  | .hbm, ⟨18, _⟩ => ⟨S16896x1024, .f32⟩
  | .hbm, ⟨19, _⟩ => ⟨S_, .f32⟩
  | .hbm, ⟨20, _⟩ => ⟨S16896, .f32⟩
  | .hbm, ⟨21, _⟩ => ⟨S16896x1, .f32⟩
  | .hbm, ⟨22, _⟩ => ⟨S_, .f32⟩
  | .hbm, ⟨23, _⟩ => ⟨S16896x1, .f32⟩
  | .hbm, ⟨24, _⟩ => ⟨S16896x1, .f32⟩
  | .hbm, ⟨25, _⟩ => ⟨S16896x1024, .f32⟩
  | .hbm, ⟨26, _⟩ => ⟨S16896x1024, .f32⟩
  | .hbm, ⟨27, _⟩ => ⟨S_, .f32⟩
  | .hbm, ⟨28, _⟩ => ⟨S16896x1, .f32⟩
  | .hbm, ⟨29, _⟩ => ⟨S16896x1, .f32⟩
  | .hbm, ⟨30, _⟩ => ⟨S16896x1, .f32⟩
  | .hbm, ⟨31, _⟩ => ⟨S16896x1024, .f32⟩
  | .hbm, ⟨32, _⟩ => ⟨S16896x1024, .f32⟩
  | .hbm, ⟨33, _⟩ => ⟨S1x1024, .f32⟩
  | .hbm, ⟨34, _⟩ => ⟨S16896x1024, .f32⟩
  | .hbm, ⟨35, _⟩ => ⟨S16896x1024, .f32⟩
  | .hbm, ⟨36, _⟩ => ⟨S1x1024, .f32⟩
  | .hbm, ⟨37, _⟩ => ⟨S16896x1024, .f32⟩
  | .hbm, ⟨38, _⟩ => ⟨S16896x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel5.lean ====
abbrev S4x4224x1792 : Shape := ⟨3, ![4, 4224, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S16896x1792 : Shape := ⟨2, ![16896, 1792]⟩
abbrev S384x384 : Shape := ⟨2, ![384, 384]⟩
abbrev S_ : Shape := ⟨0, ![]⟩
abbrev S512x512 : Shape := ⟨2, ![512, 512]⟩
abbrev S1x1792 : Shape := ⟨2, ![1, 1792]⟩
abbrev S1x512 : Shape := ⟨2, ![1, 512]⟩
abbrev S16896x512 : Shape := ⟨2, ![16896, 512]⟩
abbrev S264x1x512 : Shape := ⟨3, ![264, 1, 512]⟩
abbrev S384x1792 : Shape := ⟨2, ![384, 1792]⟩
abbrev S384x512 : Shape := ⟨2, ![384, 512]⟩
abbrev S6x1x512 : Shape := ⟨3, ![6, 1, 512]⟩
abbrev S8x1792 : Shape := ⟨2, ![8, 1792]⟩
abbrev S384x1 : Shape := ⟨2, ![384, 1]⟩
abbrev S384x64 : Shape := ⟨2, ![384, 64]⟩
abbrev S384x128 : Shape := ⟨2, ![384, 128]⟩
abbrev S1x1x512 : Shape := ⟨3, ![1, 1, 512]⟩

abbrev nBuf : Space → Nat
  | .hbm => 117
  | .vmem => 30
  | .smem => 0
  | _ => 0

abbrev bufTy : (tb : Table) → Fin (tcTables nBuf tb) → BufTy
  | .hbm, ⟨0, _⟩ => ⟨S4x4224x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S16896x1792, .f32⟩
  | .hbm, ⟨11, _⟩ => ⟨S384x384, .i32⟩
  | .hbm, ⟨12, _⟩ => ⟨S384x384, .i32⟩
  | .hbm, ⟨13, _⟩ => ⟨S384x384, .i1⟩
  | .hbm, ⟨14, _⟩ => ⟨S_, .i32⟩
  | .hbm, ⟨15, _⟩ => ⟨S_, .i32⟩
  | .hbm, ⟨16, _⟩ => ⟨S384x384, .i32⟩
  | .hbm, ⟨17, _⟩ => ⟨S384x384, .i32⟩
  | .hbm, ⟨18, _⟩ => ⟨S384x384, .i32⟩
  | .hbm, ⟨19, _⟩ => ⟨S_, .i32⟩
  | .hbm, ⟨20, _⟩ => ⟨S384x384, .i32⟩
  | .hbm, ⟨21, _⟩ => ⟨S384x384, .i1⟩
  | .hbm, ⟨22, _⟩ => ⟨S384x384, .i32⟩
  | .hbm, ⟨23, _⟩ => ⟨S384x384, .i32⟩
  | .hbm, ⟨24, _⟩ => ⟨S_, .i32⟩
  | .hbm, ⟨25, _⟩ => ⟨S384x384, .i32⟩
  | .hbm, ⟨26, _⟩ => ⟨S384x384, .i1⟩
  | .hbm, ⟨27, _⟩ => ⟨S384x384, .i1⟩
  | .hbm, ⟨28, _⟩ => ⟨S_, .i32⟩
  | .hbm, ⟨29, _⟩ => ⟨S384x384, .i32⟩
  | .hbm, ⟨30, _⟩ => ⟨S384x384, .i32⟩
  | .hbm, ⟨31, _⟩ => ⟨S384x384, .i32⟩
  | .hbm, ⟨32, _⟩ => ⟨S_, .i32⟩
  | .hbm, ⟨33, _⟩ => ⟨S_, .i32⟩
  | .hbm, ⟨34, _⟩ => ⟨S384x384, .i32⟩
  | .hbm, ⟨35, _⟩ => ⟨S384x384, .i32⟩
  | .hbm, ⟨36, _⟩ => ⟨S384x384, .i32⟩
  | .hbm, ⟨37, _⟩ => ⟨S_, .i32⟩
  | .hbm, ⟨38, _⟩ => ⟨S384x384, .i32⟩
  | .hbm, ⟨39, _⟩ => ⟨S384x384, .i1⟩
  | .hbm, ⟨40, _⟩ => ⟨S384x384, .i32⟩
  | .hbm, ⟨41, _⟩ => ⟨S384x384, .i32⟩
  | .hbm, ⟨42, _⟩ => ⟨S_, .i32⟩
  | .hbm, ⟨43, _⟩ => ⟨S384x384, .i32⟩
  | .hbm, ⟨44, _⟩ => ⟨S384x384, .i1⟩
  | .hbm, ⟨45, _⟩ => ⟨S384x384, .i1⟩
  | .hbm, ⟨46, _⟩ => ⟨S_, .i32⟩
  | .hbm, ⟨47, _⟩ => ⟨S384x384, .i32⟩
  | .hbm, ⟨48, _⟩ => ⟨S384x384, .i32⟩
  | .hbm, ⟨49, _⟩ => ⟨S384x384, .i32⟩
  | .hbm, ⟨50, _⟩ => ⟨S384x384, .i1⟩
  | .hbm, ⟨51, _⟩ => ⟨S384x384, .i1⟩
  | .hbm, ⟨52, _⟩ => ⟨S_, .f32⟩
  | .hbm, ⟨53, _⟩ => ⟨S_, .f32⟩
  | .hbm, ⟨54, _⟩ => ⟨S384x384, .f32⟩
  | .hbm, ⟨55, _⟩ => ⟨S384x384, .f32⟩
  | .hbm, ⟨56, _⟩ => ⟨S384x384, .f32⟩
  | .hbm, ⟨57, _⟩ => ⟨S384x384, .f32⟩
  | .hbm, ⟨58, _⟩ => ⟨S512x512, .i32⟩
  | .hbm, ⟨59, _⟩ => ⟨S_, .i32⟩
  | .hbm, ⟨60, _⟩ => ⟨S_, .i32⟩
  | .hbm, ⟨61, _⟩ => ⟨S512x512, .i32⟩
  | .hbm, ⟨62, _⟩ => ⟨S512x512, .i32⟩
  | .hbm, ⟨63, _⟩ => ⟨S512x512, .i32⟩
  | .hbm, ⟨64, _⟩ => ⟨S_, .i32⟩
  | .hbm, ⟨65, _⟩ => ⟨S512x512, .i32⟩
  | .hbm, ⟨66, _⟩ => ⟨S512x512, .i1⟩
  | .hbm, ⟨67, _⟩ => ⟨S512x512, .i32⟩
  | .hbm, ⟨68, _⟩ => ⟨S512x512, .i32⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S512x512, .i1⟩
  | .hbm, ⟨73, _⟩ => ⟨S_, .i32⟩
  | .hbm, ⟨74, _⟩ => ⟨S512x512, .i32⟩
  | .hbm, ⟨75, _⟩ => ⟨S512x512, .i32⟩
  | .hbm, ⟨76, _⟩ => ⟨S512x512, .i32⟩
  | .hbm, ⟨77, _⟩ => ⟨S512x512, .i32⟩
  | .hbm, ⟨78, _⟩ => ⟨S_, .i32⟩
  | .hbm, ⟨79, _⟩ => ⟨S_, .i32⟩
  | .hbm, ⟨80, _⟩ => ⟨S512x512, .i32⟩
  | .hbm, ⟨81, _⟩ => ⟨S512x512, .i32⟩
  | .hbm, ⟨82, _⟩ => ⟨S512x512, .i32⟩
  | .hbm, ⟨83, _⟩ => ⟨S_, .i32⟩
  | .hbm, ⟨84, _⟩ => ⟨S512x512, .i32⟩
  | .hbm, ⟨85, _⟩ => ⟨S512x512, .i1⟩
  | .hbm, ⟨86, _⟩ => ⟨S512x512, .i32⟩
  | .hbm, ⟨87, _⟩ => ⟨S512x512, .i32⟩
  | .hbm, ⟨88, _⟩ => ⟨S_, .i32⟩
  | .hbm, ⟨89, _⟩ => ⟨S512x512, .i32⟩
  | .hbm, ⟨90, _⟩ => ⟨S512x512, .i1⟩
  | .hbm, ⟨91, _⟩ => ⟨S512x512, .i1⟩
  | .hbm, ⟨92, _⟩ => ⟨S_, .i32⟩
  | .hbm, ⟨93, _⟩ => ⟨S512x512, .i32⟩
  | .hbm, ⟨94, _⟩ => ⟨S512x512, .i32⟩
  | .hbm, ⟨95, _⟩ => ⟨S512x512, .i32⟩
  | .hbm, ⟨96, _⟩ => ⟨S512x512, .i1⟩
  | .hbm, ⟨97, _⟩ => ⟨S_, .f32⟩
  | .hbm, ⟨98, _⟩ => ⟨S_, .f32⟩
  | .hbm, ⟨99, _⟩ => ⟨S512x512, .f32⟩
  | .hbm, ⟨100, _⟩ => ⟨S512x512, .f32⟩
  | .hbm, ⟨101, _⟩ => ⟨S512x512, .f32⟩
  | .hbm, ⟨102, _⟩ => ⟨S512x512, .bf16⟩
  | .hbm, ⟨103, _⟩ => ⟨S1x1792, .f32⟩
  | .hbm, ⟨104, _⟩ => ⟨S1x512, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S1x512, .f32⟩
  | .hbm, ⟨109, _⟩ => ⟨S16896x512, .bf16⟩
  | .hbm, ⟨110, _⟩ => ⟨S16896x512, .bf16⟩
  | .hbm, ⟨111, _⟩ => ⟨S16896x512, .bf16⟩
  | .hbm, ⟨112, _⟩ => ⟨S16896x512, .bf16⟩
  | .hbm, ⟨113, _⟩ => ⟨S16896x512, .bf16⟩
  | .hbm, ⟨114, _⟩ => ⟨S264x1x512, .f32⟩
  | .hbm, ⟨115, _⟩ => ⟨S16896x512, .f32⟩
  | .hbm, ⟨116, _⟩ => ⟨S16896x512, .f32⟩
  | .local _ .vmem, ⟨0, _⟩ => ⟨S384x1792, .f32⟩
  | .local _ .vmem, ⟨1, _⟩ => ⟨S384x1792, .f32⟩
  | .local _ .vmem, ⟨2, _⟩ => ⟨S1x1792, .f32⟩
  | .local _ .vmem, ⟨3, _⟩ => ⟨S1x512, .f32⟩
  | .local _ .vmem, ⟨4, _⟩ => ⟨S64x512, .f32⟩
  | .local _ .vmem, ⟨5, _⟩ => ⟨S1x512, .f32⟩
  | .local _ .vmem, ⟨6, _⟩ => ⟨S64x512, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S384x384, .f32⟩
  | .local _ .vmem, ⟨12, _⟩ => ⟨S512x512, .bf16⟩
  | .local _ .vmem, ⟨13, _⟩ => ⟨S384x512, .bf16⟩
  | .local _ .vmem, ⟨14, _⟩ => ⟨S384x512, .bf16⟩
  | .local _ .vmem, ⟨15, _⟩ => ⟨S384x512, .bf16⟩
  | .local _ .vmem, ⟨16, _⟩ => ⟨S384x512, .bf16⟩
  | .local _ .vmem, ⟨17, _⟩ => ⟨S384x512, .bf16⟩
  | .local _ .vmem, ⟨18, _⟩ => ⟨S384x512, .bf16⟩
  | .local _ .vmem, ⟨19, _⟩ => ⟨S384x512, .bf16⟩
  | .local _ .vmem, ⟨20, _⟩ => ⟨S384x512, .bf16⟩
  | .local _ .vmem, ⟨21, _⟩ => ⟨S384x512, .bf16⟩
  | .local _ .vmem, ⟨22, _⟩ => ⟨S384x512, .bf16⟩
  | .local _ .vmem, ⟨23, _⟩ => ⟨S6x1x512, .f32⟩
  | .local _ .vmem, ⟨24, _⟩ => ⟨S6x1x512, .f32⟩
  | .local _ .vmem, ⟨25, _⟩ => ⟨S384x512, .f32⟩
  | .local _ .vmem, ⟨26, _⟩ => ⟨S384x512, .f32⟩
  | .local _ .vmem, ⟨27, _⟩ => ⟨S384x512, .f32⟩
  | .local _ .vmem, ⟨28, _⟩ => ⟨S384x512, .f32⟩
  | .local _ .vmem, ⟨29, _⟩ => ⟨S8x1792, .f32⟩
  | _, _ => ⟨S4x4224x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst : Ref sig .tc := ⟨.hbm, 52, rfl⟩
abbrev main_cst_1 : Ref sig .tc := ⟨.hbm, 53, rfl⟩
abbrev main_call2_v0 : Ref sig .tc := ⟨.hbm, 54, rfl⟩
abbrev main_call2_v1 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_c_2 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_c : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_0 : Ref sig .tc := ⟨.hbm, 73, rfl⟩
abbrev main_call3_v12 : Ref sig .tc := ⟨.hbm, 74, rfl⟩
abbrev main_call3_v13 : Ref sig .tc := ⟨.hbm, 75, rfl⟩
abbrev main_v11 : Ref sig .tc := ⟨.hbm, 76, rfl⟩
abbrev main_v12 : Ref sig .tc := ⟨.hbm, 77, rfl⟩
abbrev main_c_3 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_v6 : Ref sig .tc := ⟨.hbm, 85, rfl⟩
abbrev main_call4_v7 : Ref sig .tc := ⟨.hbm, 86, rfl⟩
abbrev main_call4_v8 : Ref sig .tc := ⟨.hbm, 87, rfl⟩
abbrev main_call4_c : Ref sig .tc := ⟨.hbm, 88, rfl⟩
abbrev main_call4_v9 : Ref sig .tc := ⟨.hbm, 89, rfl⟩
abbrev main_call4_v10 : Ref sig .tc := ⟨.hbm, 90, rfl⟩
abbrev main_call4_v11 : Ref sig .tc := ⟨.hbm, 91, rfl⟩
abbrev main_call4_c_0 : Ref sig .tc := ⟨.hbm, 92, rfl⟩
abbrev main_call4_v12 : Ref sig .tc := ⟨.hbm, 93, rfl⟩
abbrev main_call4_v13 : Ref sig .tc := ⟨.hbm, 94, rfl⟩
abbrev main_v13 : Ref sig .tc := ⟨.hbm, 95, rfl⟩
abbrev main_v14 : Ref sig .tc := ⟨.hbm, 96, rfl⟩
abbrev main_cst_4 : Ref sig .tc := ⟨.hbm, 97, rfl⟩
abbrev main_cst_5 : Ref sig .tc := ⟨.hbm, 98, rfl⟩
abbrev main_call5_v0 : Ref sig .tc := ⟨.hbm, 99, rfl⟩
abbrev main_call5_v1 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23_0 : Ref sig .tc := ⟨.hbm, 109, rfl⟩
abbrev main_v23_1 : Ref sig .tc := ⟨.hbm, 110, rfl⟩
abbrev main_v23_2 : Ref sig .tc := ⟨.hbm, 111, rfl⟩
abbrev main_v23_3 : Ref sig .tc := ⟨.hbm, 112, rfl⟩
abbrev main_v23_4 : Ref sig .tc := ⟨.hbm, 113, rfl⟩
abbrev main_v23_5 : Ref sig .tc := ⟨.hbm, 114, rfl⟩
abbrev main_v23_6 : Ref sig .tc := ⟨.hbm, 115, rfl⟩
abbrev main_v23_7 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S384x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S384x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S384x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S384x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S384x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S6x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S384x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S384x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference5Ideal.lean ====
abbrev S4x4224x1792 : Shape := ⟨3, ![4, 4224, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S4x4225x1792 : Shape := ⟨3, ![4, 4225, 1792]⟩
abbrev S1x1x1792 : Shape := ⟨3, ![1, 1, 1792]⟩
abbrev S16896x1792 : Shape := ⟨2, ![16896, 1792]⟩
abbrev S16896x512 : Shape := ⟨2, ![16896, 512]⟩
abbrev S16896x64 : Shape := ⟨2, ![16896, 64]⟩
abbrev S16896x128 : Shape := ⟨2, ![16896, 128]⟩
abbrev S1x512 : Shape := ⟨2, ![1, 512]⟩
abbrev S16896x8x64 : Shape := ⟨3, ![16896, 8, 64]⟩
abbrev S16896x8 : Shape := ⟨2, ![16896, 8]⟩
abbrev S16896x8x1 : Shape := ⟨3, ![16896, 8, 1]⟩
abbrev S1x8x64 : Shape := ⟨3, ![1, 8, 64]⟩
abbrev S264x64x512 : Shape := ⟨3, ![264, 64, 512]⟩
abbrev S264x1x512 : Shape := ⟨3, ![264, 1, 512]⟩

abbrev nBuf : Space → Nat
  | .hbm => 137
  | .vmem => 0
  | .smem => 0
  | _ => 0

abbrev hbmTy0_0 (i : Nat) : BufTy := match i % 128 with
  | 0 => ⟨S4x4224x1792, .f32⟩
  | 1 => ⟨S1792, .f32⟩
  | 2 => ⟨S512, .f32⟩
  | 3 => ⟨S64x512, .f32⟩
  | 4 => ⟨S512, .f32⟩
  | 5 => ⟨S64x512, .f32⟩
  | 6 => ⟨S128x512, .f32⟩
  | 7 => ⟨S512, .f32⟩
  | 8 => ⟨S512, .f32⟩
  | 9 => ⟨S8x64, .f32⟩
  | 10 => ⟨S_, .i32⟩
  | 11 => ⟨S_, .f32⟩
  | 12 => ⟨S4x4225x1792, .f32⟩
  | 13 => ⟨S4x4224x1792, .f32⟩
  | 14 => ⟨S4x4224x1792, .f32⟩
  | 15 => ⟨S1x1x1792, .f32⟩
  | 16 => ⟨S4x4224x1792, .f32⟩
  | 17 => ⟨S4x4224x1792, .f32⟩
  | 18 => ⟨S4x4224x1792, .f32⟩
  | 19 => ⟨S16896x1792, .f32⟩
  | 20 => ⟨S16896x512, .f32⟩
  | 21 => ⟨S16896x512, .f32⟩
  | 22 => ⟨S16896x512, .f32⟩
  | 23 => ⟨S16896x64, .f32⟩
  | 24 => ⟨S16896x64, .f32⟩
  | 25 => ⟨S16896x128, .f32⟩
  | 26 => ⟨S16896x64, .f32⟩
  | 27 => ⟨S16896x512, .f32⟩
  | 28 => ⟨S1x512, .f32⟩
  | 29 => ⟨S16896x512, .f32⟩
  | 30 => ⟨S16896x512, .f32⟩
  | 31 => ⟨S16896x512, .f32⟩
  | 32 => ⟨S_, .f32⟩
  | 33 => ⟨S16896x512, .f32⟩
  | 34 => ⟨S16896x512, .f32⟩
  | 35 => ⟨S16896x512, .f32⟩
  | 36 => ⟨S16896x512, .f32⟩
  | 37 => ⟨S16896x512, .i1⟩
  | 38 => ⟨S16896x512, .f32⟩
  | 39 => ⟨S16896x512, .f32⟩
  | 40 => ⟨S16896x512, .f32⟩
  | 41 => ⟨S16896x512, .f32⟩
  | 42 => ⟨S16896x512, .f32⟩
  | 43 => ⟨S16896x512, .f32⟩
  | 44 => ⟨S16896x512, .f32⟩
  | 45 => ⟨S16896x512, .f32⟩
  | 46 => ⟨S16896x512, .f32⟩
  | 47 => ⟨S_, .f32⟩
  | 48 => ⟨S16896x512, .f32⟩
  | 49 => ⟨S16896x512, .f32⟩
  | 50 => ⟨S16896x512, .f32⟩
  | 51 => ⟨S1x512, .f32⟩
  | 52 => ⟨S16896x512, .f32⟩
  | 53 => ⟨S16896x512, .f32⟩
  | 54 => ⟨S16896x512, .f32⟩
  | 55 => ⟨S16896x512, .f32⟩
  | 56 => ⟨S_, .f32⟩
  | 57 => ⟨S16896x512, .f32⟩
  | 58 => ⟨S16896x512, .f32⟩
  | 59 => ⟨S_, .f32⟩
  | 60 => ⟨S16896x512, .f32⟩
  | 61 => ⟨S16896x512, .f32⟩
  | 62 => ⟨S16896x128, .f32⟩
  | 63 => ⟨S16896x128, .f32⟩
  | 64 => ⟨S_, .f32⟩
  | 65 => ⟨S16896x128, .f32⟩
  | 66 => ⟨S16896x128, .f32⟩
  | 67 => ⟨S_, .f32⟩
  | 68 => ⟨S16896x128, .f32⟩
  | 69 => ⟨S16896x128, .f32⟩
  | 70 => ⟨S16896x512, .f32⟩
  | 71 => ⟨S1x512, .f32⟩
  | 72 => ⟨S16896x512, .f32⟩
  | 73 => ⟨S16896x512, .f32⟩
  | 74 => ⟨S16896x8x64, .f32⟩
  | 75 => ⟨S16896x8x64, .f32⟩
  | 76 => ⟨S_, .f32⟩
  | 77 => ⟨S16896x8, .f32⟩
  | 78 => ⟨S16896x8x1, .f32⟩
  | 79 => ⟨S_, .f32⟩
  | 80 => ⟨S16896x8x1, .f32⟩
  | 81 => ⟨S16896x8x1, .f32⟩
  | 82 => ⟨S16896x8x1, .f32⟩
  | 83 => ⟨S16896x8x64, .f32⟩
  | 84 => ⟨S16896x8x64, .f32⟩
  | 85 => ⟨S16896x512, .f32⟩
  | 86 => ⟨S_, .f32⟩
  | 87 => ⟨S16896x512, .f32⟩
  | 88 => ⟨S16896x512, .f32⟩
  | 89 => ⟨S1x512, .f32⟩
  | 90 => ⟨S16896x512, .f32⟩
  | 91 => ⟨S16896x512, .f32⟩
  | 92 => ⟨S_, .f32⟩
  | 93 => ⟨S16896x512, .f32⟩
  | 94 => ⟨S16896x512, .f32⟩
  | 95 => ⟨S16896x512, .f32⟩
  | 96 => ⟨S16896x8x64, .f32⟩
  | 97 => ⟨S16896x8x64, .f32⟩
  | 98 => ⟨S16896x8x64, .f32⟩
  | 99 => ⟨S1x8x64, .f32⟩
  | 100 => ⟨S16896x8x64, .f32⟩
  | 101 => ⟨S16896x8x64, .f32⟩
  | 102 => ⟨S_, .f32⟩
  | 103 => ⟨S16896x8, .f32⟩
  | 104 => ⟨S16896x8x1, .f32⟩
  | 105 => ⟨S16896x8x64, .f32⟩
  | 106 => ⟨S16896x8x64, .f32⟩
  | 107 => ⟨S16896x8x64, .f32⟩
  | 108 => ⟨S16896x512, .f32⟩
  | 109 => ⟨S16896x512, .f32⟩
  | 110 => ⟨S16896x512, .f32⟩
  | 111 => ⟨S264x64x512, .f32⟩
  | 112 => ⟨S_, .f32⟩
  | 113 => ⟨S_, .f32⟩
  | 114 => ⟨S264x64x512, .f32⟩
  | 115 => ⟨S16896x512, .f32⟩
  | 116 => ⟨S264x64x512, .f32⟩
  | 117 => ⟨S264x1x512, .f32⟩
  | 118 => ⟨S16896x512, .f32⟩
  | 119 => ⟨S16896x512, .f32⟩
  | 120 => ⟨S16896x512, .f32⟩
  | 121 => ⟨S16896x512, .f32⟩
  | 122 => ⟨S16896x512, .bf16⟩
  | 123 => ⟨S16896x512, .f32⟩
  | 124 => ⟨S16896x512, .f32⟩
  | 125 => ⟨S16896x512, .f32⟩
  | 126 => ⟨S16896x512, .f32⟩
  | 127 => ⟨S16896x512, .bf16⟩
  | _ => ⟨S4x4224x1792, .f32⟩

abbrev hbmTy0_1 (i : Nat) : BufTy := match i % 128 with
  | 0 => ⟨S16896x512, .f32⟩
  | 1 => ⟨S16896x512, .f32⟩
  | 2 => ⟨S16896x512, .f32⟩
  | 3 => ⟨S16896x512, .bf16⟩
  | 4 => ⟨S16896x512, .f32⟩
  | 5 => ⟨S16896x512, .f32⟩
  | 6 => ⟨S16896x512, .bf16⟩
  | 7 => ⟨S16896x512, .bf16⟩
  | 8 => ⟨S264x1x512, .f32⟩
  | _ => ⟨S4x4224x1792, .f32⟩

abbrev hbmTy (i : Nat) : BufTy := match i / 128 with
  | 0 => hbmTy0_0 i
  | 1 => hbmTy0_1 i
  | _ => ⟨S4x4224x1792, .f32⟩

abbrev bufTy : (tb : Table) → Fin (tcTables nBuf tb) → BufTy
  | .hbm, ⟨i, _⟩ => hbmTy i
  | _, _ => ⟨S4x4224x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_0 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_v36 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_4 : Ref sig .tc := ⟨.hbm, 76, rfl⟩
abbrev main_v46 : Ref sig .tc := ⟨.hbm, 77, rfl⟩
abbrev main_v47 : Ref sig .tc := ⟨.hbm, 78, rfl⟩
abbrev main_cst_5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_6 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_7 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call2_call0_cst : Ref sig .tc := ⟨.hbm, 112, rfl⟩
abbrev main_call2_call0_v0 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩

abbrev nD : Nat := 1
abbrev τ : Topo := Topo.v7x

variable {F : FTy → Type} [FloatOps F]
-- ==== Proof.KernelBlocks.lean ====
/- What the kernel reads: each window's block at a grid point as entries of the arguments. The grid's point `t` works on
   row tile `t / 16` and on expert `t % 16`. -/
module

public import proofs.«01_k».proof.Proof.Gen.KernelIdeal.Value
public import Idealize.ShloMosaic.Lib.Pipeline.ValueKit
public import Idealize.ShloMosaic.Lib.Pointwise
public import Idealize.ShloMosaic.PureOps.Ideal

@[expose] public section

set_option maxRecDepth 16384

noncomputable section

namespace Cert.KernelIdeal.Moe

open Idealize.ShloMosaic Idealize.ShloMosaic.TcCoe Cert.KernelIdeal Cert.KernelIdeal.Gen

/-- The windows' block indices at a point. -/
theorem idx : ∀ t : Fin cfg0.N, win0_0.index t (0 : Fin 2) = t.val / 16 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val % 16 ∧ win0_3.index t (1 : Fin 3) = 0 ∧ win0_3.index t (2 : Fin 3) = 0
    ∧ win0_4.index t (0 : Fin 3) = t.val % 16 ∧ win0_4.index t (1 : Fin 3) = 0 ∧ win0_4.index t (2 : Fin 3) = 0
    ∧ win0_5.index t (0 : Fin 3) = t.val % 16 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The grid's second coordinate is the expert. -/
theorem coord_expert : ∀ t : Fin cfg0.N, (grid0.coords t 1).val = t.val % 16 :=
  (by decide +kernel : ∀ t : Fin grid0.N, _)

theorem point_lt (t : Fin cfg0.N) : t.val < 176 := lt_of_lt_of_eq t.isLt N_0

/-- The row tile a point works on. -/
def tile (t : Fin cfg0.N) : Fin 11 := ⟨t.val / 16, by have := point_lt t; omega⟩
/-- The expert a point works on. -/
def expertOf (t : Fin cfg0.N) : Fin 16 := ⟨t.val % 16, Nat.mod_lt _ (by decide)⟩

variable (m : (ℓ : Loc nD τ sig) → Buf (Elt Ideal) ℓ) (c : Dev nD)

/-- Token `n` of the flattened activations. -/
def token (n : Fin 16896) (k : Fin 1024) : EReal :=
  m ((c : Thread nD τ).loc main_arg0) (ix3 ⟨n.val / 4224, by omega⟩ ⟨n.val % 4224, Nat.mod_lt _ (by decide)⟩ k)

/-- Row `r` of tile `q`, as a token's number. -/
def rowOf (q : Fin 11) (r : Fin 1536) : Fin 16896 := ⟨1536 * q.val + r.val, by omega⟩

def router (k : Fin 1024) (e : Fin 16) : EReal := m ((c : Thread nD τ).loc main_arg1) (ix2 k e)
def bias (e : Fin 16) : EReal := m ((c : Thread nD τ).loc main_arg2) (ix1 e)
def w1 (e : Fin 16) (k : Fin 1024) (f : Fin 512) : EReal := m ((c : Thread nD τ).loc main_arg3) (ix3 e k f)
def w3 (e : Fin 16) (k : Fin 1024) (f : Fin 512) : EReal := m ((c : Thread nD τ).loc main_arg4) (ix3 e k f)
def w2 (e : Fin 16) (f : Fin 512) (d : Fin 1024) : EReal := m ((c : Thread nD τ).loc main_arg5) (ix3 e f d)
def scale (d : Fin 1024) : EReal := m ((c : Thread nD τ).loc main_arg6) (ix1 d)
def shift (d : Fin 1024) : EReal := m ((c : Thread nD τ).loc main_arg7) (ix1 d)

variable (t : Fin cfg0.N)

theorem read_h (r : Fin 1536) (k : Fin 1024) : iblk m c 0 t (ix2 r k) = token m c (rowOf (tile t) r) k := by
  unfold token rowOf tile
  blk_simp [iblk, V, idx t]
  entry_read
  pointwise
  blk_ext [iblk, V, idx t]

theorem read_router (e : Fin 16) (k : Fin 1024) : iblk m c 1 t (ix2 e k) = router m c k e := by
  unfold router
  blk_simp [iblk, V, idx t]
  entry_read
  pointwise
  blk_ext [iblk, V, idx t]

theorem read_bias (e : Fin 16) : iblk m c 2 t (ix2 e 0) = bias m c e := by
  unfold bias
  blk_simp [iblk, V, idx t]
  entry_read
  pointwise
  blk_ext [iblk, V, idx t]

theorem read_w1 (k : Fin 1024) (f : Fin 512) : iblk m c 3 t (ix3 0 k f) = w1 m c (expertOf t) k f := by
  unfold w1 expertOf
  blk_simp [iblk, V, idx t]
  entry_read
  pointwise
  blk_ext [iblk, V, idx t]

theorem read_w3 (k : Fin 1024) (f : Fin 512) : iblk m c 4 t (ix3 0 k f) = w3 m c (expertOf t) k f := by
  unfold w3 expertOf
  blk_simp [iblk, V, idx t]
  entry_read
  pointwise
  blk_ext [iblk, V, idx t]

theorem read_w2 (f : Fin 512) (d : Fin 1024) : iblk m c 5 t (ix3 0 f d) = w2 m c (expertOf t) f d := by
  unfold w2 expertOf
  blk_simp [iblk, V, idx t]
  entry_read
  pointwise
  blk_ext [iblk, V, idx t]

theorem read_scale (d : Fin 1024) : iblk m c 6 t (ix2 0 d) = scale m c d := by
  unfold scale
  blk_simp [iblk, V, idx t]
  entry_read
  pointwise
  blk_ext [iblk, V, idx t]

theorem read_shift (d : Fin 1024) : iblk m c 7 t (ix2 0 d) = shift m c d := by
  unfold shift
  blk_simp [iblk, V, idx t]
  entry_read
  pointwise
  blk_ext [iblk, V, idx t]

end Cert.KernelIdeal.Moe
-- ==== Proof.Routing.lean ====
/- Choosing two of four by score, twice over: the four groups by the sum of their two best members, then the two best
   members of the chosen group. The reference sorts; the kernel compares pairwise. This module shows, for scores in the
   extended reals and with ties broken towards the lower position, that both choose the same.

   Nothing about an order on four scores matters except how they compare, so a family of four scores is replaced by its
   levels (how many scores lie strictly below), a function from four positions to four levels; what is to be shown then
   is a statement about 256 functions and is decided. -/
module

public import Idealize.ShloMosaic.PureOps
public import Idealize.ShloMosaic.PureOps.Ideal
public import Idealize.ShloMosaic.Lib.SortFacts
public import Idealize.ShloMosaic.Lib.IdealHost

@[expose] public section

noncomputable section

namespace Cert.Routing

open Idealize.ShloMosaic

/-! ## Sorting four scores -/

/-- Position `k` of four positions in the order of falling `r`, equal ones in position order. -/
def place {α : Type} [LT α] [DecidableLT α] (r : Fin 4 → α) (k : Fin 4) : Fin 4 :=
  sortedFrom (fun a b => decide (r b < r a)) k

/-- The position of the `k`-th largest of four scores. -/
def pos (f : Fin 4 → EReal) (k : Fin 4) : Fin 4 := sortedFrom (fun a b => decide (f b < f a)) k

/-- How many of the four scores lie below score `i`. -/
def level (f : Fin 4 → EReal) (i : Fin 4) : Fin 4 :=
  ⟨(Finset.univ.filter fun j => f j < f i).card, by
    have h : (Finset.univ.filter fun j => f j < f i) ⊂ Finset.univ :=
      Finset.filter_ssubset.mpr ⟨i, Finset.mem_univ _, lt_irrefl _⟩
    simpa using Finset.card_lt_card h⟩

theorem level_lt (f : Fin 4 → EReal) (i j : Fin 4) : level f i < level f j ↔ f i < f j := by
  constructor
  · intro h
    by_contra hc
    have hji : f j ≤ f i := not_lt.mp hc
    have : (Finset.univ.filter fun k => f k < f j).card ≤ (Finset.univ.filter fun k => f k < f i).card :=
      Finset.card_le_card fun k hk => by
        simp only [Finset.mem_filter, Finset.mem_univ, true_and] at hk ⊢
        exact lt_of_lt_of_le hk hji
    exact absurd (show (level f i).val < (level f j).val from h) (not_lt.mpr this)
  · intro h
    have hc : (Finset.univ.filter fun k => f k < f i).card < (Finset.univ.filter fun k => f k < f j).card := by
      refine Finset.card_lt_card ((Finset.ssubset_iff_of_subset fun k hk => ?_).mpr ⟨i, ?_, ?_⟩)
      · simp only [Finset.mem_filter, Finset.mem_univ, true_and] at hk ⊢
        exact lt_trans hk h
      · simpa using h
      · simp
    exact hc

theorem level_le (f : Fin 4 → EReal) (i j : Fin 4) : level f i ≤ level f j ↔ f i ≤ f j := by
  rw [← not_lt, ← not_lt, level_lt]

theorem eq_of_level (f : Fin 4 → EReal) {i j : Fin 4} (h : level f i = level f j) : f i = f j :=
  le_antisymm ((level_le f i j).mp h.le) ((level_le f j i).mp h.ge)

theorem pos_eq_place (f : Fin 4 → EReal) (k : Fin 4) : pos f k = place (level f) k := by
  unfold pos place
  simp only [level_lt]

/-! ## The sum of the two largest, by a network of maxima and minima -/

/-- The sum of the two largest of four, as a tournament finds them. -/
def top2 (a b c d : EReal) : EReal :=
  max (max a b) (max c d) + max (min (max a b) (max c d)) (max (min a b) (min c d))

/-- The position of the larger of two. -/
def hi (r : Fin 4 → Fin 4) (i j : Fin 4) : Fin 4 := if r i < r j then j else i
/-- The position of the smaller of two. -/
def lo (r : Fin 4 → Fin 4) (i j : Fin 4) : Fin 4 := if r i < r j then i else j

theorem max_eq_hi (f : Fin 4 → EReal) (i j : Fin 4) : max (f i) (f j) = f (hi (level f) i j) := by
  unfold hi
  split_ifs with h
  · exact max_eq_right ((level_lt f i j).mp h).le
  · exact max_eq_left (not_lt.mp fun hc => h ((level_lt f i j).mpr hc))

theorem min_eq_lo (f : Fin 4 → EReal) (i j : Fin 4) : min (f i) (f j) = f (lo (level f) i j) := by
  unfold lo
  split_ifs with h
  · exact min_eq_left ((level_lt f i j).mp h).le
  · exact min_eq_right (not_lt.mp fun hc => h ((level_lt f i j).mpr hc))

theorem net_first : ∀ r : Fin 4 → Fin 4, r (hi r (hi r 0 1) (hi r 2 3)) = r (place r 0) := by
  decide +kernel

theorem net_second : ∀ r : Fin 4 → Fin 4,
    r (hi r (lo r (hi r 0 1) (hi r 2 3)) (hi r (lo r 0 1) (lo r 2 3))) = r (place r 1) := by
  decide +kernel

/-- The tournament's sum is the sum of the first two of the sorted scores. -/
theorem top2_eq (f : Fin 4 → EReal) : top2 (f 0) (f 1) (f 2) (f 3) = f (pos f 0) + f (pos f 1) := by
  unfold top2
  simp only [max_eq_hi, min_eq_lo, pos_eq_place]
  rw [eq_of_level f (net_first (level f)), eq_of_level f (net_second (level f))]

/-! ## Which members come first, by counting those ahead -/

/-- How many of the others come before member `i`: an earlier one that is at least as large, a later one that is larger. -/
def ahead (f : Fin 4 → EReal) : Fin 4 → EReal := ![
  ((if f 0 < f 1 then 1 else 0) + (if f 0 < f 2 then 1 else 0)) + (if f 0 < f 3 then 1 else 0),
  ((if f 1 ≤ f 0 then 1 else 0) + (if f 1 < f 2 then 1 else 0)) + (if f 1 < f 3 then 1 else 0),
  ((if f 2 ≤ f 0 then 1 else 0) + (if f 2 ≤ f 1 then 1 else 0)) + (if f 2 < f 3 then 1 else 0),
  ((if f 3 ≤ f 0 then 1 else 0) + (if f 3 ≤ f 1 then 1 else 0)) + (if f 3 ≤ f 2 then 1 else 0)]

/-- Whether at most one of three things holds. -/
def few (p q r : Bool) : Bool := !(p && q) && !(p && r) && !(q && r)

theorem count_lt_two (p q r : Prop) [Decidable p] [Decidable q] [Decidable r] :
    (((if p then 1 else 0) + (if q then 1 else 0)) + (if r then 1 else 0) : EReal) < 2 ↔ few (decide p) (decide q) (decide r) = true := by
  have e2 : (2 : EReal) = ((2 : ℝ) : EReal) := rfl
  have e1 : (1 : EReal) = ((1 : ℝ) : EReal) := rfl
  have e0 : (0 : EReal) = ((0 : ℝ) : EReal) := rfl
  by_cases hp : p <;> by_cases hq : q <;> by_cases hr : r <;>
    simp only [hp, hq, hr, if_true, if_false, few, decide_true, decide_false, e2, e1, e0] <;>
    norm_cast <;> norm_num

theorem few_first : ∀ r : Fin 4 → Fin 4, ∀ i : Fin 4,
    (![few (decide (r 0 < r 1)) (decide (r 0 < r 2)) (decide (r 0 < r 3)),
       few (decide (r 1 ≤ r 0)) (decide (r 1 < r 2)) (decide (r 1 < r 3)),
       few (decide (r 2 ≤ r 0)) (decide (r 2 ≤ r 1)) (decide (r 2 < r 3)),
       few (decide (r 3 ≤ r 0)) (decide (r 3 ≤ r 1)) (decide (r 3 ≤ r 2))] : Fin 4 → Bool) i = true
      ↔ i = place r 0 ∨ i = place r 1 := by
  decide +kernel

/-- Fewer than two are ahead of a member exactly when it is the first or the second of the sorted ones. -/
theorem ahead_lt_two (f : Fin 4 → EReal) (i : Fin 4) : ahead f i < 2 ↔ i = pos f 0 ∨ i = pos f 1 := by
  rw [pos_eq_place, pos_eq_place, ← few_first (level f) i]
  simp only [level_lt, level_le]
  fin_cases i <;> exact count_lt_two _ _ _

theorem place_ne : ∀ r : Fin 4 → Fin 4, place r 0 ≠ place r 1 := by decide +kernel

theorem pos_ne (f : Fin 4 → EReal) : pos f 0 ≠ pos f 1 := by
  rw [pos_eq_place, pos_eq_place]; exact place_ne _

/-! ## Which of four is the largest -/

/-- Whether `i` is the first of the largest: larger than the ones before it, no smaller than the ones after it. -/
def best (g : Fin 4 → EReal) : Fin 4 → Prop := ![
  (g 1 ≤ g 0 ∧ g 2 ≤ g 0) ∧ g 3 ≤ g 0,
  (g 0 < g 1 ∧ g 2 ≤ g 1) ∧ g 3 ≤ g 1,
  (g 0 < g 2 ∧ g 1 < g 2) ∧ g 3 ≤ g 2,
  (g 0 < g 3 ∧ g 1 < g 3) ∧ g 2 < g 3]

theorem best_first : ∀ r : Fin 4 → Fin 4,
    (((r 1 ≤ r 0 ∧ r 2 ≤ r 0) ∧ r 3 ≤ r 0) ↔ (0 : Fin 4) = place r 0) ∧
    (((r 0 < r 1 ∧ r 2 ≤ r 1) ∧ r 3 ≤ r 1) ↔ (1 : Fin 4) = place r 0) ∧
    (((r 0 < r 2 ∧ r 1 < r 2) ∧ r 3 ≤ r 2) ↔ (2 : Fin 4) = place r 0) ∧
    (((r 0 < r 3 ∧ r 1 < r 3) ∧ r 2 < r 3) ↔ (3 : Fin 4) = place r 0) := by
  decide +kernel

theorem best_iff (g : Fin 4 → EReal) (i : Fin 4) : best g i ↔ i = pos g 0 := by
  have h := best_first (level g)
  simp only [level_lt, level_le] at h
  rw [pos_eq_place]
  obtain ⟨h0, h1, h2, h3⟩ := h
  fin_cases i
  · exact h0
  · exact h1
  · exact h2
  · exact h3

/-! ## The two experts of a token -/

/-- Member `i` of group `g`, as one of sixteen. -/
def expert (g i : Fin 4) : Fin 16 := ⟨4 * g.val + i.val, by omega⟩

theorem expert_inj {g i g' i' : Fin 4} (h : expert g i = expert g' i') : g = g' ∧ i = i' := by
  have := Fin.ext_iff.mp h
  simp only [expert] at this
  constructor <;> apply Fin.ext <;> omega

/-- The selection scores of a group's members. -/
def members (sel : Fin 16 → EReal) (g : Fin 4) : Fin 4 → EReal := fun i => sel (expert g i)

/-- A group's score: the sum of its two best members'. -/
def groupScore (sel : Fin 16 → EReal) (g : Fin 4) : EReal :=
  members sel g (pos (members sel g) 0) + members sel g (pos (members sel g) 1)

/-- The chosen group. -/
def star (sel : Fin 16 → EReal) : Fin 4 := pos (groupScore sel) 0

/-- The `k`-th of the two chosen experts. -/
def chosen (sel : Fin 16 → EReal) (k : Fin 2) : Fin 16 :=
  expert (star sel) (pos (members sel (star sel)) (k.castLE (by decide)))

theorem chosen_ne (sel : Fin 16 → EReal) : chosen sel 0 ≠ chosen sel 1 := fun h =>
  pos_ne _ (expert_inj h).2

/-- The affinities of the chosen experts, nothing elsewhere. -/
def picked (s sel : Fin 16 → EReal) (e : Fin 16) : EReal :=
  if e = chosen sel 0 ∨ e = chosen sel 1 then s e else 0

/-- The two affinities' sum. -/
def total (s sel : Fin 16 → EReal) : EReal := s (chosen sel 0) + s (chosen sel 1)

/-- The weight of expert `e` in the token's output. -/
def weight (s sel : Fin 16 → EReal) (e : Fin 16) : EReal := Ideal.div (picked s sel e) (total s sel)

/-- What the pairwise comparisons pick is what the sorts choose. -/
theorem picked_eq (s sel : Fin 16 → EReal) (g i : Fin 4) [Decidable (best (groupScore sel) g ∧ ahead (members sel g) i < 2)] :
    (if best (groupScore sel) g ∧ ahead (members sel g) i < 2 then s (expert g i) else 0) = picked s sel (expert g i) := by
  unfold picked
  refine if_congr ?_ rfl rfl
  rw [best_iff, ahead_lt_two]
  constructor
  · rintro ⟨hg, hi⟩
    subst hg
    exact hi.imp (fun h => congrArg _ h) (fun h => congrArg _ h)
  · rintro (h | h) <;> obtain ⟨hg, hi⟩ := expert_inj h
    · exact ⟨hg, Or.inl (hg ▸ hi)⟩
    · exact ⟨hg, Or.inr (hg ▸ hi)⟩

/-- All sixteen picked affinities sum to the two chosen ones'. -/
theorem sum_picked (s sel : Fin 16 → EReal) : ∑ e, picked s sel e = total s sel := by
  have hne := chosen_ne sel
  have : ∀ e, picked s sel e = (if e = chosen sel 0 then s e else 0) + (if e = chosen sel 1 then s e else 0) := by
    intro e
    unfold picked
    by_cases h0 : e = chosen sel 0
    · have h1 : e ≠ chosen sel 1 := fun h => hne (h0.symm.trans h)
      simp [h0, hne]
    · simp [h0]
  simp only [this, Finset.sum_add_distrib, Finset.sum_ite_eq', Finset.mem_univ, if_true]
  rfl

/-- The weight as the reference has it: each chosen expert's share of the two affinities, placed at its position. It
    takes the two affinities not to cancel: `0 / 0` is not `0`. -/
theorem weight_eq (s sel : Fin 16 → EReal) (h : total s sel ≠ 0) (e : Fin 16) :
    weight s sel e = (if chosen sel 0 = e then 1 else 0) * Ideal.div (s (chosen sel 0)) (total s sel)
      + (if chosen sel 1 = e then 1 else 0) * Ideal.div (s (chosen sel 1)) (total s sel) := by
  have hne := chosen_ne sel
  unfold weight picked
  by_cases h0 : chosen sel 0 = e
  · have h1 : ¬ chosen sel 1 = e := fun h => hne (h0.trans h.symm)
    simp [h0, h1]
  · by_cases h1 : chosen sel 1 = e
    · simp [h0, h1]
    · rw [if_neg (by rintro (h | h); exacts [h0 h.symm, h1 h.symm]), if_neg h0, if_neg h1, Ideal.zero_div h]
      simp

end Cert.Routing
-- ==== Proof.KernelRoute.lean ====
/- The routing tile of the kernel: what its table of expert weights holds. From a tile of rows `x`, the router's weights
   `w` (one row per expert) and biases `b` the kernel computes, expert by expert in the rows of `[1, 1536]` arrays, the
   affinities, the selection scores, the group scores, which members are picked, and lays the picked affinities, divided
   by their sum, out as a `[1536, 128]` table. Read at a row and an expert it is `Routing.weight` of that row's scores. -/
module

public import proofs.«01_k».proof.Proof.Gen.KernelIdeal.Value
public import proofs.«01_k».proof.Proof.Routing
public import Idealize.ShloMosaic.Lib.Pipeline.ValueKit
public import Idealize.ShloMosaic.Lib.Pointwise
public import Idealize.ShloMosaic.PureOps.Ideal

@[expose] public section

set_option maxRecDepth 16384

noncomputable section

namespace Cert.KernelIdeal.Moe

open Idealize.ShloMosaic Cert.KernelIdeal Cert.KernelIdeal.Gen Cert.Routing

/-- The f32 pattern `0x40000000` is the number two. -/
theorem two_f32 : Ideal.ofBits .f32 1073741824#32 = 2 := by
  rw [show (2 : EReal) = ((2 : ℝ) : EReal) from rfl]
  simp [Ideal.ofBits, Ideal.ieee, -EReal.coe_mul]; norm_num

/-- A member's affinity where its group is chosen and fewer than two members are ahead of it, zero elsewhere. -/
def pickIf (c : BitVec 1) (n v : EReal) : EReal :=
  Scalar.select (IntOp.andi c (BitVec.ofBool (decide (n < 2)))) v 0

theorem pickIf_eq (p : Prop) [Decidable p] (n v : EReal) [Decidable (p ∧ n < 2)] :
    pickIf (BitVec.ofBool (decide p)) n v = if p ∧ n < 2 then v else 0 := by
  unfold pickIf
  by_cases hp : p <;> by_cases hn : n < 2 <;> simp [hp, hn, Scalar.select, IntOp.andi]

variable (s sel : FVec Ideal S16x1536 .f32)

/-- The sixteen entries of column `j` of an array with a row per expert. -/
def col (s : FVec Ideal S16x1536 .f32) (j : Fin 1536) (e : Fin 16) : EReal := s (ix2 e j)

/-! ## The picked affinities, expert by expert -/

theorem row_0 (c : IVec S1x1536 1) (j : S1x1536.Idx) :
    k0_pay26 s c (k0_pay24 sel) (k0_pay25 sel) (FloatOps.ofBits FTy.f32 1065353216#32) j = pickIf (c j) (ahead (members (col sel (j 1)) 0) 0) (col s (j 1) (expert 0 0)) := by
  pointwise [k0_pay26, k0_pay24, k0_pay25]
  rw [two_f32]; rfl

theorem row_1 (c : IVec S1x1536 1) (j : S1x1536.Idx) :
    k0_pay27 s sel c j = pickIf (c j) (ahead (members (col sel (j 1)) 0) 1) (col s (j 1) (expert 0 1)) := by
  pointwise [k0_pay27]
  rw [two_f32]; rfl

theorem row_2 (c : IVec S1x1536 1) (j : S1x1536.Idx) :
    k0_pay30 s sel c k0_pay28 (k0_pay29 sel) j = pickIf (c j) (ahead (members (col sel (j 1)) 0) 2) (col s (j 1) (expert 0 2)) := by
  pointwise [k0_pay30, k0_pay28, k0_pay29]
  rw [two_f32]; rfl

theorem row_3 (c : IVec S1x1536 1) (j : S1x1536.Idx) :
    k0_pay32 s (k0_pay31 sel c) j = pickIf (c j) (ahead (members (col sel (j 1)) 0) 3) (col s (j 1) (expert 0 3)) := by
  pointwise [k0_pay32, k0_pay31]
  rw [two_f32]; rfl

theorem row_4 (c : IVec S1x1536 1) (j : S1x1536.Idx) :
    k0_pay33 s sel c j = pickIf (c j) (ahead (members (col sel (j 1)) 1) 0) (col s (j 1) (expert 1 0)) := by
  pointwise [k0_pay33]
  rw [two_f32]; rfl

theorem row_5 (c : IVec S1x1536 1) (j : S1x1536.Idx) :
    k0_pay36 s sel c (k0_pay34 sel) (k0_pay35 sel) j = pickIf (c j) (ahead (members (col sel (j 1)) 1) 1) (col s (j 1) (expert 1 1)) := by
  pointwise [k0_pay36, k0_pay34, k0_pay35]
  rw [two_f32]; rfl

theorem row_6 (c : IVec S1x1536 1) (j : S1x1536.Idx) :
    k0_pay37 s sel c j = pickIf (c j) (ahead (members (col sel (j 1)) 1) 2) (col s (j 1) (expert 1 2)) := by
  pointwise [k0_pay37]
  rw [two_f32]; rfl

theorem row_7 (c : IVec S1x1536 1) (j : S1x1536.Idx) :
    k0_pay40 s sel c k0_pay38 (k0_pay39 sel) j = pickIf (c j) (ahead (members (col sel (j 1)) 1) 3) (col s (j 1) (expert 1 3)) := by
  pointwise [k0_pay40, k0_pay38, k0_pay39]
  rw [two_f32]; rfl

theorem row_8 (c : IVec S1x1536 1) (j : S1x1536.Idx) :
    k0_pay43 s c (k0_pay41 sel) (k0_pay42 sel) j = pickIf (c j) (ahead (members (col sel (j 1)) 2) 0) (col s (j 1) (expert 2 0)) := by
  pointwise [k0_pay43, k0_pay41, k0_pay42]
  rw [two_f32]; rfl

theorem row_9 (c : IVec S1x1536 1) (j : S1x1536.Idx) :
    k0_pay44 s sel c j = pickIf (c j) (ahead (members (col sel (j 1)) 2) 1) (col s (j 1) (expert 2 1)) := by
  pointwise [k0_pay44]
  rw [two_f32]; rfl

theorem row_10 (c : IVec S1x1536 1) (j : S1x1536.Idx) :
    k0_pay47 s sel c (k0_pay45 sel) (k0_pay46 sel) j = pickIf (c j) (ahead (members (col sel (j 1)) 2) 2) (col s (j 1) (expert 2 2)) := by
  pointwise [k0_pay47, k0_pay45, k0_pay46]
  rw [two_f32]; rfl

theorem row_11 (c : IVec S1x1536 1) (j : S1x1536.Idx) :
    k0_pay48 s sel c j = pickIf (c j) (ahead (members (col sel (j 1)) 2) 3) (col s (j 1) (expert 2 3)) := by
  pointwise [k0_pay48]
  rw [two_f32]; rfl

theorem row_12 (c : IVec S1x1536 1) (j : S1x1536.Idx) :
    k0_pay49 s sel c j = pickIf (c j) (ahead (members (col sel (j 1)) 3) 0) (col s (j 1) (expert 3 0)) := by
  pointwise [k0_pay49]
  rw [two_f32]; rfl

theorem row_13 (c : IVec S1x1536 1) (j : S1x1536.Idx) :
    k0_pay52 s c (k0_pay50 sel) (k0_pay51 sel) j = pickIf (c j) (ahead (members (col sel (j 1)) 3) 1) (col s (j 1) (expert 3 1)) := by
  pointwise [k0_pay52, k0_pay50, k0_pay51]
  rw [two_f32]; rfl

theorem row_14 (c : IVec S1x1536 1) (j : S1x1536.Idx) :
    k0_pay53 s sel c j = pickIf (c j) (ahead (members (col sel (j 1)) 3) 2) (col s (j 1) (expert 3 2)) := by
  pointwise [k0_pay53]
  rw [two_f32]; rfl

/-! ## The groups' scores and which group is chosen -/

theorem groupScore_eq (c : Fin 16 → EReal) (g : Fin 4) :
    groupScore c g = top2 (c (expert g 0)) (c (expert g 1)) (c (expert g 2)) (c (expert g 3)) :=
  (top2_eq (members c g)).symm

theorem and_three (p q r : Prop) [Decidable p] [Decidable q] [Decidable r] [Decidable ((p ∧ q) ∧ r)] :
    IntOp.andi (IntOp.andi (BitVec.ofBool (decide p)) (BitVec.ofBool (decide q))) (BitVec.ofBool (decide r))
      = BitVec.ofBool (decide ((p ∧ q) ∧ r)) := by
  by_cases hp : p <;> by_cases hq : q <;> by_cases hr : r <;> simp [hp, hq, hr, IntOp.andi]

variable (x : Vec Ideal S1536x1024 .f32) (w : Vec Ideal S16x1024 .f32) (b : Vec Ideal S16x1 .f32)

theorem mask_0 (j : S1x1536.Idx) [Decidable (best (groupScore (col (k0_pay5 x w b) (j 1))) 0)] :
    k0_pay20 (k0_pay5 x w b) (k0_pay6 x w b) (k0_pay7 x w b) (k0_pay13 x w b) (k0_pay15 x w b) (k0_pay16 x w b) (k0_pay17 x w b) j
      = BitVec.ofBool (decide (best (groupScore (col (k0_pay5 x w b) (j 1))) 0)) := by
  pointwise [k0_pay20, k0_pay6, k0_pay7, k0_pay8, k0_pay9, k0_pay10, k0_pay11, k0_pay12, k0_pay13, k0_pay14, k0_pay15, k0_pay16,
    k0_pay17, k0_pay18, k0_pay19]
  rw [and_three]
  refine congrArg BitVec.ofBool (decide_eq_decide.mpr ?_)
  have h := groupScore_eq (col (k0_pay5 x w b) (j 1))
  show _ ↔ (_ ∧ _) ∧ _
  rw [h 0, h 1, h 2, h 3]
  rfl

theorem mask_1 (j : S1x1536.Idx) [Decidable (best (groupScore (col (k0_pay5 x w b) (j 1))) 1)] :
    k0_pay21 (k0_pay5 x w b) (k0_pay6 x w b) (k0_pay7 x w b) (k0_pay13 x w b) (k0_pay15 x w b) (k0_pay16 x w b) (k0_pay17 x w b) j
      = BitVec.ofBool (decide (best (groupScore (col (k0_pay5 x w b) (j 1))) 1)) := by
  pointwise [k0_pay21, k0_pay6, k0_pay7, k0_pay8, k0_pay9, k0_pay10, k0_pay11, k0_pay12, k0_pay13, k0_pay14, k0_pay15, k0_pay16,
    k0_pay17, k0_pay18, k0_pay19]
  rw [and_three]
  refine congrArg BitVec.ofBool (decide_eq_decide.mpr ?_)
  have h := groupScore_eq (col (k0_pay5 x w b) (j 1))
  show _ ↔ (_ ∧ _) ∧ _
  rw [h 0, h 1, h 2, h 3]
  rfl

theorem mask_2 (j : S1x1536.Idx) [Decidable (best (groupScore (col (k0_pay5 x w b) (j 1))) 2)] :
    k0_pay22 (k0_pay5 x w b) (k0_pay6 x w b) (k0_pay7 x w b) (k0_pay13 x w b) (k0_pay15 x w b) (k0_pay16 x w b) (k0_pay17 x w b) j
      = BitVec.ofBool (decide (best (groupScore (col (k0_pay5 x w b) (j 1))) 2)) := by
  pointwise [k0_pay22, k0_pay6, k0_pay7, k0_pay8, k0_pay9, k0_pay10, k0_pay11, k0_pay12, k0_pay13, k0_pay14, k0_pay15, k0_pay16,
    k0_pay17, k0_pay18, k0_pay19]
  rw [and_three]
  refine congrArg BitVec.ofBool (decide_eq_decide.mpr ?_)
  have h := groupScore_eq (col (k0_pay5 x w b) (j 1))
  show _ ↔ (_ ∧ _) ∧ _
  rw [h 0, h 1, h 2, h 3]
  rfl

theorem mask_3 (j : S1x1536.Idx) [Decidable (best (groupScore (col (k0_pay5 x w b) (j 1))) 3)] :
    k0_pay23 (k0_pay5 x w b) (k0_pay6 x w b) (k0_pay7 x w b) (k0_pay13 x w b) (k0_pay15 x w b) (k0_pay16 x w b) (k0_pay17 x w b) j
      = BitVec.ofBool (decide (best (groupScore (col (k0_pay5 x w b) (j 1))) 3)) := by
  pointwise [k0_pay23, k0_pay6, k0_pay7, k0_pay8, k0_pay9, k0_pay10, k0_pay11, k0_pay12, k0_pay13, k0_pay14, k0_pay15, k0_pay16,
    k0_pay17, k0_pay18, k0_pay19]
  rw [and_three]
  refine congrArg BitVec.ofBool (decide_eq_decide.mpr ?_)
  have h := groupScore_eq (col (k0_pay5 x w b) (j 1))
  show _ ↔ (_ ∧ _) ∧ _
  rw [h 0, h 1, h 2, h 3]
  rfl

/-! ## The table -/

/-- The row the kernel computes for expert `e` (all but the last are named arrays; the last is spelled inside `table`). -/
def pickRow : Fin 15 → FVec Ideal S1x1536 .f32 := ![
  k0_pay26 (k0_pay4 x w) (k0_pay20 (k0_pay5 x w b) (k0_pay6 x w b) (k0_pay7 x w b) (k0_pay13 x w b) (k0_pay15 x w b) (k0_pay16 x w b) (k0_pay17 x w b)) (k0_pay24 (k0_pay5 x w b)) (k0_pay25 (k0_pay5 x w b)) (FloatOps.ofBits FTy.f32 1065353216#32),
  k0_pay27 (k0_pay4 x w) (k0_pay5 x w b) (k0_pay20 (k0_pay5 x w b) (k0_pay6 x w b) (k0_pay7 x w b) (k0_pay13 x w b) (k0_pay15 x w b) (k0_pay16 x w b) (k0_pay17 x w b)),
  k0_pay30 (k0_pay4 x w) (k0_pay5 x w b) (k0_pay20 (k0_pay5 x w b) (k0_pay6 x w b) (k0_pay7 x w b) (k0_pay13 x w b) (k0_pay15 x w b) (k0_pay16 x w b) (k0_pay17 x w b)) k0_pay28 (k0_pay29 (k0_pay5 x w b)),
  k0_pay32 (k0_pay4 x w) (k0_pay31 (k0_pay5 x w b) (k0_pay20 (k0_pay5 x w b) (k0_pay6 x w b) (k0_pay7 x w b) (k0_pay13 x w b) (k0_pay15 x w b) (k0_pay16 x w b) (k0_pay17 x w b))),
  k0_pay33 (k0_pay4 x w) (k0_pay5 x w b) (k0_pay21 (k0_pay5 x w b) (k0_pay6 x w b) (k0_pay7 x w b) (k0_pay13 x w b) (k0_pay15 x w b) (k0_pay16 x w b) (k0_pay17 x w b)),
  k0_pay36 (k0_pay4 x w) (k0_pay5 x w b) (k0_pay21 (k0_pay5 x w b) (k0_pay6 x w b) (k0_pay7 x w b) (k0_pay13 x w b) (k0_pay15 x w b) (k0_pay16 x w b) (k0_pay17 x w b)) (k0_pay34 (k0_pay5 x w b)) (k0_pay35 (k0_pay5 x w b)),
  k0_pay37 (k0_pay4 x w) (k0_pay5 x w b) (k0_pay21 (k0_pay5 x w b) (k0_pay6 x w b) (k0_pay7 x w b) (k0_pay13 x w b) (k0_pay15 x w b) (k0_pay16 x w b) (k0_pay17 x w b)),
  k0_pay40 (k0_pay4 x w) (k0_pay5 x w b) (k0_pay21 (k0_pay5 x w b) (k0_pay6 x w b) (k0_pay7 x w b) (k0_pay13 x w b) (k0_pay15 x w b) (k0_pay16 x w b) (k0_pay17 x w b)) k0_pay38 (k0_pay39 (k0_pay5 x w b)),
  k0_pay43 (k0_pay4 x w) (k0_pay22 (k0_pay5 x w b) (k0_pay6 x w b) (k0_pay7 x w b) (k0_pay13 x w b) (k0_pay15 x w b) (k0_pay16 x w b) (k0_pay17 x w b)) (k0_pay41 (k0_pay5 x w b)) (k0_pay42 (k0_pay5 x w b)),
  k0_pay44 (k0_pay4 x w) (k0_pay5 x w b) (k0_pay22 (k0_pay5 x w b) (k0_pay6 x w b) (k0_pay7 x w b) (k0_pay13 x w b) (k0_pay15 x w b) (k0_pay16 x w b) (k0_pay17 x w b)),
  k0_pay47 (k0_pay4 x w) (k0_pay5 x w b) (k0_pay22 (k0_pay5 x w b) (k0_pay6 x w b) (k0_pay7 x w b) (k0_pay13 x w b) (k0_pay15 x w b) (k0_pay16 x w b) (k0_pay17 x w b)) (k0_pay45 (k0_pay5 x w b)) (k0_pay46 (k0_pay5 x w b)),
  k0_pay48 (k0_pay4 x w) (k0_pay5 x w b) (k0_pay22 (k0_pay5 x w b) (k0_pay6 x w b) (k0_pay7 x w b) (k0_pay13 x w b) (k0_pay15 x w b) (k0_pay16 x w b) (k0_pay17 x w b)),
  k0_pay49 (k0_pay4 x w) (k0_pay5 x w b) (k0_pay23 (k0_pay5 x w b) (k0_pay6 x w b) (k0_pay7 x w b) (k0_pay13 x w b) (k0_pay15 x w b) (k0_pay16 x w b) (k0_pay17 x w b)),
  k0_pay52 (k0_pay4 x w) (k0_pay23 (k0_pay5 x w b) (k0_pay6 x w b) (k0_pay7 x w b) (k0_pay13 x w b) (k0_pay15 x w b) (k0_pay16 x w b) (k0_pay17 x w b)) (k0_pay50 (k0_pay5 x w b)) (k0_pay51 (k0_pay5 x w b)),
  k0_pay53 (k0_pay4 x w) (k0_pay5 x w b) (k0_pay23 (k0_pay5 x w b) (k0_pay6 x w b) (k0_pay7 x w b) (k0_pay13 x w b) (k0_pay15 x w b) (k0_pay16 x w b) (k0_pay17 x w b))]

/-- The table of expert weights the kernel leaves for the tile. -/
def table : FVec Ideal S1536x128 .f32 :=
  k0_pay58 (k0_pay4 x w) (k0_pay5 x w b)
    (k0_pay23 (k0_pay5 x w b) (k0_pay6 x w b) (k0_pay7 x w b) (k0_pay13 x w b) (k0_pay15 x w b) (k0_pay16 x w b) (k0_pay17 x w b))
    (pickRow x w b 0)
    (pickRow x w b 1)
    (pickRow x w b 2)
    (pickRow x w b 3)
    (pickRow x w b 4)
    (pickRow x w b 5)
    (pickRow x w b 6)
    (pickRow x w b 7)
    (pickRow x w b 8)
    (pickRow x w b 9)
    (pickRow x w b 10)
    (pickRow x w b 11)
    (pickRow x w b 12)
    (pickRow x w b 13)
    (pickRow x w b 14)
    k0_pay54 (k0_pay55 (k0_pay5 x w b)) k0_pay56 k0_pay57

theorem pickRow_apply (e : Fin 15) (j : S1x1536.Idx) :
    pickRow x w b e j = picked (col (k0_pay4 x w) (j 1)) (col (k0_pay5 x w b) (j 1)) (e.castLE (by decide)) := by
  classical
  fin_cases e
  · exact (row_0 _ _ _ j).trans ((congrArg (fun c => pickIf c _ _) (mask_0 x w b j)).trans ((pickIf_eq _ _ _).trans (picked_eq _ _ 0 0)))
  · exact (row_1 _ _ _ j).trans ((congrArg (fun c => pickIf c _ _) (mask_0 x w b j)).trans ((pickIf_eq _ _ _).trans (picked_eq _ _ 0 1)))
  · exact (row_2 _ _ _ j).trans ((congrArg (fun c => pickIf c _ _) (mask_0 x w b j)).trans ((pickIf_eq _ _ _).trans (picked_eq _ _ 0 2)))
  · exact (row_3 _ _ _ j).trans ((congrArg (fun c => pickIf c _ _) (mask_0 x w b j)).trans ((pickIf_eq _ _ _).trans (picked_eq _ _ 0 3)))
  · exact (row_4 _ _ _ j).trans ((congrArg (fun c => pickIf c _ _) (mask_1 x w b j)).trans ((pickIf_eq _ _ _).trans (picked_eq _ _ 1 0)))
  · exact (row_5 _ _ _ j).trans ((congrArg (fun c => pickIf c _ _) (mask_1 x w b j)).trans ((pickIf_eq _ _ _).trans (picked_eq _ _ 1 1)))
  · exact (row_6 _ _ _ j).trans ((congrArg (fun c => pickIf c _ _) (mask_1 x w b j)).trans ((pickIf_eq _ _ _).trans (picked_eq _ _ 1 2)))
  · exact (row_7 _ _ _ j).trans ((congrArg (fun c => pickIf c _ _) (mask_1 x w b j)).trans ((pickIf_eq _ _ _).trans (picked_eq _ _ 1 3)))
  · exact (row_8 _ _ _ j).trans ((congrArg (fun c => pickIf c _ _) (mask_2 x w b j)).trans ((pickIf_eq _ _ _).trans (picked_eq _ _ 2 0)))
  · exact (row_9 _ _ _ j).trans ((congrArg (fun c => pickIf c _ _) (mask_2 x w b j)).trans ((pickIf_eq _ _ _).trans (picked_eq _ _ 2 1)))
  · exact (row_10 _ _ _ j).trans ((congrArg (fun c => pickIf c _ _) (mask_2 x w b j)).trans ((pickIf_eq _ _ _).trans (picked_eq _ _ 2 2)))
  · exact (row_11 _ _ _ j).trans ((congrArg (fun c => pickIf c _ _) (mask_2 x w b j)).trans ((pickIf_eq _ _ _).trans (picked_eq _ _ 2 3)))
  · exact (row_12 _ _ _ j).trans ((congrArg (fun c => pickIf c _ _) (mask_3 x w b j)).trans ((pickIf_eq _ _ _).trans (picked_eq _ _ 3 0)))
  · exact (row_13 _ _ _ j).trans ((congrArg (fun c => pickIf c _ _) (mask_3 x w b j)).trans ((pickIf_eq _ _ _).trans (picked_eq _ _ 3 1)))
  · exact (row_14 _ _ _ j).trans ((congrArg (fun c => pickIf c _ _) (mask_3 x w b j)).trans ((pickIf_eq _ _ _).trans (picked_eq _ _ 3 2)))

theorem weight_eq_div (s sel : Fin 16 → EReal) (e : Fin 16) :
    weight s sel e = Ideal.div (picked s sel e) (((((((((((((((picked s sel 0 + picked s sel 1) + picked s sel 2) + picked s sel 3) + picked s sel 4) + picked s sel 5) + picked s sel 6) + picked s sel 7) + picked s sel 8) + picked s sel 9) + picked s sel 10) + picked s sel 11) + picked s sel 12) + picked s sel 13) + picked s sel 14) + picked s sel 15) := by
  rw [weight, ← sum_picked]
  simp only [Fin.sum_univ_castSucc, Fin.sum_univ_zero, zero_add]
  rfl

/-- The last expert's picked affinity, computed where the table is put together. -/
theorem last_row (r : Fin 1536) :
    pickIf (k0_pay23 (k0_pay5 x w b) (k0_pay6 x w b) (k0_pay7 x w b) (k0_pay13 x w b) (k0_pay15 x w b) (k0_pay16 x w b) (k0_pay17 x w b) (ix2 0 r))
        (ahead (members (col (k0_pay5 x w b) r) 3) 3) (col (k0_pay4 x w) r (expert 3 3))
      = picked (col (k0_pay4 x w) r) (col (k0_pay5 x w b) r) 15 := by
  classical
  exact (congrArg (fun c => pickIf c _ _) (mask_3 x w b (ix2 0 r))).trans ((pickIf_eq _ _ _).trans (picked_eq _ _ 3 3))

theorem table_0 (r : Fin 1536) : table x w b (ix2 r ⟨0, by omega⟩) = weight (col (k0_pay4 x w) r) (col (k0_pay5 x w b) r) 0 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_1 (r : Fin 1536) : table x w b (ix2 r ⟨1, by omega⟩) = weight (col (k0_pay4 x w) r) (col (k0_pay5 x w b) r) 1 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_2 (r : Fin 1536) : table x w b (ix2 r ⟨2, by omega⟩) = weight (col (k0_pay4 x w) r) (col (k0_pay5 x w b) r) 2 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_3 (r : Fin 1536) : table x w b (ix2 r ⟨3, by omega⟩) = weight (col (k0_pay4 x w) r) (col (k0_pay5 x w b) r) 3 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_4 (r : Fin 1536) : table x w b (ix2 r ⟨4, by omega⟩) = weight (col (k0_pay4 x w) r) (col (k0_pay5 x w b) r) 4 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_5 (r : Fin 1536) : table x w b (ix2 r ⟨5, by omega⟩) = weight (col (k0_pay4 x w) r) (col (k0_pay5 x w b) r) 5 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_6 (r : Fin 1536) : table x w b (ix2 r ⟨6, by omega⟩) = weight (col (k0_pay4 x w) r) (col (k0_pay5 x w b) r) 6 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_7 (r : Fin 1536) : table x w b (ix2 r ⟨7, by omega⟩) = weight (col (k0_pay4 x w) r) (col (k0_pay5 x w b) r) 7 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_8 (r : Fin 1536) : table x w b (ix2 r ⟨8, by omega⟩) = weight (col (k0_pay4 x w) r) (col (k0_pay5 x w b) r) 8 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_9 (r : Fin 1536) : table x w b (ix2 r ⟨9, by omega⟩) = weight (col (k0_pay4 x w) r) (col (k0_pay5 x w b) r) 9 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_10 (r : Fin 1536) : table x w b (ix2 r ⟨10, by omega⟩) = weight (col (k0_pay4 x w) r) (col (k0_pay5 x w b) r) 10 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_11 (r : Fin 1536) : table x w b (ix2 r ⟨11, by omega⟩) = weight (col (k0_pay4 x w) r) (col (k0_pay5 x w b) r) 11 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_12 (r : Fin 1536) : table x w b (ix2 r ⟨12, by omega⟩) = weight (col (k0_pay4 x w) r) (col (k0_pay5 x w b) r) 12 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_13 (r : Fin 1536) : table x w b (ix2 r ⟨13, by omega⟩) = weight (col (k0_pay4 x w) r) (col (k0_pay5 x w b) r) 13 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_14 (r : Fin 1536) : table x w b (ix2 r ⟨14, by omega⟩) = weight (col (k0_pay4 x w) r) (col (k0_pay5 x w b) r) 14 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

theorem table_15 (r : Fin 1536) : table x w b (ix2 r ⟨15, by omega⟩) = weight (col (k0_pay4 x w) r) (col (k0_pay5 x w b) r) 15 := by
  have hrow := fun e => pickRow_apply x w b e (ix2 0 r)
  have hlast := last_row x w b r
  unfold table
  rw [weight_eq_div, ← hlast]
  generalize pickRow x w b = p at hrow ⊢
  pointwise [k0_pay58, k0_pay54, k0_pay55, k0_pay56, k0_pay57]
  rw [two_f32, hrow 0, hrow 1, hrow 2, hrow 3, hrow 4, hrow 5, hrow 6, hrow 7, hrow 8, hrow 9, hrow 10, hrow 11, hrow 12, hrow 13, hrow 14]
  rfl

/-- The table at a row and an expert. -/
theorem table_apply (r : Fin 1536) (e : Fin 16) :
    table x w b (ix2 r ⟨e.val, by omega⟩) = weight (col (k0_pay4 x w) r) (col (k0_pay5 x w b) r) e := by
  fin_cases e
  · exact table_0 x w b r
  · exact table_1 x w b r
  · exact table_2 x w b r
  · exact table_3 x w b r
  · exact table_4 x w b r
  · exact table_5 x w b r
  · exact table_6 x w b r
  · exact table_7 x w b r
  · exact table_8 x w b r
  · exact table_9 x w b r
  · exact table_10 x w b r
  · exact table_11 x w b r
  · exact table_12 x w b r
  · exact table_13 x w b r
  · exact table_14 x w b r
  · exact table_15 x w b r

end Cert.KernelIdeal.Moe
-- ==== Proof.KernelCases.lean ====
/- What the kernel's carried buffers hold after a grid point, in terms of what they held before: the tile of activations and
   the table of expert weights are made at a row tile's first point and kept at the others; every point adds one expert's
   weighted output to the accumulator; the last point of a row tile also writes the result. -/
module

public import proofs.«01_k».proof.Proof.Gen.KernelIdeal.Value
public import proofs.«01_k».proof.Proof.KernelRoute
public import Idealize.ShloMosaic.Lib.Pipeline.ValueKit
public import Idealize.ShloMosaic.PureOps.Ideal

@[expose] public section

set_option maxRecDepth 16384

noncomputable section

namespace Cert.KernelIdeal.Moe

open Idealize.ShloMosaic Idealize.ShloMosaic.TcCoe Cert.KernelIdeal Cert.KernelIdeal.Gen

variable (m : (ℓ : Loc nD τ sig) → Buf (Elt Ideal) ℓ) (c : Dev nD) (t : Fin cfg0.N)

theorem lt_of_pred : t.val - 1 < cfg0.N := Nat.lt_of_le_of_lt (Nat.sub_le _ _) t.isLt

/-- The tile of activations after a point. -/
abbrev actAt (n : Nat) (hn : n < cfg0.N) : Vec Ideal S1536x1024 .bf16 := (outsAt0 m c n hn).2.1
/-- The table of expert weights after a point. -/
abbrev tableAt (n : Nat) (hn : n < cfg0.N) : Vec Ideal S1536x128 .f32 := (outsAt0 m c n hn).2.2.1
/-- The accumulator after a point. -/
abbrev accAt (n : Nat) (hn : n < cfg0.N) : Vec Ideal S1536x1024 .f32 := (outsAt0 m c n hn).2.2.2

/-- A buffer stored whole is read back as it was stored. -/
theorem back_act (h : (Memref.whole cc0_scratch0).IsWhole) (X : Vec Ideal S1536x1024 .bf16) :
    View.read (Elt Ideal) (View.whole cc0_scratch0) (h.unread X) = X := h.read_unread X
theorem back_table (h : (Memref.whole cc0_scratch1).IsWhole) (X : Vec Ideal S1536x128 .f32) :
    View.read (Elt Ideal) (View.whole cc0_scratch1) (h.unread X) = X := h.read_unread X
theorem back_acc (h : (Memref.whole cc0_scratch2).IsWhole) (X : Vec Ideal S1536x1024 .f32) :
    View.read (Elt Ideal) (View.whole cc0_scratch2) (h.unread X) = X := h.read_unread X

theorem act_first (h0 : t.val % 16 = 0) : actAt m c t.val t.isLt = k0_pay3 (iblk m c 0 t) := by
  have h1 : ¬t.val % 16 = 15 := by omega
  unfold actAt
  rw [outsAt0_A m c t h0 h1]; frame_out

theorem table_first (h0 : t.val % 16 = 0) : tableAt m c t.val t.isLt = table (iblk m c 0 t) (iblk m c 1 t) (iblk m c 2 t) := by
  have h1 : ¬t.val % 16 = 15 := by omega
  unfold tableAt
  rw [outsAt0_A m c t h0 h1]; frame_out
  rfl

theorem acc_first (h0 : t.val % 16 = 0) : accAt m c t.val t.isLt
    = k0_pay61 (grid0.coords t) (actAt m c t.val t.isLt) (iblk m c 3 t) (iblk m c 4 t) (iblk m c 5 t) (tableAt m c t.val t.isLt)
        (k0_pay60 (F := Ideal) k0_pay59) := by
  rw [act_first m c t h0, table_first m c t h0]
  have h1 : ¬t.val % 16 = 15 := by omega
  unfold accAt
  rw [outsAt0_A m c t h0 h1]; frame_out
  rfl

theorem act_next (h0 : ¬t.val % 16 = 0) : actAt m c t.val t.isLt = actAt m c (t.val - 1) (lt_of_pred t) := by
  unfold actAt
  by_cases h1 : t.val % 16 = 15
  · rw [outsAt0_C m c t h0 h1]; rfl
  · rw [outsAt0_B m c t h0 h1]; rfl

theorem table_next (h0 : ¬t.val % 16 = 0) : tableAt m c t.val t.isLt = tableAt m c (t.val - 1) (lt_of_pred t) := by
  unfold tableAt
  by_cases h1 : t.val % 16 = 15
  · rw [outsAt0_C m c t h0 h1]; rfl
  · rw [outsAt0_B m c t h0 h1]; rfl

theorem acc_next (h0 : ¬t.val % 16 = 0) : accAt m c t.val t.isLt
    = k0_pay61 (grid0.coords t) (actAt m c t.val t.isLt) (iblk m c 3 t) (iblk m c 4 t) (iblk m c 5 t) (tableAt m c t.val t.isLt)
        (accAt m c (t.val - 1) (lt_of_pred t)) := by
  rw [act_next m c t h0, table_next m c t h0]
  unfold accAt
  by_cases h1 : t.val % 16 = 15
  · rw [outsAt0_C m c t h0 h1]; frame_out; rw [back_act, back_table, back_acc]
  · rw [outsAt0_B m c t h0 h1]; frame_out; rw [back_act, back_table, back_acc]

theorem out_last (h1 : t.val % 16 = 15) : (outsAt0 m c t.val t.isLt).1
    = k0_pay1 (iblk m c 0 t) (accAt m c t.val t.isLt) (iblk m c 6 t) (iblk m c 7 t) := by
  have h0 : ¬t.val % 16 = 0 := by omega
  rw [acc_next m c t h0, act_next m c t h0, table_next m c t h0]
  rw [outsAt0_C m c t h0 h1]; frame_out; rw [back_act, back_table, back_acc]

end Cert.KernelIdeal.Moe
-- ==== Proof.Moe.lean ====
/- The sublayer's mathematics on one token: the routing scores, an expert's feed-forward, their weighted sum, and the
   layer norm of the residual sum. Both programs are shown to compute `layer`, the kernel with `Routing.weight` for the
   weights and the reference with `share`, which is the same except where the two affinities cancel. -/
module

public import Idealize.ShloMosaic.PureOps
public import Idealize.ShloMosaic.PureOps.Ideal
public import proofs.«01_k».proof.Proof.Routing

@[expose] public section

noncomputable section

namespace Cert.Moe

open Idealize.ShloMosaic Cert.Routing

/-- The residual's factor, the f32 nearest to the square root of two. -/
def alpha : EReal := Ideal.ofBits .f32 1068827891#32
/-- The number of features, as the programs spell it. -/
def width : EReal := Ideal.ofBits .f32 1149239296#32
/-- The layer norm's small constant. -/
def eps : EReal := Ideal.ofBits .f32 925353388#32

/-- The mean of a token's features. -/
def mean (y : Fin 1024 → EReal) : EReal := Ideal.div (∑ k, y k) width

/-- Layer norm of a token at feature `d`, with scale `g` and shift `b`. -/
def norm (y : Fin 1024 → EReal) (g b : EReal) (d : Fin 1024) : EReal :=
  (y d - mean y) * Ideal.rsqrt (mean (fun k => (y k - mean y) * (y k - mean y)) + eps) * g + b

/-- The affinity of a token for expert `e`. -/
def affinity (x : Fin 1024 → EReal) (wr : Fin 1024 → Fin 16 → EReal) (e : Fin 16) : EReal :=
  Ideal.logistic (∑ k, x k * wr k e)

/-- The score experts are chosen by: the affinity and the expert's bias. -/
def score (x : Fin 1024 → EReal) (wr : Fin 1024 → Fin 16 → EReal) (br : Fin 16 → EReal) (e : Fin 16) : EReal :=
  affinity x wr e + br e

/-- A product of a token with a matrix. -/
def lin (x : Fin 1024 → EReal) (w : Fin 1024 → Fin 512 → EReal) (f : Fin 512) : EReal := ∑ k, x k * w k f

/-- One expert's gated feed-forward. -/
def expertOut (x : Fin 1024 → EReal) (w1 w3 : Fin 1024 → Fin 512 → EReal) (w2 : Fin 512 → Fin 1024 → EReal) (d : Fin 1024) : EReal :=
  ∑ f, lin x w1 f * Ideal.logistic (lin x w1 f) * lin x w3 f * w2 f d

/-- The experts' outputs weighted by `wt`. -/
def mix (wt : Fin 16 → EReal) (x : Fin 1024 → EReal) (w1 w3 : Fin 16 → Fin 1024 → Fin 512 → EReal)
    (w2 : Fin 16 → Fin 512 → Fin 1024 → EReal) (d : Fin 1024) : EReal :=
  ∑ e, wt e * expertOut x (w1 e) (w3 e) (w2 e) d

/-- The sublayer on one token. -/
def layer (wt : Fin 16 → EReal) (x : Fin 1024 → EReal) (w1 w3 : Fin 16 → Fin 1024 → Fin 512 → EReal)
    (w2 : Fin 16 → Fin 512 → Fin 1024 → EReal) (g b : Fin 1024 → EReal) (d : Fin 1024) : EReal :=
  norm (fun d => alpha * x d + mix wt x w1 w3 w2 d) (g d) (b d) d

/-- The reference's weight of expert `e`: each chosen expert's share of the two affinities, at its position. -/
def share (s sel : Fin 16 → EReal) (e : Fin 16) : EReal :=
  (if chosen sel 0 = e then 1 else 0) * Ideal.div (s (chosen sel 0)) (total s sel)
    + (if chosen sel 1 = e then 1 else 0) * Ideal.div (s (chosen sel 1)) (total s sel)

end Cert.Moe
-- ==== Proof.KernelValue.lean ====
/- What the kernel's result array holds: at token `n` and feature `d`, the sublayer of that token, the experts weighted by
   `Routing.weight` of the token's scores. -/
module

public import proofs.«01_k».proof.Proof.KernelBlocks
public import proofs.«01_k».proof.Proof.KernelCases
public import proofs.«01_k».proof.Proof.KernelRoute
public import proofs.«01_k».proof.Proof.Moe
public import Idealize.ShloMosaic.Lib.Pipeline.ValueKit
public import Idealize.ShloMosaic.Lib.Pointwise

@[expose] public section

set_option maxRecDepth 16384

noncomputable section

namespace Cert.KernelIdeal.Moe

open Idealize.ShloMosaic Idealize.ShloMosaic.TcCoe Cert.KernelIdeal Cert.KernelIdeal.Gen Cert.Routing Cert.Moe

/-! ## The body's arithmetic at an index -/

/-- Of the table's 128 lanes the sum keeps the expert's own. -/
theorem lane_sum (cb : Fin 128 → EReal) (n : Nat) (hn : n < 128) :
    (∑ l : Fin 128, Scalar.select (IntOp.cmpi CmpIPredicate.eq (BitVec.ofNat 32 l.val) (BitVec.ofNat 32 n)) (cb l) 0) = cb ⟨n, hn⟩ := by
  rw [Finset.sum_eq_single (⟨n, hn⟩ : Fin 128)]
  · simp [Scalar.select, IntOp.cmpi]
  · intro l _ hl
    have hne : ¬ BitVec.ofNat 32 l.val = BitVec.ofNat 32 n := fun h => hl (by
      have h' := congrArg BitVec.toNat h
      simp only [BitVec.toNat_ofNat] at h'
      have := l.isLt
      apply Fin.ext
      show l.val = n
      omega)
    have hb : (BitVec.ofNat 32 l.val == BitVec.ofNat 32 n) = false := beq_eq_false_iff_ne.mpr hne
    simp [Scalar.select, IntOp.cmpi, hb]
  · simp

theorem pay_acc (i : grid0.Coords) (xb : Vec Ideal S1536x1024 .bf16) (a b : Vec Ideal S1x1024x512 .bf16) (w : Vec Ideal S1x512x1024 .bf16)
    (cb : Vec Ideal S1536x128 .f32) (acc : Vec Ideal S1536x1024 .f32) (r : Fin 1536) (d : Fin 1024) (n : Nat) (hn : n < 128)
    (hi : (i 1).val = n) :
    k0_pay61 (F := Ideal) i xb a b w cb acc (ix2 r d)
      = acc (ix2 r d) + cb (ix2 r ⟨n, hn⟩)
          * expertOut (fun k => xb (ix2 r k)) (fun k f => a (ix3 0 k f)) (fun k f => b (ix3 0 k f)) (fun f d => w (ix3 0 f d)) d := by
  pointwise [k0_pay61]
  rw [hi, lane_sum (fun l => cb (ix2 r l)) _ hn]
  rfl

theorem pay_out (h a : Vec Ideal S1536x1024 .f32) (g b : Vec Ideal S1x1024 .f32) (r : Fin 1536) (d : Fin 1024) :
    k0_pay1 (F := Ideal) h a g b (ix2 r d)
      = norm (fun d => alpha * h (ix2 r d) + a (ix2 r d)) (g (ix2 0 d)) (b (ix2 0 d)) d := by
  pointwise [k0_pay1]
  rfl

theorem pay_zero (j : S1536x1024.Idx) : k0_pay60 (F := Ideal) k0_pay59 j = 0 := by
  pointwise [k0_pay60, k0_pay59]

theorem pay_act (h : Vec Ideal S1536x1024 .f32) (j : S1536x1024.Idx) : k0_pay3 (F := Ideal) h j = h j := by
  pointwise [k0_pay3, k0_pay2]

theorem pay_affinity (x : Vec Ideal S1536x1024 .f32) (w : Vec Ideal S16x1024 .f32) (r : Fin 1536) :
    col (k0_pay4 x w) r = affinity (fun k => x (ix2 r k)) (fun k e => w (ix2 e k)) := by
  funext e
  unfold col affinity
  pointwise! [k0_pay4, k0_pay2]

theorem pay_score (x : Vec Ideal S1536x1024 .f32) (w : Vec Ideal S16x1024 .f32) (b : Vec Ideal S16x1 .f32) (r : Fin 1536) :
    col (k0_pay5 x w b) r = score (fun k => x (ix2 r k)) (fun k e => w (ix2 e k)) (fun e => b (ix2 e 0)) := by
  funext e
  unfold col score affinity
  pointwise! [k0_pay5, k0_pay4, k0_pay2]

/-! ## The carried buffers, point by point -/

variable (m : (ℓ : Loc nD τ sig) → Buf (Elt Ideal) ℓ) (c : Dev nD)

/-- Row `r` of tile `q` of the activations. -/
abbrev row (q : Fin 11) (r : Fin 1536) : Fin 1024 → EReal := token m c (rowOf q r)

/-- The expert weights of token `n`. -/
def weights (n : Fin 16896) : Fin 16 → EReal :=
  weight (affinity (token m c n) (router m c)) (score (token m c n) (router m c) (bias m c))

theorem tile_pred (t : Fin cfg0.N) (h0 : ¬t.val % 16 = 0) : tile ⟨t.val - 1, lt_of_pred t⟩ = tile t :=
  Fin.ext (show (t.val - 1) / 16 = t.val / 16 by omega)

theorem act_eq (n : Nat) : ∀ (t : Fin cfg0.N), t.val = n → ∀ r k, actAt m c t.val t.isLt (ix2 r k) = row m c (tile t) r k := by
  induction n with
  | zero =>
    intro t ht r k
    rw [act_first m c t (by omega), pay_act, read_h]
  | succ n ih =>
    intro t ht r k
    by_cases h0 : t.val % 16 = 0
    · rw [act_first m c t h0, pay_act, read_h]
    · rw [act_next m c t h0, ← tile_pred t h0]
      exact ih ⟨t.val - 1, lt_of_pred t⟩ (show t.val - 1 = n by omega) r k

theorem table_first_eq (t : Fin cfg0.N) (h0 : t.val % 16 = 0) (r : Fin 1536) (e : Fin 16) :
    tableAt m c t.val t.isLt (ix2 r ⟨e.val, by omega⟩) = weights m c (rowOf (tile t) r) e := by
  rw [table_first m c t h0, table_apply, pay_affinity, pay_score]
  unfold weights
  simp only [read_h, read_router, read_bias]

theorem table_eq (n : Nat) : ∀ (t : Fin cfg0.N), t.val = n → ∀ (r : Fin 1536) (e : Fin 16),
    tableAt m c t.val t.isLt (ix2 r ⟨e.val, by omega⟩) = weights m c (rowOf (tile t) r) e := by
  induction n with
  | zero => intro t ht r e; exact table_first_eq m c t (by omega) r e
  | succ n ih =>
    intro t ht r e
    by_cases h0 : t.val % 16 = 0
    · exact table_first_eq m c t h0 r e
    · rw [table_next m c t h0, ← tile_pred t h0]
      exact ih ⟨t.val - 1, lt_of_pred t⟩ (by show t.val - 1 = n; omega) r e

/-- What one point adds to the accumulator. -/
def contribution (t : Fin cfg0.N) (r : Fin 1536) (d : Fin 1024) : EReal :=
  weights m c (rowOf (tile t) r) (expertOf t)
    * expertOut (row m c (tile t) r) (w1 m c (expertOf t)) (w3 m c (expertOf t)) (w2 m c (expertOf t)) d

theorem pay_contribution (t : Fin cfg0.N) (acc : Vec Ideal S1536x1024 .f32) (r : Fin 1536) (d : Fin 1024) :
    k0_pay61 (grid0.coords t) (actAt m c t.val t.isLt) (iblk m c 3 t) (iblk m c 4 t) (iblk m c 5 t) (tableAt m c t.val t.isLt) acc (ix2 r d)
      = acc (ix2 r d) + contribution m c t r d := by
  rw [pay_acc _ _ _ _ _ _ _ r d (expertOf t).val (by omega) (coord_expert t), table_eq m c t.val t rfl]
  unfold contribution
  simp only [act_eq m c t.val t rfl, read_w1, read_w3, read_w2]

/-- At a row tile's last point the accumulator is the sum of the sixteen contributions. -/
theorem acc_last (t : Fin cfg0.N) (h1 : t.val % 16 = 15) (r : Fin 1536) (d : Fin 1024) :
    accAt m c t.val t.isLt (ix2 r d) = mix (weights m c (rowOf (tile t) r)) (row m c (tile t) r) (w1 m c) (w3 m c) (w2 m c) d := by
  have h := Pipeline.eq_sum_fin_of_reset_step_apply_of_flush (fun n h (_ : Unit) => accAt m c n h (ix2 r d)) 16 (fun _ => 0)
    (fun t _ => contribution m c t r d)
    (fun t h _ => by
      show accAt m c t.val t.isLt (ix2 r d) = 0 + contribution m c t r d
      rw [acc_first m c t h, pay_contribution, pay_zero])
    (fun t h _ => by
      show accAt m c t.val t.isLt (ix2 r d) = accAt m c (t.val - 1) _ (ix2 r d) + contribution m c t r d
      rw [acc_next m c t h, pay_contribution]) t h1 ()
  refine h.trans ((zero_add _).trans ?_)
  unfold mix
  refine Finset.sum_congr rfl fun e _ => ?_
  have hq : tile ⟨16 * (t.val / 16) + e.val, Pipeline.run_point_lt_of_flush t h1 e⟩ = tile t :=
    Fin.ext (show (16 * (t.val / 16) + e.val) / 16 = t.val / 16 by omega)
  have hx : expertOf ⟨16 * (t.val / 16) + e.val, Pipeline.run_point_lt_of_flush t h1 e⟩ = e :=
    Fin.ext (show (16 * (t.val / 16) + e.val) % 16 = e.val by omega)
  unfold contribution
  rw [hq, hx]

/-- What a row tile's last point writes. -/
theorem out_eq (t : Fin cfg0.N) (h1 : t.val % 16 = 15) (r : Fin 1536) (d : Fin 1024) :
    (outsAt0 m c t.val t.isLt).1 (ix2 r d)
      = layer (weights m c (rowOf (tile t) r)) (row m c (tile t) r) (w1 m c) (w3 m c) (w2 m c) (scale m c) (shift m c) d := by
  rw [out_last m c t h1, pay_out, read_scale, read_shift]
  unfold layer
  simp only [read_h, acc_last m c t h1]

/-- The kernel's result at token `n` and feature `d`. -/
def result (n : Fin 16896) (d : Fin 1024) : EReal :=
  layer (weights m c n) (token m c n) (w1 m c) (w3 m c) (w2 m c) (scale m c) (shift m c) d

theorem G8_apply (i : S16896x1024.Idx) : Value.G8 m c i = result m c (i 0) (i 1) := by
  have b0 : (i 0).val < 16896 := (i 0).isLt
  have b1 : (i 1).val < 1024 := (i 1).isLt
  have hp : Value.pt8Of i = 16 * ((i 0).val / 1536) + 15 := by
    show 16 * (1 * ((i 0).val / 1536 - 0) + 1 * ((i 1).val / 1024 - 0)) + 15 = _
    omega
  have hlt : Value.pt8Of i < cfg0.N := lt_of_lt_of_eq (by omega) N_0.symm
  unfold Value.G8
  rw [dif_pos hlt, ← Value.outsAt0_sweep m c _ hlt]
  have ht : (⟨Value.pt8Of i, hlt⟩ : Fin cfg0.N).val % 16 = 15 := by show Value.pt8Of i % 16 = 15; omega
  let r : Fin 1536 := ⟨(i 0).val % 1536, Nat.mod_lt _ (by omega)⟩
  have hl : Value.loc8Of i = ix2 r ⟨(i 1).val, b1⟩ := by
    funext a
    match a with
    | ⟨0, _⟩ => rfl
    | ⟨1, _⟩ => exact Fin.ext (show (i 1).val % 1024 = (i 1).val by omega)
  have hr : rowOf (tile ⟨Value.pt8Of i, hlt⟩) r = i 0 :=
    Fin.ext (show 1536 * (Value.pt8Of i / 16) + (i 0).val % 1536 = (i 0).val by omega)
  rw [hl]
  refine (out_eq m c ⟨Value.pt8Of i, hlt⟩ ht r ⟨(i 1).val, b1⟩).trans ?_
  unfold row
  rw [hr]
  rfl

end Cert.KernelIdeal.Moe
-- ==== Proof.LayerNorm.lean ====
/- Why it does not matter how the experts' weights are spelled. A token whose features are all finite has positive
   affinities, and then the two spellings of the weights agree. A token with an infinite feature keeps it through the residual
   sum, whatever the experts add, and the layer norm of a row with an infinite entry is its shift. -/
module

public import proofs.«01_k».proof.Proof.Moe

@[expose] public section

noncomputable section

namespace Cert.Moe

open Idealize.ShloMosaic Cert.Routing

/-! ## The constants -/

theorem width_eq : width = ((1024 : ℝ) : EReal) := by
  unfold width
  simp [Ideal.ofBits, Ideal.ieee, -EReal.coe_mul]; norm_num

theorem alpha_pos : ∃ a : ℝ, 0 < a ∧ alpha = (a : EReal) := by
  unfold alpha
  refine ⟨11863283 / 8388608, by norm_num, ?_⟩
  simp [Ideal.ofBits, Ideal.ieee, -EReal.coe_mul]; norm_num

theorem eps_coe : ∃ e : ℝ, eps = (e : EReal) := by
  unfold eps
  simp only [Ideal.ofBits, Ideal.ieee]
  exact ⟨_, rfl⟩

/-! ## Infinite entries -/

/-- A value that is not a real number. -/
def Inf (v : EReal) : Prop := v = ⊤ ∨ v = ⊥

theorem inf_add_left {a : EReal} (h : Inf a) (b : EReal) : Inf (a + b) := by
  rcases h with rfl | rfl
  · induction b with
    | bot => exact Or.inr rfl
    | coe b => exact Or.inl (EReal.top_add_coe b)
    | top => exact Or.inl rfl
  · exact Or.inr (EReal.bot_add b)

theorem inf_add_right (a : EReal) {b : EReal} (h : Inf b) : Inf (a + b) := by
  rw [add_comm]; exact inf_add_left h a

theorem inf_neg {a : EReal} (h : Inf a) : Inf (-a) := by
  rcases h with rfl | rfl
  · exact Or.inr rfl
  · exact Or.inl rfl

theorem inf_sum {n : Nat} (f : Fin n → EReal) (k : Fin n) (h : Inf (f k)) : Inf (∑ i, f i) := by
  rw [← Finset.add_sum_erase _ _ (Finset.mem_univ k)]
  exact inf_add_left h _

theorem inf_mul_self {a : EReal} (h : Inf a) : a * a = ⊤ := by
  rcases h with rfl | rfl <;> rfl

theorem inf_scale {a : EReal} (h : Inf a) : Inf (alpha * a) := by
  obtain ⟨r, hr, hα⟩ := alpha_pos
  rw [hα]
  rcases h with rfl | rfl
  · exact Or.inl (EReal.coe_mul_top_of_pos hr)
  · exact Or.inr (EReal.coe_mul_bot_of_pos hr)

theorem div_width (a : EReal) : Ideal.div a width = a * (((1024 : ℝ)⁻¹ : ℝ) : EReal) := by
  rw [width_eq]
  unfold Ideal.div
  rw [if_neg (by exact_mod_cast (by norm_num : (1024 : ℝ) ≠ 0)), EReal.coe_inv]

theorem inf_mean {y : Fin 1024 → EReal} (k : Fin 1024) (h : Inf (y k)) : Inf (mean y) := by
  unfold mean
  rw [div_width]
  rcases inf_sum y k h with h | h <;> rw [h]
  · exact Or.inl (EReal.top_mul_coe_of_pos (by norm_num))
  · exact Or.inr (EReal.bot_mul_coe_of_pos (by norm_num))

theorem mean_top : mean (fun _ => ⊤) = ⊤ := by
  have hs : (∑ _k : Fin 1024, (⊤ : EReal)) = ⊤ := by
    rw [← Finset.add_sum_erase _ _ (Finset.mem_univ (0 : Fin 1024))]
    refine EReal.top_add_of_ne_bot (ne_of_gt (lt_of_lt_of_le (EReal.bot_lt_zero) (Finset.sum_nonneg fun _ _ => le_top)))
  unfold mean
  rw [hs, div_width]
  exact EReal.top_mul_coe_of_pos (by norm_num)

/-- The layer norm of a row with an infinite entry is the shift: every centred entry is infinite, so the variance is infinite
    and its inverse root is zero. -/
theorem norm_of_inf (y : Fin 1024 → EReal) (k : Fin 1024) (h : Inf (y k)) (g b : EReal) (d : Fin 1024) : norm y g b d = b := by
  have hc : ∀ i, Inf (y i - mean y) := fun i => by
    rw [sub_eq_add_neg]; exact inf_add_right _ (inf_neg (inf_mean k h))
  obtain ⟨e, he⟩ := eps_coe
  unfold norm
  rw [funext fun i => inf_mul_self (hc i), mean_top, he, EReal.top_add_coe, Ideal.rsqrt_top, mul_zero, zero_mul, zero_add]

/-! ## Finite rows -/

theorem coe_of_not_inf {a : EReal} (h : ¬Inf a) : ∃ r : ℝ, a = (r : EReal) := by
  induction a with
  | bot => exact absurd (Or.inr rfl) h
  | coe r => exact ⟨r, rfl⟩
  | top => exact absurd (Or.inl rfl) h

theorem sum_coe {n : Nat} (f : Fin n → EReal) (h : ∀ i, ∃ r : ℝ, f i = (r : EReal)) : ∃ r : ℝ, ∑ i, f i = (r : EReal) := by
  refine Finset.sum_induction f (fun a => ∃ r : ℝ, a = (r : EReal)) ?_ ⟨0, rfl⟩ fun i _ => h i
  rintro _ _ ⟨a, rfl⟩ ⟨b, rfl⟩
  exact ⟨a + b, (EReal.coe_add a b).symm⟩

theorem affinity_pos (x : Fin 1024 → EReal) (wr : Fin 1024 → Fin 16 → EReal) (hx : ∀ k, ¬Inf (x k)) (hw : ∀ k e, ¬Inf (wr k e))
    (e : Fin 16) : 0 < affinity x wr e := by
  obtain ⟨r, hr⟩ := sum_coe (fun k => x k * wr k e) fun k => by
    obtain ⟨a, ha⟩ := coe_of_not_inf (hx k)
    obtain ⟨b, hb⟩ := coe_of_not_inf (hw k e)
    exact ⟨a * b, by rw [ha, hb, EReal.coe_mul]⟩
  unfold affinity
  rw [hr, Ideal.logistic_coe]
  exact_mod_cast inv_pos.mpr (by positivity)

/-- With a finite router the sublayer is the same under the kernel's spelling of the weights and under the reference's. -/
theorem layer_weight (x : Fin 1024 → EReal) (wr : Fin 1024 → Fin 16 → EReal) (hw : ∀ k e, ¬Inf (wr k e)) (sel : Fin 16 → EReal)
    (w1 w3 : Fin 16 → Fin 1024 → Fin 512 → EReal) (w2 : Fin 16 → Fin 512 → Fin 1024 → EReal) (g b : Fin 1024 → EReal) (d : Fin 1024) :
    layer (weight (affinity x wr) sel) x w1 w3 w2 g b d = layer (share (affinity x wr) sel) x w1 w3 w2 g b d := by
  by_cases hx : ∃ k, Inf (x k)
  · obtain ⟨k, hk⟩ := hx
    unfold layer
    rw [norm_of_inf _ k (inf_add_left (inf_scale hk) _), norm_of_inf _ k (inf_add_left (inf_scale hk) _)]
  · have hx' : ∀ k, ¬Inf (x k) := fun k hk => hx ⟨k, hk⟩
    have ht : total (affinity x wr) sel ≠ 0 :=
      ne_of_gt (EReal.add_pos (affinity_pos x wr hx' hw _) (affinity_pos x wr hx' hw _))
    rw [show weight (affinity x wr) sel = share (affinity x wr) sel from funext fun e => weight_eq _ _ ht e]

end Cert.Moe
-- ==== Proof.HostRead.lean ====
/- The host's top-k and its two gathers, read at an index. -/
module

public import proofs.«01_k».proof.Proof.Routing
public import proofs.«01_k».proof.ReferenceIdeal
public import Idealize.ShloMosaic.PureOps.Ideal
public import Idealize.ShloMosaic.PureOps.Ideal.Laws
public import Idealize.ShloMosaic.Lib.Pipeline.Value
public import Idealize.ShloMosaic.Lib.ValueIdx
public import Idealize.ShloMosaic.Lib.Pipeline.ValueKit
public import Idealize.ShloMosaic.Lib.Pointwise

@[expose] public section

noncomputable section

namespace Cert.ReferenceIdeal.Moe

open Idealize.ShloMosaic Idealize.ShloMosaic.TcCoe Cert.Routing Cert.ReferenceIdeal

/-! ## Top-k of rows of four -/

theorem along_pair {N W : Nat} (n : Fin N) (i k : Fin W) :
    Shape.Idx.along (s := ⟨2, ![N, W]⟩) (ix2 n i) 1 k = ix2 n k := by
  funext a
  match a with
  | ⟨0, _⟩ => rfl
  | ⟨1, _⟩ => rfl

theorem along_triple {N M W : Nat} (n : Fin N) (g : Fin M) (i k : Fin W) :
    Shape.Idx.along (s := ⟨3, ![N, M, W]⟩) (ix3 n g i) 2 k = ix3 n g k := by
  funext a
  match a with
  | ⟨0, _⟩ => rfl
  | ⟨1, _⟩ => rfl
  | ⟨2, _⟩ => rfl

theorem before_eq (a b : EReal) : (FloatOps.cmpfTotal (F := Ideal) (φ := .f32) .gt a b == 1#1) = decide (b < a) := by
  show (BitVec.ofBool (decide (b < a)) == 1#1) = _
  cases decide (b < a) <;> rfl

/-- The positions top-k of rows of four returns. -/
theorem topk_position {N K : Nat} (x : (⟨2, ![N, 4]⟩ : Shape).Idx → EReal) (h : Shape.Slices ⟨2, ![N, 4]⟩ (fun _ => 0) ⟨2, ![N, K]⟩)
    (n : Fin N) (k : Fin K) (hk : K ≤ 4) :
    (Host.topK ⟨2, ![N, K]⟩ 1 (FloatOps.cmpfTotal (F := Ideal) (φ := .f32) .gt) x h).2 (ix2 n k)
      = BitVec.ofNat 32 (pos (fun i => x (ix2 n i)) (k.castLE hk)).val := by
  unfold Host.topK
  dsimp only
  rw [extractStridedSlice_apply _ _ _ _ (ix2 n (k.castLE hk)) (by
    intro a
    match a with
    | ⟨0, _⟩ => exact (Nat.zero_add _).symm
    | ⟨1, _⟩ => exact (Nat.zero_add _).symm)]
  unfold Host.sort2
  refine (congrArg (fun p : ((⟨2, ![N, 4]⟩ : Shape).Idx → EReal) × IVec ⟨2, ![N, 4]⟩ 32 => p.2 (ix2 n (k.castLE hk))) (dif_pos (show (1 : Nat) < 2 by decide))).trans ?_
  have hb : (fun i i' : Fin 4 => FloatOps.cmpfTotal (F := Ideal) (φ := .f32) .gt
        (x (Shape.Idx.along (s := ⟨2, ![N, 4]⟩) (ix2 n (k.castLE hk)) 1 i)) (x (Shape.Idx.along (s := ⟨2, ![N, 4]⟩) (ix2 n (k.castLE hk)) 1 i'))
        == 1#1) = fun i i' => decide (x (ix2 n i') < x (ix2 n i)) := by
    funext i i'
    rw [before_eq, along_pair, along_pair]
  exact congrArg (fun r : Fin 4 → Fin 4 → Bool => BitVec.ofNat 32 (sortedFrom r (k.castLE hk)).val) hb

/-- The values top-k of rows of four returns. -/
theorem topk_value {N M K : Nat} (x : (⟨3, ![N, M, 4]⟩ : Shape).Idx → EReal)
    (h : Shape.Slices ⟨3, ![N, M, 4]⟩ (fun _ => 0) ⟨3, ![N, M, K]⟩) (n : Fin N) (g : Fin M) (k : Fin K) (hk : K ≤ 4) :
    (Host.topK ⟨3, ![N, M, K]⟩ 2 (FloatOps.cmpfTotal (F := Ideal) (φ := .f32) .gt) x h).1 (ix3 n g k)
      = x (ix3 n g (pos (fun i => x (ix3 n g i)) (k.castLE hk))) := by
  unfold Host.topK
  dsimp only
  rw [extractStridedSlice_apply _ _ _ _ (ix3 n g (k.castLE hk)) (by
    intro a
    match a with
    | ⟨0, _⟩ => exact (Nat.zero_add _).symm
    | ⟨1, _⟩ => exact (Nat.zero_add _).symm
    | ⟨2, _⟩ => exact (Nat.zero_add _).symm)]
  unfold Host.sort2
  refine (congrArg (fun p : ((⟨3, ![N, M, 4]⟩ : Shape).Idx → EReal) × IVec ⟨3, ![N, M, 4]⟩ 32 => p.1 (ix3 n g (k.castLE hk))) (dif_pos (show (2 : Nat) < 3 by decide))).trans ?_
  have hb : (fun i i' : Fin 4 => FloatOps.cmpfTotal (F := Ideal) (φ := .f32) .gt
        (x (Shape.Idx.along (s := ⟨3, ![N, M, 4]⟩) (ix3 n g (k.castLE hk)) 2 i))
        (x (Shape.Idx.along (s := ⟨3, ![N, M, 4]⟩) (ix3 n g (k.castLE hk)) 2 i'))
        == 1#1) = fun i i' => decide (x (ix3 n g i') < x (ix3 n g i)) := by
    funext i i'
    rw [before_eq, along_triple, along_triple]
  refine Eq.trans ?_ (congrArg x (along_triple n g (k.castLE hk) _))
  exact congrArg (fun r : Fin 4 → Fin 4 → Bool =>
    x (Shape.Idx.along (s := ⟨3, ![N, M, 4]⟩) (ix3 n g (k.castLE hk)) 2 (sortedFrom r (k.castLE hk)))) hb

/-! ## The gathers -/

variable [Facts]

/-- The gather of one group's four scores: row and group come from the index table. -/
theorem gather_group {w : Nat} (x : S16896x4x4.Idx → EReal) (idx : IVec S16896x2 w) (n : Fin 16896) (i : Fin 4) (a : Fin 16896) (b : Fin 4)
    (ha : (idx (ix2 n 0)).toInt.toNat = a.val) (hb : (idx (ix2 n 1)).toInt.toNat = b.val) :
    Host.gather gather_S16896x4x4_S16896x2_S16896x4_1_01_n_n_01_1_114 x idx (ix2 n i) = x (ix3 a b i) := by
  have hsi : ∀ c : Fin 2, gather_S16896x4x4_S16896x2_S16896x4_1_01_n_n_01_1_114.siIdx (ix2 n i) c = ix2 n c := fun c => by
    funext q
    refine Fin.ext ?_
    match q with
    | ⟨0, _⟩ => rfl
    | ⟨1, _⟩ => rfl
  unfold Host.gather
  refine congrArg x (funext fun q => Fin.ext ?_)
  show GatherDims.start _ (ix2 n i) idx q + GatherDims.batchCoord _ (ix2 n i) q + GatherDims.offCoord _ (ix2 n i) q = _
  rw [GatherDims.batchCoord_eq_zero _ _ _ List.not_mem_nil]
  match q with
  | ⟨0, _⟩ =>
    rw [GatherDims.offCoord_eq_zero _ _ _ (fun h => ((GatherDims.mem_sKept _ _).mp h).1 (List.mem_cons_self ..))]
    unfold GatherDims.start
    refine (congrArg (fun s => s + 0 + 0) (dif_pos (show (0 : Fin 3) ∈ ([0, 1] : List (Fin 3)) by decide))).trans ?_
    have hc := hsi 0
    refine (congrArg (fun j => min (idx j).toInt.toNat (16896 - 1) + 0 + 0) hc).trans ?_
    rw [ha]
    show min a.val 16895 = a.val
    omega
  | ⟨1, _⟩ =>
    rw [GatherDims.offCoord_eq_zero _ _ _ (fun h => ((GatherDims.mem_sKept _ _).mp h).1 (List.mem_cons_of_mem _ (List.mem_cons_self ..)))]
    unfold GatherDims.start
    refine (congrArg (fun s => s + 0 + 0) (dif_pos (show (1 : Fin 3) ∈ ([0, 1] : List (Fin 3)) by decide))).trans ?_
    have hc := hsi 1
    refine (congrArg (fun j => min (idx j).toInt.toNat (4 - 1) + 0 + 0) hc).trans ?_
    rw [hb]
    show min b.val 3 = b.val
    omega
  | ⟨2, _⟩ =>
    unfold GatherDims.start
    refine (congrArg (fun s => s + 0 + _) (dif_neg (show (2 : Fin 3) ∉ ([0, 1] : List (Fin 3)) by decide))).trans ?_
    refine (Nat.zero_add _).trans ?_
    unfold GatherDims.offCoord
    exact dif_pos ((GatherDims.mem_sKept _ _).mpr ⟨show (2 : Fin 3) ∉ ([0, 1] : List (Fin 3)) by decide, List.not_mem_nil⟩)

/-- The gather of the chosen experts' affinities: the row is the token's own, the column comes from the index table. -/
theorem gather_expert {w : Nat} (x : S16896x16.Idx → EReal) (idx : IVec S16896x2x1 w) (n : Fin 16896) (k : Fin 2) (e : Fin 16)
    (he : (idx (ix3 n k 0)).toInt.toNat = e.val) :
    Host.gather gather_S16896x16_S16896x2x1_S16896x2_n_1_0_0_1_2_11 x idx (ix2 n k) = x (ix2 n e) := by
  have hsi : ∀ c : Fin 1, gather_S16896x16_S16896x2x1_S16896x2_n_1_0_0_1_2_11.siIdx (ix2 n k) c = ix3 n k 0 := fun c => by
    obtain rfl : c = 0 := Subsingleton.elim _ _
    funext q
    refine Fin.ext ?_
    match q with
    | ⟨0, _⟩ => rfl
    | ⟨1, _⟩ => rfl
    | ⟨2, _⟩ => rfl
  unfold Host.gather
  refine congrArg x (funext fun q => Fin.ext ?_)
  show GatherDims.start _ (ix2 n k) idx q + GatherDims.batchCoord _ (ix2 n k) q + GatherDims.offCoord _ (ix2 n k) q = _
  match q with
  | ⟨0, _⟩ =>
    rw [GatherDims.start_batching _ _ _ _ (show (0 : Fin 2) ∈ ([0] : List (Fin 2)) by decide),
      GatherDims.offCoord_eq_zero _ _ _ (fun h => ((GatherDims.mem_sKept _ _).mp h).2 (show (0 : Fin 2) ∈ ([0] : List (Fin 2)) by decide))]
    unfold GatherDims.batchCoord
    refine (Nat.zero_add _).trans ?_
    exact dif_pos (show (0 : Fin 2) ∈ ([0] : List (Fin 2)) by decide)
  | ⟨1, _⟩ =>
    rw [GatherDims.batchCoord_eq_zero _ _ _ (show (1 : Fin 2) ∉ ([0] : List (Fin 2)) by decide),
      GatherDims.offCoord_eq_zero _ _ _ (fun h => ((GatherDims.mem_sKept _ _).mp h).1 (show (1 : Fin 2) ∈ ([1] : List (Fin 2)) by decide))]
    unfold GatherDims.start
    refine (congrArg (fun s => s + 0 + 0) (dif_pos (show (1 : Fin 2) ∈ ([1] : List (Fin 2)) by decide))).trans ?_
    have hc := hsi 0
    refine (congrArg (fun j => min (idx j).toInt.toNat (16 - 1) + 0 + 0) hc).trans ?_
    rw [he]
    show min e.val 15 = e.val
    omega

end Cert.ReferenceIdeal.Moe
-- ==== Proof.ReferenceRoute.lean ====
/- The reference's routing at an index: from the affinities to each token's weight of each expert, which is `Moe.share`. -/
module

public import proofs.«01_k».proof.Proof.Moe
public import proofs.«01_k».proof.Proof.HostRead
public import proofs.«01_k».proof.Proof.Gen.ReferenceIdeal.Read
public import Idealize.ShloMosaic.Lib.ReduceAll
public import Idealize.ShloMosaic.Lib.Routing.OpsPair
public import Idealize.ShloMosaic.Lib.Pointwise

@[expose] public section

set_option maxRecDepth 16384

noncomputable section

namespace Cert.ReferenceIdeal.Moe

open Idealize.ShloMosaic Idealize.ShloMosaic.TcCoe Cert.Routing Cert.Moe Cert.ReferenceIdeal Cert.ReferenceIdeal.Gen Cert.ReferenceIdeal.Read

variable (x0 : (⟨S4x4224x1024, .f32⟩ : BufTy).Contents (Elt Ideal)) (x1 : (⟨S1024x16, .f32⟩ : BufTy).Contents (Elt Ideal))
  (x2 : (⟨S16, .f32⟩ : BufTy).Contents (Elt Ideal))

/-- Token `n`'s features. -/
def token (n : Fin 16896) (k : Fin 1024) : EReal :=
  x0 (ix3 ⟨n.val / 4224, by omega⟩ ⟨n.val % 4224, Nat.mod_lt _ (by decide)⟩ k)
/-- The router's matrix. -/
def router (k : Fin 1024) (e : Fin 16) : EReal := x1 (ix2 k e)
/-- The router's bias. -/
def bias (e : Fin 16) : EReal := x2 (ix1 e)
/-- Token `n`'s affinities. -/
def aff (n : Fin 16896) : Fin 16 → EReal := affinity (token x0 n) (router x1)
/-- Token `n`'s scores. -/
def sel (n : Fin 16896) : Fin 16 → EReal := score (token x0 n) (router x1) (bias x2)

/-! ## Words -/

theorem word_toNat (n : Nat) (h : n < 2 ^ 31) : (BitVec.ofNat 32 n).toInt.toNat = n := by
  rw [BitVec.toInt_eq_toNat_cond, BitVec.toNat_ofNat, Nat.mod_eq_of_lt (by omega), if_pos (by omega)]
  exact Int.toNat_natCast n

theorem word_wrap (n : Nat) (h : n < 2 ^ 31) (a : BitVec 32) :
    Scalar.select (IntOp.cmpi .slt (BitVec.ofNat 32 n) 0#32) a (BitVec.ofNat 32 n) = BitVec.ofNat 32 n :=
  Idealize.ShloMosaic.Routing.wrap_of_lt _ _ (by rw [BitVec.toNat_ofNat, Nat.mod_eq_of_lt (by omega)]; omega)

/-! ## The scores -/

theorem v0_apply (n : Fin 16896) (k : Fin 1024) : val_main_v0 (F := Ideal) x0 (ix2 n k) = token x0 n k := by
  rw [val_main_v0_apply]
  unfold token
  refine congrArg x0 (funext fun a => Fin.ext ?_)
  match a with
  | ⟨0, _⟩ => show (n.val * 1024 + k.val) / 4325376 = n.val / 4224; omega
  | ⟨1, _⟩ => show (n.val * 1024 + k.val) / 1024 % 4224 = n.val % 4224; omega
  | ⟨2, _⟩ => show (n.val * 1024 + k.val) % 1024 = k.val; omega

theorem v7_apply (n : Fin 16896) (e : Fin 16) : val_main_v7 (F := Ideal) x0 x1 (ix2 n e) = aff x0 x1 n e := by
  unfold aff affinity router
  simp only [← v0_apply]
  pointwise [val_main_v7, val_main_v6, val_main_v5, val_main_v4, val_main_v3, val_main_v2, val_main_v1, val_main_cst, val_main_cst_0]
  rfl

theorem v10_apply (n : Fin 16896) (e : Fin 16) : val_main_v10 (F := Ideal) x0 x1 x2 (ix2 n e) = sel x0 x1 x2 n e := by
  unfold sel score bias
  have h := v7_apply x0 x1 n e
  unfold aff at h
  rw [← h]
  pointwise [val_main_v10, val_main_v9, val_main_v8]

theorem v11_apply (n : Fin 16896) (g i : Fin 4) :
    val_main_v11 (F := Ideal) x0 x1 x2 (ix3 n g i) = members (sel x0 x1 x2 n) g i := by
  unfold members
  rw [val_main_v11_apply, ← v10_apply]
  refine congrArg _ (funext fun a => Fin.ext ?_)
  match a with
  | ⟨0, _⟩ => show ((n.val * 4 + g.val) * 4 + i.val) / 16 = n.val; omega
  | ⟨1, _⟩ => show ((n.val * 4 + g.val) * 4 + i.val) % 16 = 4 * g.val + i.val; omega

/-! ## The group -/

theorem values_apply (n : Fin 16896) (g : Fin 4) (k : Fin 2) :
    val_main_values (F := Ideal) x0 x1 x2 (ix3 n g k)
      = members (sel x0 x1 x2 n) g (pos (members (sel x0 x1 x2 n) g) (k.castLE (by decide))) := by
  unfold val_main_values
  rw [topk_value _ _ n g k (by decide)]
  simp only [v11_apply]

theorem v12_apply (n : Fin 16896) (g : Fin 4) : val_main_v12 (F := Ideal) x0 x1 x2 (ix2 n g) = groupScore (sel x0 x1 x2 n) g := by
  have hv := values_apply x0 x1 x2 n g
  unfold val_main_v12
  generalize val_main_values (F := Ideal) x0 x1 x2 = v at hv ⊢
  pointwise [val_main_cst_1]
  rw [Fin.sum_univ_two, hv, hv]
  rfl

theorem indices_3_apply (n : Fin 16896) :
    val_main_indices_3 (F := Ideal) x0 x1 x2 (ix2 n 0) = BitVec.ofNat 32 (star (sel x0 x1 x2 n)).val := by
  unfold val_main_indices_3
  rw [topk_position _ _ n 0 (by decide)]
  simp only [v12_apply]
  rfl

theorem v13_apply (n : Fin 16896) : val_main_v13 (F := Ideal) x0 x1 x2 (ix1 n) = BitVec.ofNat 32 (star (sel x0 x1 x2 n)).val := by
  rw [val_main_v13_apply, ← indices_3_apply]
  refine congrArg _ (funext fun a => Fin.ext ?_)
  match a with
  | ⟨0, _⟩ => show n.val / 1 = n.val; omega
  | ⟨1, _⟩ => rfl

theorem v27_row (n : Fin 16896) : val_main_v27 (F := Ideal) x0 x1 x2 (ix2 n 0) = BitVec.ofNat 32 n.val := by
  unfold val_main_v27
  pointwise [val_main_v25, val_main_v19, val_main_v18, val_main_v17, val_main_v16, val_main_v15, val_main_v14, val_main_c, val_main_c_4]
  exact word_wrap _ (by omega) _

theorem v27_group (n : Fin 16896) : val_main_v27 (F := Ideal) x0 x1 x2 (ix2 n 1) = BitVec.ofNat 32 (star (sel x0 x1 x2 n)).val := by
  have hv := v13_apply x0 x1 x2 n
  unfold val_main_v27
  generalize hs : star (sel x0 x1 x2 n) = g at hv
  pointwise [val_main_v26, val_main_v24, val_main_v23, val_main_v22, val_main_v21, val_main_v20, val_main_c_5, val_main_c_6]
  rw [hv]
  exact word_wrap _ (by omega) _

theorem v28_apply (n : Fin 16896) (i : Fin 4) :
    val_main_v28 (F := Ideal) x0 x1 x2 (ix2 n i) = members (sel x0 x1 x2 n) (star (sel x0 x1 x2 n)) i := by
  unfold val_main_v28
  rw [gather_group _ _ n i n (star (sel x0 x1 x2 n)) (by rw [v27_row, word_toNat _ (by omega)])
    (by rw [v27_group, word_toNat _ (by omega)]), v11_apply]

theorem indices_8_apply (n : Fin 16896) (k : Fin 2) :
    val_main_indices_8 (F := Ideal) x0 x1 x2 (ix2 n k)
      = BitVec.ofNat 32 (pos (members (sel x0 x1 x2 n) (star (sel x0 x1 x2 n))) (k.castLE (by decide))).val := by
  unfold val_main_indices_8
  rw [topk_position _ _ n k (by decide)]
  simp only [v28_apply]

theorem v33_apply (n : Fin 16896) (k : Fin 2) :
    val_main_v33 (F := Ideal) x0 x1 x2 (ix2 n k) = BitVec.ofNat 32 (chosen (sel x0 x1 x2 n) k).val := by
  have h13 := v13_apply x0 x1 x2 n
  have h8 := indices_8_apply x0 x1 x2 n k
  unfold chosen expert
  generalize star (sel x0 x1 x2 n) = g at *
  generalize pos (members (sel x0 x1 x2 n) g) (k.castLE (by decide)) = p at *
  unfold val_main_v33
  pointwise [val_main_v32, val_main_v31, val_main_v30, val_main_v29, val_main_c_9]
  rw [h13, h8]
  refine BitVec.eq_of_toNat_eq ?_
  simp only [IntOp.addi, IntOp.muli, BitVec.toNat_add, BitVec.toNat_mul, BitVec.toNat_ofNat]
  omega

/-! ## The chosen experts' affinities -/

theorem call0_v5_apply (n : Fin 16896) (k : Fin 2) (q : Fin 1) :
    val_main_call0_v5 (F := Ideal) x0 x1 x2 (ix3 n k q) = BitVec.ofNat 32 (chosen (sel x0 x1 x2 n) k).val := by
  obtain rfl : q = 0 := Subsingleton.elim _ _
  have h := v33_apply x0 x1 x2 n k
  generalize chosen (sel x0 x1 x2 n) k = e at h
  pointwise [val_main_call0_v5, val_main_call0_v4, val_main_call0_v3, val_main_call0_v2, val_main_call0_v1, val_main_call0_v0,
    val_main_call0_c, val_main_call0_c_0]
  rw [h]
  exact word_wrap _ (by omega) _

theorem call0_v11_apply (i : S16896x2x1.Idx) : val_main_call0_v11 (F := Ideal) x0 x1 x2 i = 1#1 := by
  obtain ⟨n, k, q, rfl⟩ : ∃ (n : Fin 16896) (k : Fin 2) (q : Fin 1), i = ix3 n k q :=
    ⟨i 0, i 1, i 2, funext fun a => match a with | ⟨0, _⟩ => rfl | ⟨1, _⟩ => rfl | ⟨2, _⟩ => rfl⟩
  have h := call0_v5_apply x0 x1 x2 n k q
  generalize chosen (sel x0 x1 x2 n) k = e at h
  pointwise [val_main_call0_v11, val_main_call0_v10, val_main_call0_v9, val_main_call0_v8, val_main_call0_v7, val_main_call0_v6,
    val_main_call0_c_1, val_main_call0_c_2]
  rw [h]
  clear h
  revert e
  decide

theorem v34_apply (n : Fin 16896) (k : Fin 2) :
    val_main_v34 (F := Ideal) x0 x1 x2 (ix2 n k) = aff x0 x1 n (chosen (sel x0 x1 x2 n) k) := by
  have h12 : val_main_call0_v12 (F := Ideal) x0 x1 x2 (ix2 n k) = 1#1 := by
    unfold val_main_call0_v12
    exact Host.reduce_andi_one _ _ _ _ _ rfl (call0_v11_apply x0 x1 x2)
  rw [val_main_v34_apply, h12]
  refine (show ∀ a b : EReal, Scalar.select 1#1 a b = a from fun _ _ => rfl) _ _ |>.trans ?_
  unfold val_main_call0_v13
  rw [gather_expert _ _ n k (chosen (sel x0 x1 x2 n) k) (by rw [call0_v5_apply, word_toNat _ (by omega)]), v7_apply]

/-! ## The weights -/

theorem v38_apply (n : Fin 16896) (k : Fin 2) :
    val_main_v38 (F := Ideal) x0 x1 x2 (ix2 n k)
      = Ideal.div (aff x0 x1 n (chosen (sel x0 x1 x2 n) k)) (total (aff x0 x1 n) (sel x0 x1 x2 n)) := by
  have h := v34_apply x0 x1 x2 n
  unfold total
  rw [← h, ← h, ← h]
  pointwise [val_main_v38, val_main_v37, val_main_v36, val_main_v35, val_main_cst_10]
  rw [Fin.sum_univ_two]

theorem v39_apply (n : Fin 16896) (k : Fin 2) (e : Fin 16) :
    val_main_v39 (F := Ideal) x0 x1 x2 (ix3 n k e) = if chosen (sel x0 x1 x2 n) k = e then 1 else 0 := by
  have h := v33_apply x0 x1 x2 n k
  generalize chosen (sel x0 x1 x2 n) k = c at h
  pointwise [val_main_v39, val_main_call1_v4, val_main_call1_v3, val_main_call1_v2, val_main_call1_v1, val_main_call1_v0]
  rw [h]
  by_cases hc : c = e
  · subst hc
    rw [if_pos rfl]
    simp [IntOp.cmpi, FloatOps.uitofp]
  · have hne : (BitVec.ofNat 32 c.val == BitVec.ofNat 32 e.val) = false := beq_eq_false_iff_ne.mpr fun hw => hc (by
      have hw' := congrArg BitVec.toNat hw
      simp only [BitVec.toNat_ofNat] at hw'
      exact Fin.ext (by omega))
    rw [if_neg hc]
    simp [IntOp.cmpi, hne, FloatOps.uitofp]

theorem v43_apply (n : Fin 16896) (e : Fin 16) :
    val_main_v43 (F := Ideal) x0 x1 x2 (ix2 n e) = share (aff x0 x1 n) (sel x0 x1 x2 n) e := by
  have h38 := v38_apply x0 x1 x2 n
  have h39 := fun k => v39_apply x0 x1 x2 n k e
  unfold share
  rw [← h38, ← h38, ← h39, ← h39]
  pointwise [val_main_v43, val_main_v42, val_main_v41, val_main_v40, val_main_cst_11]
  rw [Fin.sum_univ_two]

end Cert.ReferenceIdeal.Moe
-- ==== Proof.ReferenceValue.lean ====
/- The reference's result at token `n` and feature `d`: the sublayer of that token, the experts weighted by `Moe.share`. -/
module

public import proofs.«01_k».proof.Proof.ReferenceRoute

@[expose] public section

set_option maxRecDepth 16384

noncomputable section

namespace Cert.ReferenceIdeal.Moe

open Idealize.ShloMosaic Idealize.ShloMosaic.TcCoe Cert.Routing Cert.Moe Cert.ReferenceIdeal Cert.ReferenceIdeal.Gen Cert.ReferenceIdeal.Read

variable (x0 : (⟨S4x4224x1024, .f32⟩ : BufTy).Contents (Elt Ideal)) (x1 : (⟨S1024x16, .f32⟩ : BufTy).Contents (Elt Ideal))
  (x2 : (⟨S16, .f32⟩ : BufTy).Contents (Elt Ideal)) (x3 x4 : (⟨S16x1024x512, .f32⟩ : BufTy).Contents (Elt Ideal))
  (x5 : (⟨S16x512x1024, .f32⟩ : BufTy).Contents (Elt Ideal)) (x6 x7 : (⟨S1024, .f32⟩ : BufTy).Contents (Elt Ideal))

/-- Expert `e`'s gate matrix, or its up matrix. -/
def wide (w : (⟨S16x1024x512, .f32⟩ : BufTy).Contents (Elt Ideal)) (e : Fin 16) (k : Fin 1024) (f : Fin 512) : EReal := w (ix3 e k f)
/-- Expert `e`'s down matrix. -/
def narrow (e : Fin 16) (f : Fin 512) (d : Fin 1024) : EReal := x5 (ix3 e f d)
/-- A vector of feature constants. -/
def feature (v : (⟨S1024, .f32⟩ : BufTy).Contents (Elt Ideal)) (d : Fin 1024) : EReal := v (ix1 d)

/-! ## The experts -/

theorem v45_apply (e : Fin 16) (n : Fin 16896) (f : Fin 512) :
    val_main_v45 (F := Ideal) x0 x3 (ix3 e n f) = lin (token x0 n) (wide x3 e) f := by
  have h := v0_apply x0 n
  unfold lin wide
  simp only [← h]
  pointwise [val_main_v45, val_main_v44]
  exact Finset.sum_congr rfl fun k _ => mul_comm _ _

theorem v48_apply (e : Fin 16) (n : Fin 16896) (f : Fin 512) :
    val_main_v48 (F := Ideal) x0 x4 (ix3 e n f) = lin (token x0 n) (wide x4 e) f := by
  have h := v0_apply x0 n
  unfold lin wide
  simp only [← h]
  pointwise [val_main_v48, val_main_v47]
  exact Finset.sum_congr rfl fun k _ => mul_comm _ _

theorem v49_apply (e : Fin 16) (n : Fin 16896) (f : Fin 512) :
    val_main_v49 (F := Ideal) x0 x3 x4 (ix3 e n f)
      = lin (token x0 n) (wide x3 e) f * Ideal.logistic (lin (token x0 n) (wide x3 e) f) * lin (token x0 n) (wide x4 e) f := by
  rw [← v45_apply, ← v48_apply]
  pointwise [val_main_v49, val_main_v46, val_main_call2_v5, val_main_call2_v4, val_main_call2_v3, val_main_call2_v2, val_main_call2_v1,
    val_main_call2_v0, val_main_call2_cst, val_main_call2_cst_0]
  rfl

theorem v50_apply (n : Fin 16896) (d : Fin 1024) (e : Fin 16) :
    (∑ f, val_main_v49 (F := Ideal) x0 x3 x4 (ix3 e n f) * x5 (ix3 e f d))
      = expertOut (token x0 n) (wide x3 e) (wide x4 e) (narrow x5 e) d := by
  simp only [v49_apply]
  rfl

theorem v51_apply (n : Fin 16896) (d : Fin 1024) :
    val_main_v51 (F := Ideal) x0 x1 x2 x3 x4 x5 (ix2 n d)
      = mix (share (aff x0 x1 n) (sel x0 x1 x2 n)) (token x0 n) (wide x3) (wide x4) (narrow x5) d := by
  have h43 := v43_apply x0 x1 x2 n
  have h50 := v50_apply x0 x3 x4 x5 n d
  unfold mix
  simp only [← h43, ← h50]
  pointwise [val_main_v51, val_main_v50]

/-! ## The layer norm -/

theorem v54_apply (n : Fin 16896) (d : Fin 1024) :
    val_main_v54 (F := Ideal) x0 x1 x2 x3 x4 x5 (ix2 n d)
      = alpha * token x0 n d + mix (share (aff x0 x1 n) (sel x0 x1 x2 n)) (token x0 n) (wide x3) (wide x4) (narrow x5) d := by
  rw [← v51_apply, ← v0_apply]
  pointwise [val_main_v54, val_main_v53, val_main_v52, val_main_cst_12]
  rfl

theorem v78_apply (n : Fin 16896) (d : Fin 1024) :
    val_main_v78 (F := Ideal) x0 x1 x2 x3 x4 x5 x6 x7 (ix2 n d)
      = layer (share (aff x0 x1 n) (sel x0 x1 x2 n)) (token x0 n) (wide x3) (wide x4) (narrow x5) (feature x6) (feature x7) d := by
  have h := v54_apply x0 x1 x2 x3 x4 x5 n
  unfold layer
  simp only [← h]
  pointwise [val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61,
    val_main_v60, val_main_v59, val_main_v58, val_main_v57, val_main_v56, val_main_v55, val_main_cst_13, val_main_cst_14,
    val_main_cst_15, val_main_cst_16, val_main_cst_17]
  rfl

end Cert.ReferenceIdeal.Moe
-- ==== Proof.Equation.lean ====
/- The two programs' results are equal, given the same arrays and a router whose weights are all finite. -/
module

public import proofs.«01_k».proof.Proof.KernelValue
public import proofs.«01_k».proof.Proof.LayerNorm
public import proofs.«01_k».proof.Proof.ReferenceValue
public import proofs.«01_k».proof.Proof.Gen.ReferenceIdeal.Run
public import proofs.«01_k».proof.Pre_finite_router
public import Idealize.ShloMosaic.Lib.StableHlo.RunHlo

@[expose] public section

set_option maxRecDepth 16384

noncomputable section

namespace Cert.Equation

open Idealize.ShloMosaic Idealize.ShloMosaic.TcCoe Cert.Moe

/-- The precondition's one stated broadcast is well formed. -/
theorem pre_facts : Cert.Pre_finite_router.Facts := ⟨by decide⟩

/-- The bit pattern of single-precision infinity reads as the ideal number `⊤`. -/
theorem ofBits_inf : (FloatOps.ofBits (F := Ideal) .f32 0x7F800000#32 : Ideal .f32) = (⊤ : EReal) := by
  simp [FloatOps.ofBits, Ideal.ofBits, Ideal.ieee]

/-- A number whose absolute value is below `⊤` is finite. -/
theorem not_inf_of_lt (v : EReal) (h : max v (-v) < ⊤) : ¬Inf v := by
  rintro (rfl | rfl) <;> simp at h

/-- The precondition says that no router weight is infinite. -/
theorem router_finite [Cert.Pre_finite_router.Facts] (x0 : (⟨Cert.ReferenceIdeal.S4x4224x1024, .f32⟩ : BufTy).Contents (Elt Ideal))
    (x1 : (⟨Cert.ReferenceIdeal.S1024x16, .f32⟩ : BufTy).Contents (Elt Ideal))
    (x2 : (⟨Cert.ReferenceIdeal.S16, .f32⟩ : BufTy).Contents (Elt Ideal))
    (x3 x4 : (⟨Cert.ReferenceIdeal.S16x1024x512, .f32⟩ : BufTy).Contents (Elt Ideal))
    (x5 : (⟨Cert.ReferenceIdeal.S16x512x1024, .f32⟩ : BufTy).Contents (Elt Ideal))
    (x6 x7 : (⟨Cert.ReferenceIdeal.S1024, .f32⟩ : BufTy).Contents (Elt Ideal))
    (h : Cert.Pre_finite_router.fn (F := Ideal) x0 x1 x2 x3 x4 x5 x6 x7 = fun _ => 1#1) (k : Fin 1024) (e : Fin 16) :
    ¬Inf (Cert.ReferenceIdeal.Moe.router x1 k e) := by
  have h' := congrFun h (ix2 k e)
  have h'' : BitVec.ofBool (decide (max (x1 (ix2 k e)) (-(x1 (ix2 k e))) <
      (FloatOps.ofBits (F := Ideal) .f32 0x7F800000#32 : EReal))) = 1#1 := h'
  rw [ofBits_inf] at h''
  refine not_inf_of_lt (x1 (ix2 k e)) ?_
  by_contra hn
  rw [decide_eq_false hn] at h''
  exact absurd h'' (by decide)

/-- With a finite router the kernel's result array, read off its arguments, is the reference's. -/
theorem equation (m : (ℓ : Loc Cert.KernelIdeal.nD Cert.KernelIdeal.τ Cert.KernelIdeal.sig) → Buf (Elt Ideal) ℓ) (c : Dev Cert.KernelIdeal.nD)
    (hw : ∀ k e, ¬Inf (Cert.KernelIdeal.Moe.router m c k e)) :
    Cert.KernelIdeal.Value.G8 m c
      = Cert.ReferenceIdeal.Read.val_main_v78 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  funext i
  have hi : i = ix2 (i 0) (i 1) := by
    funext k; fin_cases k <;> rfl
  refine (Cert.KernelIdeal.Moe.G8_apply m c i).trans ?_
  refine (layer_weight (Cert.KernelIdeal.Moe.token m c (i 0)) (Cert.KernelIdeal.Moe.router m c) hw _ _ _ _ _ _ _).trans ?_
  refine Eq.trans ?_ (congrArg _ hi).symm
  exact (Cert.ReferenceIdeal.Moe.v78_apply _ _ _ _ _ _ _ _ (i 0) (i 1)).symm

end Cert.Equation

end
-- ==== Proof.InputNorm.lean ====
/- The input norm: what the kernel's result array and the reference's hold, each entry a layer norm of one token of the
   sequence that begins with the meta tokens and is filled up with zeros. -/
module

public import proofs.«01_k».proof.Proof.Gen.Kernel4Ideal.Value
public import proofs.«01_k».proof.Proof.Gen.Reference4Ideal.Read
public import proofs.«01_k».proof.Proof.Moe
public import Idealize.ShloMosaic.Lib.Pipeline.ValueKit
public import Idealize.ShloMosaic.Lib.Pointwise
public import Idealize.ShloMosaic.PureOps.Ideal

@[expose] public section

set_option maxRecDepth 16384

noncomputable section

namespace Cert.Kernel4Ideal.InputNorm

open Idealize.ShloMosaic Idealize.ShloMosaic.TcCoe Cert.Kernel4Ideal Cert.Kernel4Ideal.Gen Cert.Moe

theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 66 := lt_of_lt_of_eq t.isLt N_0

/-- Row `r` of tile `t`, as a token's number. -/
def rowOf (t : Fin cfg0.N) (r : Fin 256) : Fin 16896 := ⟨t.val * 256 + r.val, by have := point_lt t; omega⟩

variable (m : (ℓ : Loc nD τ sig) → Buf (Elt Ideal) ℓ) (c : Dev nD) (t : Fin cfg0.N)

/-- The flattened sequences as the call gets them. -/
def seqs : Fin 16896 → Fin 1024 → EReal := fun n k => V m c main_v4 (ix2 n k)

theorem read_h (r : Fin 256) (k : Fin 1024) : iblk m c 0 t (ix2 r k) = seqs m c (rowOf t r) k := by
  unfold seqs rowOf
  blk_ext [iblk, idx t]

theorem read_scale (d : Fin 1024) : iblk m c 1 t (ix2 0 d) = m ((c : Thread nD τ).loc main_arg2) (ix1 d) := by
  blk_simp [iblk, V, idx t]
  entry_read
  pointwise
  blk_ext [iblk, V, idx t]

theorem read_shift (d : Fin 1024) : iblk m c 2 t (ix2 0 d) = m ((c : Thread nD τ).loc main_arg3) (ix1 d) := by
  blk_simp [iblk, V, idx t]
  entry_read
  pointwise
  blk_ext [iblk, V, idx t]

theorem pay (h : Vec Ideal S256x1024 .f32) (g b : Vec Ideal S1x1024 .f32) (r : Fin 256) (d : Fin 1024) :
    k0_pay1 (F := Ideal) h g b (ix2 r d) = norm (fun k => h (ix2 r k)) (g (ix2 0 d)) (b (ix2 0 d)) d := by
  pointwise [k0_pay1]
  rfl

/-- What a point writes. -/
theorem out (r : Fin 256) (d : Fin 1024) :
    k0_pay1 (F := Ideal) (iblk m c 0 t) (iblk m c 1 t) (iblk m c 2 t) (ix2 r d)
      = norm (seqs m c (rowOf t r)) (m ((c : Thread nD τ).loc main_arg2) (ix1 d)) (m ((c : Thread nD τ).loc main_arg3) (ix1 d)) d := by
  rw [pay, read_scale, read_shift]
  simp only [read_h]

/-- The kernel's result array. -/
def result : Buf (Elt Ideal) ((c : Thread nD τ).loc main_v7) := fun i =>
  norm (seqs m c (i 0)) (m ((c : Thread nD τ).loc main_arg2) (ix1 (i 1))) (m ((c : Thread nD τ).loc main_arg3) (ix1 (i 1))) (i 1)

theorem final : (dats m 0 c).arrAt 3 cfg0.N = result m c := by
  refine (dats m 0 c).arrAt_eq_of_covers 3 _ (by decide +kernel) fun t hf y => ?_
  blk_simp
  rw [after0_3]
  frame_out
  have hy : y = ix2 (y 0) (y 1) := by funext k; fin_cases k <;> rfl
  refine (congrArg _ hy).trans ((out m c t (y 0) (y 1)).trans ?_)
  have e0 : ((View.whole main_v7).slice (win0_3.rect t)).emb y = ix2 (rowOf t (y 0)) (y 1) := by
    unfold rowOf
    blk_ext [idx t]
  rw [e0]
  rfl

end Cert.Kernel4Ideal.InputNorm

namespace Cert.Reference4Ideal.InputNorm

open Idealize.ShloMosaic Idealize.ShloMosaic.TcCoe Cert.Reference4Ideal Cert.Reference4Ideal.Gen Cert.Reference4Ideal.Read Cert.Moe

variable (x0 : (⟨S4x4096x1024, .f32⟩ : BufTy).Contents (Elt Ideal)) (x1 : (⟨S16x1024, .f32⟩ : BufTy).Contents (Elt Ideal))
  (x2 x3 : (⟨S1024, .f32⟩ : BufTy).Contents (Elt Ideal))

/-- The reference's result: the layer norm of the flattened sequences. -/
theorem v28_apply (n : Fin 16896) (d : Fin 1024) :
    val_main_v28 (F := Ideal) x0 x1 x2 x3 (ix2 n d)
      = norm (fun k => val_main_v4 (F := Ideal) x0 x1 (ix2 n k)) (x2 (ix1 d)) (x3 (ix1 d)) d := by
  unfold Cert.Moe.norm mean
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, val_main_v7, val_main_v6, val_main_v5, val_main_cst_0, val_main_cst_1, val_main_cst_2, val_main_cst_3, val_main_cst_4]
  rfl

end Cert.Reference4Ideal.InputNorm

namespace Cert.InputNorm

open Idealize.ShloMosaic Idealize.ShloMosaic.TcCoe Cert.Moe

/-- The two programs' flattened sequences are one array. -/
theorem seqs_eq (m : (ℓ : Loc Cert.Kernel4Ideal.nD Cert.Kernel4Ideal.τ Cert.Kernel4Ideal.sig) → Buf (Elt Ideal) ℓ) (c : Dev Cert.Kernel4Ideal.nD) :
    Cert.Kernel4Ideal.Gen.V m c Cert.Kernel4Ideal.main_v4
      = Cert.Reference4Ideal.Read.val_main_v4 (F := Ideal)
          (m ((c.tc : Thread Cert.Kernel4Ideal.nD Cert.Kernel4Ideal.τ).loc Cert.Kernel4Ideal.main_arg0))
          (m ((c.tc : Thread Cert.Kernel4Ideal.nD Cert.Kernel4Ideal.τ).loc Cert.Kernel4Ideal.main_arg1)) := by
  rfl

/-- The kernel's result array, read off its arguments, is the reference's. -/
theorem equation (m : (ℓ : Loc Cert.Kernel4Ideal.nD Cert.Kernel4Ideal.τ Cert.Kernel4Ideal.sig) → Buf (Elt Ideal) ℓ) (c : Dev Cert.Kernel4Ideal.nD) :
    Cert.Kernel4Ideal.InputNorm.result m c
      = Cert.Reference4Ideal.Read.val_main_v28 (F := Ideal)
          (m ((c.tc : Thread Cert.Kernel4Ideal.nD Cert.Kernel4Ideal.τ).loc Cert.Kernel4Ideal.main_arg0))
          (m ((c.tc : Thread Cert.Kernel4Ideal.nD Cert.Kernel4Ideal.τ).loc Cert.Kernel4Ideal.main_arg1))
          (m ((c.tc : Thread Cert.Kernel4Ideal.nD Cert.Kernel4Ideal.τ).loc Cert.Kernel4Ideal.main_arg2))
          (m ((c.tc : Thread Cert.Kernel4Ideal.nD Cert.Kernel4Ideal.τ).loc Cert.Kernel4Ideal.main_arg3)) := by
  funext i
  have hi : i = ix2 (i 0) (i 1) := by funext k; fin_cases k <;> rfl
  refine Eq.trans ?_ (congrArg _ hi).symm
  refine Eq.trans ?_ (Cert.Reference4Ideal.InputNorm.v28_apply _ _ _ _ (i 0) (i 1)).symm
  rw [← seqs_eq]
  rfl

end Cert.InputNorm

end
-- ==== Proof.Projection.lean ====
/- The combined projection: what the kernel's four result arrays hold. A column of the first is a column of the weights in
   the order in which the call packs them, or zero. -/
module

public import proofs.«01_k».proof.Proof.Gen.Kernel2Ideal.Value
public import Idealize.ShloMosaic.Lib.Pipeline.ValueKit
public import Idealize.ShloMosaic.Lib.Pointwise
public import Idealize.ShloMosaic.PureOps.Ideal

@[expose] public section

set_option maxRecDepth 16384

noncomputable section

namespace Cert.Projection

/-- A row of the combined projection's columns laid out as the call packs the attention's part: queries, the indexer's
    queries, keys, values, the indexer's key and weights, and zeros. -/
def packed (u : Fin 4904 → EReal) (j : Fin 1152) : EReal :=
  if h : j.val < 512 then u ⟨j.val, by omega⟩
  else if h : j.val < 768 then u ⟨j.val + 256, by omega⟩
  else if h : j.val < 896 then u ⟨j.val - 256, by omega⟩
  else if h : j.val < 1024 then u ⟨j.val - 256, by omega⟩
  else if h : j.val < 1064 then u ⟨j.val, by omega⟩
  else 0

/-- Packing commutes with a product by a matrix. -/
theorem sum_packed (x : Fin 1024 → EReal) (w : Fin 1024 → Fin 4904 → EReal) (j : Fin 1152) :
    (∑ k, x k * packed (w k) j) = packed (fun s => ∑ k, x k * w k s) j := by
  unfold packed
  repeat' split
  all_goals simp

end Cert.Projection

namespace Cert.Kernel2Ideal.Projection

open Idealize.ShloMosaic Idealize.ShloMosaic.TcCoe Cert.Kernel2Ideal Cert.Kernel2Ideal.Gen Cert.Projection

theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 66 := lt_of_lt_of_eq t.isLt N_0

/-- Row `r` of tile `t`, as a token's number. -/
def rowOf (t : Fin cfg0.N) (r : Fin 256) : Fin 16896 := ⟨t.val * 256 + r.val, by have := point_lt t; omega⟩

variable (m : (ℓ : Loc nD τ sig) → Buf (Elt Ideal) ℓ) (c : Dev nD) (t : Fin cfg0.N)

/-- Feature `k` of token `n`. -/
def act (n : Fin 16896) (k : Fin 1024) : EReal := V m c main_v12 (ix2 n k)

/-- The projection's weights. -/
def weight (k : Fin 1024) (s : Fin 4904) : EReal := m ((c : Thread nD τ).loc main_arg1) (ix2 k s)

/-- The packed weights as the host code lays them out. -/
theorem packed_weights : V m c main_v9 = (truncf .bf16 (concatenate S1024x1152 1
      [⟨S1024x512, extractStridedSlice S1024x512 ![0, 0] (m ((c : Thread nD τ).loc main_arg1) : FVec Ideal S1024x4904 .f32) slices_S1024x4904_S1024x512_0_0⟩,
       ⟨S1024x256, extractStridedSlice S1024x256 ![0, 768] (m ((c : Thread nD τ).loc main_arg1) : FVec Ideal S1024x4904 .f32) slices_S1024x4904_S1024x256_0_768⟩,
       ⟨S1024x128, extractStridedSlice S1024x128 ![0, 512] (m ((c : Thread nD τ).loc main_arg1) : FVec Ideal S1024x4904 .f32) slices_S1024x4904_S1024x128_0_512⟩,
       ⟨S1024x128, extractStridedSlice S1024x128 ![0, 640] (m ((c : Thread nD τ).loc main_arg1) : FVec Ideal S1024x4904 .f32) slices_S1024x4904_S1024x128_0_640⟩,
       ⟨S1024x40, extractStridedSlice S1024x40 ![0, 1024] (m ((c : Thread nD τ).loc main_arg1) : FVec Ideal S1024x4904 .f32) slices_S1024x4904_S1024x40_0_1024⟩,
       ⟨S1024x88, broadcastInDim S1024x88 ![] bcast_S_S1024x88 (constant S_ .f32 0x00000000#32 : FVec Ideal S_ .f32)⟩]
      concatenates_S1024x512_S1024x256_S1024x128_S1024x128_S1024x40_S1024x88_S1024x1152_d1 : FVec Ideal S1024x1152 .f32) bitsLt_bf16_f32 : FVec Ideal S1024x1152 .bf16) := rfl

theorem weights_rwkv : V m c main_v10 = (truncf .bf16 (extractStridedSlice S1024x1792 ![0, 1064]
    (m ((c : Thread nD τ).loc main_arg1) : FVec Ideal S1024x4904 .f32) slices_S1024x4904_S1024x1792_0_1064) bitsLt_bf16_f32 : FVec Ideal S1024x1792 .bf16) := rfl

theorem weights_gate : V m c main_v11 = (truncf .bf16 (extractStridedSlice S1024x2048 ![0, 2856]
    (m ((c : Thread nD τ).loc main_arg1) : FVec Ideal S1024x4904 .f32) slices_S1024x4904_S1024x2048_0_2856) bitsLt_bf16_f32 : FVec Ideal S1024x2048 .bf16) := rfl

theorem read_h (r : Fin 256) (k : Fin 1024) : iblk m c 0 t (ix2 r k) = act m c (rowOf t r) k := by
  unfold act rowOf
  blk_ext [iblk, idx t]

theorem read_packed (k : Fin 1024) (j : Fin 1152) : iblk m c 1 t (ix2 k j) = packed (weight m c k) j := by
  have e : iblk m c 1 t (ix2 k j) = V m c main_v9 (ix2 k j) := by blk_ext [iblk, idx t]
  rw [e, packed_weights]
  unfold packed weight
  pointwise
  repeat' split
  all_goals first
    | rfl
    | (exfalso; omega)
    | refine congrArg (fun s => m ((c : Thread nD τ).loc main_arg1) (ix2 k s)) (Fin.ext ?_)
  all_goals (dsimp only; omega)

theorem read_rwkv (k : Fin 1024) (j : Fin 1792) : iblk m c 2 t (ix2 k j) = weight m c k ⟨1064 + j.val, by omega⟩ := by
  have e : iblk m c 2 t (ix2 k j) = V m c main_v10 (ix2 k j) := by blk_ext [iblk, idx t]
  rw [e, weights_rwkv]
  unfold weight
  pointwise

theorem read_gate (k : Fin 1024) (j : Fin 2048) : iblk m c 3 t (ix2 k j) = weight m c k ⟨2856 + j.val, by omega⟩ := by
  have e : iblk m c 3 t (ix2 k j) = V m c main_v11 (ix2 k j) := by blk_ext [iblk, idx t]
  rw [e, weights_gate]
  unfold weight
  pointwise

theorem pay3 (h : Vec Ideal S256x1024 .f32) (w : Vec Ideal S1024x1152 .bf16) (r : Fin 256) (j : Fin 1152) :
    k0_pay3 (F := Ideal) h w (ix2 r j) = ∑ k, h (ix2 r k) * w (ix2 k j) := by
  pointwise [k0_pay3, k0_pay2, k0_pay1]

theorem pay4 (h : Vec Ideal S256x1024 .f32) (w : Vec Ideal S1024x1152 .bf16) (r : Fin 256) (j : Fin 128) :
    k0_pay4 (F := Ideal) h w (ix2 r j) = ∑ k, h (ix2 r k) * w (ix2 k ⟨1024 + j.val, by omega⟩) := by
  pointwise [k0_pay4, k0_pay2, k0_pay1]

theorem pay5 (h : Vec Ideal S256x1024 .f32) (w : Vec Ideal S1024x1792 .bf16) (r : Fin 256) (j : Fin 1792) :
    k0_pay5 (F := Ideal) h w (ix2 r j) = ∑ k, h (ix2 r k) * w (ix2 k j) := by
  pointwise [k0_pay5, k0_pay1]

theorem pay6 (h : Vec Ideal S256x1024 .f32) (w : Vec Ideal S1024x2048 .bf16) (r : Fin 256) (j : Fin 2048) :
    k0_pay6 (F := Ideal) h w (ix2 r j) = ∑ k, h (ix2 r k) * w (ix2 k j) := by
  pointwise [k0_pay6, k0_pay1]

/-- Column `s` of the combined projection of token `n`. -/
def proj (n : Fin 16896) (s : Fin 4904) : EReal := ∑ k, act m c n k * weight m c k s

def result4 : Buf (Elt Ideal) ((c : Thread nD τ).loc main_v13_0) := fun i => packed (proj m c (i 0)) (i 1)
def result5 : Buf (Elt Ideal) ((c : Thread nD τ).loc main_v13_1) := fun i => packed (proj m c (i 0)) ⟨1024 + (i 1).val, by have : (i 1).val < 128 := (i 1).isLt; omega⟩
def result6 : Buf (Elt Ideal) ((c : Thread nD τ).loc main_v13_2) := fun i => proj m c (i 0) ⟨1064 + (i 1).val, by have : (i 1).val < 1792 := (i 1).isLt; omega⟩
def result7 : Buf (Elt Ideal) ((c : Thread nD τ).loc main_v13_3) := fun i => proj m c (i 0) ⟨2856 + (i 1).val, by have : (i 1).val < 2048 := (i 1).isLt; omega⟩

theorem out4 (r : Fin 256) (j : Fin 1152) :
    k0_pay3 (F := Ideal) (iblk m c 0 t) (iblk m c 1 t) (ix2 r j) = packed (proj m c (rowOf t r)) j := by
  rw [pay3]
  simp only [read_h, read_packed]
  exact sum_packed _ _ _

theorem out5 (r : Fin 256) (j : Fin 128) :
    k0_pay4 (F := Ideal) (iblk m c 0 t) (iblk m c 1 t) (ix2 r j) = packed (proj m c (rowOf t r)) ⟨1024 + j.val, by omega⟩ := by
  rw [pay4]
  simp only [read_h, read_packed]
  exact sum_packed _ _ _

theorem out6 (r : Fin 256) (j : Fin 1792) :
    k0_pay5 (F := Ideal) (iblk m c 0 t) (iblk m c 2 t) (ix2 r j) = proj m c (rowOf t r) ⟨1064 + j.val, by omega⟩ := by
  rw [pay5]
  simp only [read_h, read_rwkv]
  rfl

theorem out7 (r : Fin 256) (j : Fin 2048) :
    k0_pay6 (F := Ideal) (iblk m c 0 t) (iblk m c 3 t) (ix2 r j) = proj m c (rowOf t r) ⟨2856 + j.val, by omega⟩ := by
  rw [pay6]
  simp only [read_h, read_gate]
  rfl

theorem final4 : (dats m 0 c).arrAt 4 cfg0.N = result4 m c := by
  refine (dats m 0 c).arrAt_eq_of_covers 4 _ (by decide +kernel) fun t hf y => ?_
  blk_simp
  rw [after0_4]
  frame_out
  have hy : y = ix2 (y 0) (y 1) := by funext k; fin_cases k <;> rfl
  have e0 : ((View.whole main_v13_0).slice (win0_4.rect t)).emb y = ix2 (rowOf t (y 0)) (y 1) := by
    unfold rowOf
    blk_ext [idx t]
  exact (congrArg _ hy).trans ((out4 m c t (y 0) (y 1)).trans (congrArg (result4 m c) e0).symm)

theorem final5 : (dats m 0 c).arrAt 5 cfg0.N = result5 m c := by
  refine (dats m 0 c).arrAt_eq_of_covers 5 _ (by decide +kernel) fun t hf y => ?_
  blk_simp
  rw [after0_5]
  frame_out
  have hy : y = ix2 (y 0) (y 1) := by funext k; fin_cases k <;> rfl
  have e0 : ((View.whole main_v13_1).slice (win0_5.rect t)).emb y = ix2 (rowOf t (y 0)) (y 1) := by
    unfold rowOf
    blk_ext [idx t]
  exact (congrArg _ hy).trans ((out5 m c t (y 0) (y 1)).trans (congrArg (result5 m c) e0).symm)

theorem final6 : (dats m 0 c).arrAt 6 cfg0.N = result6 m c := by
  refine (dats m 0 c).arrAt_eq_of_covers 6 _ (by decide +kernel) fun t hf y => ?_
  blk_simp
  rw [after0_6]
  frame_out
  have hy : y = ix2 (y 0) (y 1) := by funext k; fin_cases k <;> rfl
  have e0 : ((View.whole main_v13_2).slice (win0_6.rect t)).emb y = ix2 (rowOf t (y 0)) (y 1) := by
    unfold rowOf
    blk_ext [idx t]
  exact (congrArg _ hy).trans ((out6 m c t (y 0) (y 1)).trans (congrArg (result6 m c) e0).symm)

theorem final7 : (dats m 0 c).arrAt 7 cfg0.N = result7 m c := by
  refine (dats m 0 c).arrAt_eq_of_covers 7 _ (by decide +kernel) fun t hf y => ?_
  blk_simp
  rw [after0_7]
  frame_out
  have hy : y = ix2 (y 0) (y 1) := by funext k; fin_cases k <;> rfl
  have e0 : ((View.whole main_v13_3).slice (win0_7.rect t)).emb y = ix2 (rowOf t (y 0)) (y 1) := by
    unfold rowOf
    blk_ext [idx t]
  exact (congrArg _ hy).trans ((out7 m c t (y 0) (y 1)).trans (congrArg (result7 m c) e0).symm)

end Cert.Kernel2Ideal.Projection

end
-- ==== Proof.ProjectionRef.lean ====
/- The combined projection: what the reference's four results hold, and that they are the kernel's. -/
module

public import proofs.«01_k».proof.Proof.Projection
public import proofs.«01_k».proof.Proof.Gen.Reference2Ideal.Read

@[expose] public section

set_option maxRecDepth 16384

noncomputable section

namespace Cert.Reference2Ideal.Projection

open Idealize.ShloMosaic Idealize.ShloMosaic.TcCoe Cert.Reference2Ideal Cert.Reference2Ideal.Gen Cert.Reference2Ideal.Read Cert.Projection

variable (x0 : (⟨S4x4224x1024, .f32⟩ : BufTy).Contents (Elt Ideal)) (x1 : (⟨S1024x4904, .f32⟩ : BufTy).Contents (Elt Ideal))

/-- Column `s` of the combined projection of token `n`. -/
def proj (n : Fin 16896) (s : Fin 4904) : EReal := ∑ k, val_main_v0 (F := Ideal) x0 (ix2 n k) * x1 (ix2 k s)

theorem v1_apply (n : Fin 16896) (s : Fin 4904) : val_main_v1 (F := Ideal) x0 x1 (ix2 n s) = proj x0 x1 n s := by
  unfold proj
  pointwise [val_main_v1]

theorem v11_apply (n : Fin 16896) (j : Fin 128) :
    val_main_v11 (F := Ideal) x0 x1 (ix2 n j) = packed (proj x0 x1 n) ⟨1024 + j.val, by omega⟩ := by
  unfold packed
  simp only [← v1_apply]
  pointwise [val_main_v11, val_main_v10, val_main_v7, val_main_v6, val_main_cst]
  repeat' split
  all_goals first
    | with_reducible rfl
    | (exfalso; omega)
    | refine congrArg (fun s => val_main_v1 (F := Ideal) x0 x1 (ix2 n s)) (Fin.ext ?_)
  all_goals (dsimp only; omega)

set_option maxHeartbeats 1000000 in
theorem v13_apply (n : Fin 16896) (j : Fin 1152) :
    val_main_v13 (F := Ideal) x0 x1 (ix2 n j) = packed (proj x0 x1 n) j := by
  unfold packed
  simp only [← v1_apply]
  pointwise [val_main_v13, val_main_v12, val_main_v11, val_main_v10, val_main_v7, val_main_v6, val_main_v5, val_main_v4, val_main_v3, val_main_v2, val_main_cst]
  repeat' split
  all_goals first
    | with_reducible rfl
    | (exfalso; omega)
    | refine congrArg (fun s => val_main_v1 (F := Ideal) x0 x1 (ix2 n s)) (Fin.ext ?_)
  all_goals (dsimp only; omega)

theorem v8_apply (n : Fin 16896) (j : Fin 1792) :
    val_main_v8 (F := Ideal) x0 x1 (ix2 n j) = proj x0 x1 n ⟨1064 + j.val, by omega⟩ := by
  simp only [← v1_apply]
  pointwise [val_main_v8]

theorem v14_apply (n : Fin 16896) (j : Fin 2048) :
    val_main_v14 (F := Ideal) x0 x1 (ix2 n j) = proj x0 x1 n ⟨2856 + j.val, by omega⟩ := by
  simp only [← v1_apply]
  pointwise [val_main_v14, val_main_v9]

end Cert.Reference2Ideal.Projection

namespace Cert.Projection

open Idealize.ShloMosaic Idealize.ShloMosaic.TcCoe Cert.Kernel2Ideal Cert.Kernel2Ideal.Projection
open Cert.Reference2Ideal.Read (val_main_v13 val_main_v11 val_main_v8 val_main_v14)

variable (m : (ℓ : Loc nD τ sig) → Buf (Elt Ideal) ℓ) (c : Dev nD)

theorem equation4 : result4 m c
    = val_main_v13 (F := Ideal) (m ((c : Thread nD τ).loc main_arg0)) (m ((c : Thread nD τ).loc main_arg1)) := by
  funext i
  have hi : i = ix2 (i 0) (i 1) := by funext k; fin_cases k <;> rfl
  refine Eq.trans ?_ (congrArg (val_main_v13 (F := Ideal) (m ((c : Thread nD τ).loc main_arg0)) (m ((c : Thread nD τ).loc main_arg1))) hi).symm
  exact (Cert.Reference2Ideal.Projection.v13_apply _ _ (i 0) (i 1)).symm

theorem equation5 : result5 m c
    = val_main_v11 (F := Ideal) (m ((c : Thread nD τ).loc main_arg0)) (m ((c : Thread nD τ).loc main_arg1)) := by
  funext i
  have hi : i = ix2 (i 0) (i 1) := by funext k; fin_cases k <;> rfl
  refine Eq.trans ?_ (congrArg (val_main_v11 (F := Ideal) (m ((c : Thread nD τ).loc main_arg0)) (m ((c : Thread nD τ).loc main_arg1))) hi).symm
  exact (Cert.Reference2Ideal.Projection.v11_apply _ _ (i 0) (i 1)).symm

theorem equation6 : result6 m c
    = val_main_v8 (F := Ideal) (m ((c : Thread nD τ).loc main_arg0)) (m ((c : Thread nD τ).loc main_arg1)) := by
  funext i
  have hi : i = ix2 (i 0) (i 1) := by funext k; fin_cases k <;> rfl
  refine Eq.trans ?_ (congrArg (val_main_v8 (F := Ideal) (m ((c : Thread nD τ).loc main_arg0)) (m ((c : Thread nD τ).loc main_arg1))) hi).symm
  exact (Cert.Reference2Ideal.Projection.v8_apply _ _ (i 0) (i 1)).symm

theorem equation7 : result7 m c
    = val_main_v14 (F := Ideal) (m ((c : Thread nD τ).loc main_arg0)) (m ((c : Thread nD τ).loc main_arg1)) := by
  funext i
  have hi : i = ix2 (i 0) (i 1) := by funext k; fin_cases k <;> rfl
  refine Eq.trans ?_ (congrArg (val_main_v14 (F := Ideal) (m ((c : Thread nD τ).loc main_arg0)) (m ((c : Thread nD τ).loc main_arg1))) hi).symm
  exact (Cert.Reference2Ideal.Projection.v14_apply _ _ (i 0) (i 1)).symm

end Cert.Projection

end
-- ==== Proof.HeadNorm.lean ====
/- The scan's output is normed within each head of 64 features. The kernel takes a head's mean as a product by a matrix whose
   entries are a sixty-fourth within the head and zero outside, of the value and of what its rounding left out. -/
module

public import proofs.«01_k».proof.Proof.Moe

@[expose] public section

set_option maxRecDepth 16384

noncomputable section

namespace Cert.Merge

open Idealize.ShloMosaic

/-- The width of a head, and what the variance has added to it. -/
def headWidth : EReal := Ideal.ofBits .f32 1115684864#32
def headEps : EReal := Ideal.ofBits .f32 975685036#32

/-- A sixty-fourth, and zero, as the kernel's host code writes them. -/
def share : EReal := Ideal.ofBits .f32 1015021568#32
def noShare : EReal := Ideal.ofBits .f32 0#32

theorem headWidth_eq : headWidth = ((64 : ℝ) : EReal) := by
  unfold headWidth
  simp [Ideal.ofBits, Ideal.ieee]
  rw [← EReal.coe_mul]
  norm_num

theorem share_eq : share = (((1 : ℝ) / 64 : ℝ) : EReal) := by
  unfold share
  simp [Ideal.ofBits, Ideal.ieee]
  rw [← EReal.coe_mul]
  norm_num

theorem noShare_eq : noShare = ((0 : ℝ) : EReal) := by
  unfold noShare
  simp [Ideal.ofBits, Ideal.ieee]

/-- The head of feature `i`, and feature `k` of head `a`. -/
def head (i : Fin 512) : Fin 8 := ⟨i.val / 64, by omega⟩
def inHead (a : Fin 8) (k : Fin 64) : Fin 512 := ⟨a.val * 64 + k.val, by omega⟩

theorem head_inHead (a : Fin 8) (k : Fin 64) : head (inHead a k) = a := by
  apply Fin.ext
  show (a.val * 64 + k.val) / 64 = a.val
  omega

/-- The mean over a head. -/
def headMean (u : Fin 512 → EReal) (a : Fin 8) : EReal := Ideal.div (∑ k, u (inHead a k)) headWidth

/-- A feature less its head's mean. -/
def centred (u : Fin 512 → EReal) (i : Fin 512) : EReal := u i - headMean u (head i)

/-- The norm within each head, before scale and shift. -/
def headNorm (u : Fin 512 → EReal) (i : Fin 512) : EReal :=
  centred u i * Ideal.rsqrt (headMean (fun k => centred u k * centred u k) (head i) + headEps)

/-- The entry of the averaging matrix. -/
def averaging (i j : Fin 512) : EReal := if head i = head j then share else noShare

/-- A head's mean as the kernel takes it. -/
def splitMean (u : Fin 512 → EReal) (j : Fin 512) : EReal := (∑ k, u k * averaging k j) + ∑ k, (u k - u k) * averaging k j

/-- The norm within each head as the kernel takes it. -/
def splitNorm (u : Fin 512 → EReal) (i : Fin 512) : EReal :=
  (u i - splitMean u i) * Ideal.rsqrt (splitMean (fun k => (u k - splitMean u k) * (u k - splitMean u k)) i + headEps)

/-- Summing over features is summing over heads and within each. -/
theorem sum_heads (f : Fin 512 → ℝ) : ∑ i, f i = ∑ a, ∑ k, f (inHead a k) := by
  rw [← Fintype.sum_prod_type' (f := fun a k => f (inHead a k))]
  refine (Fintype.sum_equiv (finProdFinEquiv (m := 8) (n := 64)) _ _ fun p => ?_).symm
  congr 1
  apply Fin.ext
  show p.1.val * 64 + p.2.val = p.2.val + 64 * p.1.val
  omega

theorem coe_sum {ι : Type} [Fintype ι] (f : ι → ℝ) : (∑ i, (f i : EReal)) = ((∑ i, f i : ℝ) : EReal) := by
  exact (map_sum (⟨⟨fun r : ℝ => (r : EReal), rfl⟩, EReal.coe_add⟩ : ℝ →+ EReal) f Finset.univ).symm

theorem headMean_real (r : Fin 512 → ℝ) (a : Fin 8) :
    headMean (fun i => (r i : EReal)) a = (((∑ k, r (inHead a k)) / 64 : ℝ) : EReal) := by
  unfold headMean
  rw [headWidth_eq, coe_sum]
  unfold Ideal.div
  rw [if_neg (by norm_num)]
  norm_cast

theorem splitMean_real (r : Fin 512 → ℝ) (j : Fin 512) :
    splitMean (fun i => (r i : EReal)) j = headMean (fun i => (r i : EReal)) (head j) := by
  rw [headMean_real]
  unfold splitMean averaging
  rw [share_eq, noShare_eq]
  have e0 : ∀ k : Fin 512, ((r k : EReal) - (r k : EReal)) * (if head k = head j then (((1 : ℝ) / 64 : ℝ) : EReal) else ((0 : ℝ) : EReal)) = 0 := by
    intro k
    rw [← EReal.coe_sub, sub_self, EReal.coe_zero, zero_mul]
  have e1 : ∀ k : Fin 512, (r k : EReal) * (if head k = head j then (((1 : ℝ) / 64 : ℝ) : EReal) else ((0 : ℝ) : EReal))
      = ((if head k = head j then r k / 64 else 0 : ℝ) : EReal) := by
    intro k
    split
    · rw [← EReal.coe_mul]; congr 1; ring
    · rw [← EReal.coe_mul, mul_zero]
  simp only [e0, e1, Finset.sum_const_zero, add_zero]
  rw [coe_sum, sum_heads]
  simp only [head_inHead]
  congr 1
  rw [Finset.sum_div]
  rw [Finset.sum_eq_single (head j)]
  · simp
  · intro a _ ha
    simp [ha]
  · simp

theorem splitNorm_eq (u : Fin 512 → EReal) (hu : ∀ i, ∃ r : ℝ, u i = r) : splitNorm u = headNorm u := by
  choose r hr using hu
  obtain rfl : u = fun i => (r i : EReal) := funext hr
  have ec : ∀ i, (r i : EReal) - headMean (fun i => (r i : EReal)) (head i) = ((r i - (∑ k, r (inHead (head i) k)) / 64 : ℝ) : EReal) := by
    intro i
    rw [headMean_real, EReal.coe_sub]
  funext i
  unfold splitNorm headNorm centred
  simp only [splitMean_real, ec, ← EReal.coe_mul]

end Cert.Merge

end
-- ==== Proof.Merge.lean ====
/- The merge of the two branches: what the kernel's result array holds. -/
module

public import proofs.«01_k».proof.Proof.HeadNorm
public import proofs.«01_k».proof.Proof.Gen.Kernel3Ideal.Value
public import Idealize.ShloMosaic.Lib.Pipeline.ValueKit
public import Idealize.ShloMosaic.Lib.Pointwise
public import Idealize.ShloMosaic.PureOps.Ideal

@[expose] public section

set_option maxRecDepth 16384

noncomputable section

namespace Cert.Merge

open Idealize.ShloMosaic Cert.Moe

/-- The recurrent branch's output: the normed scan scaled and shifted, the bonus added, and the gate. -/
def branch (z : Fin 512 → EReal) (gg gb bonus g : Fin 512 → EReal) (i : Fin 512) : EReal :=
  (z i * gg i + gb i + bonus i) * g i

/-- The gated sum of the two branches' projections at feature `e`. -/
def mixed (oa ob : Fin 512 → EReal) (ug bg : Fin 2048 → EReal) (wa wb : Fin 512 → Fin 1024 → EReal) (e : Fin 1024) : EReal :=
  Ideal.logistic (ug ⟨e.val, by omega⟩ + bg ⟨e.val, by omega⟩) * (∑ k, oa k * wa k e)
    + Ideal.logistic (ug ⟨1024 + e.val, by omega⟩ + bg ⟨1024 + e.val, by omega⟩) * (∑ k, ob k * wb k e)

/-- The residual sum at feature `d`. -/
def residual (h mix : Fin 1024 → EReal) (wo : Fin 1024 → Fin 1024 → EReal) (d : Fin 1024) : EReal :=
  alpha * h d + ∑ e, mix e * wo e d

end Cert.Merge

namespace Cert.Kernel3Ideal.Merge

open Idealize.ShloMosaic Idealize.ShloMosaic.TcCoe Cert.Kernel3Ideal Cert.Kernel3Ideal.Gen Cert.Merge Cert.Moe

theorem idxA : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_15.index t (0 : Fin 2) = t.val ∧ win0_15.index t (1 : Fin 2) = 0 :=
  (by decide +kernel : ∀ t : Fin grid0.N, _)

theorem idxB : ∀ t : Fin cfg0.N, win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

theorem point_lt (t : Fin cfg0.N) : t.val < 66 := lt_of_lt_of_eq t.isLt N_0

/-- Row `r` of tile `t`, as a token's number. -/
def rowOf (t : Fin cfg0.N) (r : Fin 256) : Fin 16896 := ⟨t.val * 256 + r.val, by have := point_lt t; omega⟩

variable (m : (ℓ : Loc nD τ sig) → Buf (Elt Ideal) ℓ) (c : Dev nD) (t : Fin cfg0.N)

/-- The call's operands, token by token where they have tokens. -/
def tokens (n : Fin 16896) (k : Fin 1024) : EReal := V m c main_v0 (ix2 n k)
def attended (n : Fin 16896) (k : Fin 512) : EReal := V m c main_v1 (ix2 n k)
def scanned (n : Fin 16896) (k : Fin 512) : EReal := V m c main_v2 (ix2 n k)
def bonus (n : Fin 16896) (k : Fin 512) : EReal := V m c main_v3 (ix2 n k)
def gate (n : Fin 16896) (k : Fin 512) : EReal := V m c main_v4 (ix2 n k)
def gates (n : Fin 16896) (k : Fin 2048) : EReal := V m c main_v5 (ix2 n k)
def gatesBias (k : Fin 2048) : EReal := m ((c : Thread nD τ).loc main_arg6) (ix1 k)
def scale (k : Fin 512) : EReal := m ((c : Thread nD τ).loc main_arg7) (ix1 k)
def shift (k : Fin 512) : EReal := m ((c : Thread nD τ).loc main_arg8) (ix1 k)
def branchA (k : Fin 512) (e : Fin 1024) : EReal := m ((c : Thread nD τ).loc main_arg9) (ix2 k e)
def branchB (k : Fin 512) (e : Fin 1024) : EReal := m ((c : Thread nD τ).loc main_arg10) (ix2 k e)
def outer (e d : Fin 1024) : EReal := m ((c : Thread nD τ).loc main_arg11) (ix2 e d)
def normScale (d : Fin 1024) : EReal := m ((c : Thread nD τ).loc main_arg12) (ix1 d)
def normShift (d : Fin 1024) : EReal := m ((c : Thread nD τ).loc main_arg13) (ix1 d)

/-- Each number divided by 64 and rounded down, as the host code does it. -/
def floorDiv (x : IVec S512x512 32) : IVec S512x512 32 :=
  select (andi
      (cmpi .ne (signi x) (broadcastInDim S512x512 ![] bcast_S_S512x512 (signi (constantI S_ 32 64#32))))
      (cmpi .ne (Host.remsi x (broadcastInDim S512x512 ![] bcast_S_S512x512 (constantI S_ 32 64#32))) (broadcastInDim S512x512 ![] bcast_S_S512x512 (constantI S_ 32 0#32))))
    (subi (Host.divsi x (broadcastInDim S512x512 ![] bcast_S_S512x512 (constantI S_ 32 64#32))) (broadcastInDim S512x512 ![] bcast_S_S512x512 (constantI S_ 32 1#32)))
    (Host.divsi x (broadcastInDim S512x512 ![] bcast_S_S512x512 (constantI S_ 32 64#32)))

theorem averaging_host : V m c main_v12 = (truncf .bf16 (select (cmpi .eq (floorDiv (iotaInDim S512x512 32 0)) (floorDiv (iotaInDim S512x512 32 1)))
    (broadcastInDim S512x512 ![] bcast_S_S512x512 (constant S_ .f32 0x3C800000#32 : FVec Ideal S_ .f32))
    (broadcastInDim S512x512 ![] bcast_S_S512x512 (constant S_ .f32 0x00000000#32 : FVec Ideal S_ .f32))) bitsLt_bf16_f32 : FVec Ideal S512x512 .bf16) := by
  entry_read
  rfl

/-- The scalar steps of that division. -/
theorem floorDiv_scalar : ∀ i : Fin 512, Scalar.select
        (IntOp.andi
          (IntOp.cmpi CmpIPredicate.ne
            (if BitVec.ofNat 32 i.val = 0 then (0 : BitVec 32) else if (BitVec.ofNat 32 i.val).msb = true then -1 else 1)
            (if 64#32 = 0 then (0 : BitVec 32) else if (64#32).msb = true then -1 else 1))
          (IntOp.cmpi CmpIPredicate.ne (IntOp.remsi ArithUnit.host (BitVec.ofNat 32 i.val) 64#32) 0#32))
        (IntOp.subi (IntOp.divsi ArithUnit.host (BitVec.ofNat 32 i.val) 64#32) 1#32)
        (IntOp.divsi ArithUnit.host (BitVec.ofNat 32 i.val) 64#32) = BitVec.ofNat 32 (i.val / 64) := by
  decide +kernel

theorem floorDiv0 (i j : Fin 512) : floorDiv (iotaInDim S512x512 32 0) (ix2 i j) = BitVec.ofNat 32 (i.val / 64) := by
  pointwise [floorDiv]
  exact floorDiv_scalar i

theorem floorDiv1 (i j : Fin 512) : floorDiv (iotaInDim S512x512 32 1) (ix2 i j) = BitVec.ofNat 32 (j.val / 64) := by
  pointwise [floorDiv]
  exact floorDiv_scalar j

theorem head_eq_iff : ∀ i j : Fin 512, BitVec.ofNat 32 (i.val / 64) = BitVec.ofNat 32 (j.val / 64) ↔ head i = head j := by
  intro i j
  unfold head
  rw [Fin.mk.injEq, ← BitVec.toNat_inj, BitVec.toNat_ofNat, BitVec.toNat_ofNat]
  omega

theorem read_averaging (i j : Fin 512) : iblk m c 9 t (ix2 i j) = averaging i j := by
  have e : iblk m c 9 t (ix2 i j) = V m c main_v12 (ix2 i j) := by blk_ext [iblk, idxB t]
  rw [e, averaging_host]
  unfold averaging Cert.Merge.share noShare
  pointwise
  rw [floorDiv0, floorDiv1]
  by_cases h : head i = head j
  · rw [if_pos h, (head_eq_iff i j).mpr h]
    simp [Scalar.select, IntOp.cmpi]
  · rw [if_neg h]
    have h' : ¬BitVec.ofNat 32 (i.val / 64) = BitVec.ofNat 32 (j.val / 64) := fun q => h ((head_eq_iff i j).mp q)
    have h'' : (BitVec.ofNat 32 (i.val / 64) == BitVec.ofNat 32 (j.val / 64)) = false := beq_eq_false_iff_ne.mpr h'
    simp only [Scalar.select, IntOp.cmpi, h'']
    simp

theorem read_tokens (r : Fin 256) (k : Fin 1024) : iblk m c 0 t (ix2 r k) = tokens m c (rowOf t r) k := by
  unfold tokens rowOf
  blk_ext [iblk, idxA t]
theorem read_attended (r : Fin 256) (k : Fin 512) : iblk m c 1 t (ix2 r k) = attended m c (rowOf t r) k := by
  unfold attended rowOf
  blk_ext [iblk, idxA t]
theorem read_scanned (r : Fin 256) (k : Fin 512) : iblk m c 2 t (ix2 r k) = scanned m c (rowOf t r) k := by
  unfold scanned rowOf
  blk_ext [iblk, idxA t]
theorem read_bonus (r : Fin 256) (k : Fin 512) : iblk m c 3 t (ix2 r k) = bonus m c (rowOf t r) k := by
  unfold bonus rowOf
  blk_ext [iblk, idxA t]
theorem read_gate (r : Fin 256) (k : Fin 512) : iblk m c 4 t (ix2 r k) = gate m c (rowOf t r) k := by
  unfold gate rowOf
  blk_ext [iblk, idxA t]
theorem read_gates (r : Fin 256) (k : Fin 2048) : iblk m c 5 t (ix2 r k) = gates m c (rowOf t r) k := by
  unfold gates rowOf
  blk_ext [iblk, idxA t]

theorem read_gatesBias (k : Fin 2048) : iblk m c 6 t (ix2 (0 : Fin 1) k) = gatesBias m c k := by
  have e : iblk m c 6 t (ix2 (0 : Fin 1) k) = V m c main_v13 (ix2 (0 : Fin 1) k) := by blk_ext [iblk, idxB t]
  rw [e, show V m c main_v13 = (shapeCast S1x2048 (m ((c : Thread nD τ).loc main_arg6) : FVec Ideal S2048 .f32) shapeCasts_S2048_S1x2048 : FVec Ideal S1x2048 .f32) from rfl]
  unfold gatesBias
  exact shapeCast_apply (s := S2048) (t := S1x2048) (m ((c : Thread nD τ).loc main_arg6)) shapeCasts_S2048_S1x2048 (ix2 (0 : Fin 1) k) (ix1 k) (by
    rw [Shape.rowMajor_val_one, Shape.rowMajor_val_two]
    exact (show k.val = 0 * 2048 + k.val by omega))
theorem read_scale (k : Fin 512) : iblk m c 7 t (ix2 (0 : Fin 1) k) = scale m c k := by
  have e : iblk m c 7 t (ix2 (0 : Fin 1) k) = V m c main_v14 (ix2 (0 : Fin 1) k) := by blk_ext [iblk, idxB t]
  rw [e, show V m c main_v14 = (shapeCast S1x512 (m ((c : Thread nD τ).loc main_arg7) : FVec Ideal S512 .f32) shapeCasts_S512_S1x512 : FVec Ideal S1x512 .f32) from rfl]
  unfold scale
  pointwise
theorem read_shift (k : Fin 512) : iblk m c 8 t (ix2 (0 : Fin 1) k) = shift m c k := by
  have e : iblk m c 8 t (ix2 (0 : Fin 1) k) = V m c main_v15 (ix2 (0 : Fin 1) k) := by blk_ext [iblk, idxB t]
  rw [e, show V m c main_v15 = (shapeCast S1x512 (m ((c : Thread nD τ).loc main_arg8) : FVec Ideal S512 .f32) shapeCasts_S512_S1x512 : FVec Ideal S1x512 .f32) from rfl]
  unfold shift
  pointwise
theorem read_branchA (k : Fin 512) (e : Fin 1024) : iblk m c 10 t (ix2 k e) = branchA m c k e := by
  have h : iblk m c 10 t (ix2 k e) = V m c main_v16 (ix2 k e) := by blk_ext [iblk, idxB t]
  exact h
theorem read_branchB (k : Fin 512) (e : Fin 1024) : iblk m c 11 t (ix2 k e) = branchB m c k e := by
  have h : iblk m c 11 t (ix2 k e) = V m c main_v17 (ix2 k e) := by blk_ext [iblk, idxB t]
  exact h
theorem read_outer (e d : Fin 1024) : iblk m c 12 t (ix2 e d) = outer m c e d := by
  have h : iblk m c 12 t (ix2 e d) = V m c main_v18 (ix2 e d) := by blk_ext [iblk, idxB t]
  exact h
theorem read_normScale (d : Fin 1024) : iblk m c 13 t (ix2 (0 : Fin 1) d) = normScale m c d := by
  have e : iblk m c 13 t (ix2 (0 : Fin 1) d) = V m c main_v19 (ix2 (0 : Fin 1) d) := by blk_ext [iblk, idxB t]
  rw [e, show V m c main_v19 = (shapeCast S1x1024 (m ((c : Thread nD τ).loc main_arg12) : FVec Ideal S1024 .f32) shapeCasts_S1024_S1x1024 : FVec Ideal S1x1024 .f32) from rfl]
  unfold normScale
  pointwise
theorem read_normShift (d : Fin 1024) : iblk m c 14 t (ix2 (0 : Fin 1) d) = normShift m c d := by
  have e : iblk m c 14 t (ix2 (0 : Fin 1) d) = V m c main_v20 (ix2 (0 : Fin 1) d) := by blk_ext [iblk, idxB t]
  rw [e, show V m c main_v20 = (shapeCast S1x1024 (m ((c : Thread nD τ).loc main_arg13) : FVec Ideal S1024 .f32) shapeCasts_S1024_S1x1024 : FVec Ideal S1x1024 .f32) from rfl]
  unfold normShift
  pointwise

end Cert.Kernel3Ideal.Merge

end
-- ==== Proof.MergeValue.lean ====
/- The merge of the two branches: the kernel's payloads read at an index, and its whole result array. -/
module

public import proofs.«01_k».proof.Proof.Merge

@[expose] public section

set_option maxRecDepth 16384

noncomputable section

namespace Cert.Kernel3Ideal.Merge

open Idealize.ShloMosaic Idealize.ShloMosaic.TcCoe Cert.Kernel3Ideal Cert.Kernel3Ideal.Gen Cert.Merge Cert.Moe

theorem pay2 (y : Vec Ideal S256x512 .f32) (H : Vec Ideal S512x512 .bf16) (gg gb : Vec Ideal S1x512 .f32) (bo g : Vec Ideal S256x512 .f32)
    (hH : ∀ i j, H (ix2 i j) = averaging i j) (r : Fin 256) (i : Fin 512) :
    k0_pay2 (F := Ideal) y H gg gb bo g (ix2 r i)
      = branch (splitNorm fun k => y (ix2 r k)) (fun k => gg (ix2 (0 : Fin 1) k)) (fun k => gb (ix2 (0 : Fin 1) k))
          (fun k => bo (ix2 r k)) (fun k => g (ix2 r k)) i := by
  unfold branch splitNorm splitMean headEps
  simp only [← hH]
  pointwise [k0_pay2]

theorem pay4 (ob : FVec Ideal S256x512 .f32) (ug : FVec Ideal S256x2048 .bf16) (bg : Vec Ideal S1x2048 .f32) (oa : Vec Ideal S256x512 .bf16)
    (wa wb : Vec Ideal S512x1024 .bf16) (wo : Vec Ideal S1024x1024 .bf16) (h : Vec Ideal S256x1024 .f32) (r : Fin 256) (d : Fin 1024) :
    k0_pay4 (F := Ideal) ob ug bg oa wa wb wo h (ix2 r d)
      = residual (fun k => h (ix2 r k))
          (mixed (fun k => oa (ix2 r k)) (fun k => ob (ix2 r k)) (fun k => ug (ix2 r k)) (fun k => bg (ix2 (0 : Fin 1) k))
            (fun k e => wa (ix2 k e)) (fun k e => wb (ix2 k e))) (fun e d => wo (ix2 e d)) d := by
  unfold Cert.Merge.residual mixed alpha
  pointwise [k0_pay4]

theorem pay1 (ob : FVec Ideal S256x512 .f32) (ug : FVec Ideal S256x2048 .bf16) (bg : Vec Ideal S1x2048 .f32) (oa : Vec Ideal S256x512 .bf16)
    (wa wb : Vec Ideal S512x1024 .bf16) (wo : Vec Ideal S1024x1024 .bf16) (h : Vec Ideal S256x1024 .f32) (g b : Vec Ideal S1x1024 .f32)
    (r : Fin 256) (d : Fin 1024) :
    k0_pay1 (F := Ideal) (k0_pay4 ob ug bg oa wa wb wo h) (k0_pay5 g) (k0_pay6 b) (k0_pay7 ob ug bg oa wa wb wo h) (ix2 r d)
      = norm (fun k => k0_pay4 (F := Ideal) ob ug bg oa wa wb wo h (ix2 r k)) (g (ix2 (0 : Fin 1) d)) (b (ix2 (0 : Fin 1) d)) d := by
  unfold Cert.Moe.norm mean
  pointwise [k0_pay1, k0_pay5, k0_pay6, k0_pay7]
  rfl

variable (m : (ℓ : Loc nD τ sig) → Buf (Elt Ideal) ℓ) (c : Dev nD) (t : Fin cfg0.N)

/-- The recurrent branch of token `n`, as the kernel takes it. -/
def recurrent (n : Fin 16896) : Fin 512 → EReal :=
  branch (splitNorm (scanned m c n)) (scale m c) (shift m c) (bonus m c n) (gate m c n)

/-- The residual sum of token `n`. -/
def sum (n : Fin 16896) : Fin 1024 → EReal :=
  residual (tokens m c n) (mixed (attended m c n) (recurrent m c n) (gates m c n) (gatesBias m c) (branchA m c) (branchB m c)) (outer m c)

def result : Buf (Elt Ideal) ((c : Thread nD τ).loc main_v21) := fun i => norm (sum m c (i 0)) (normScale m c (i 1)) (normShift m c (i 1)) (i 1)

theorem out (r : Fin 256) (d : Fin 1024) :
    k0_pay1 (F := Ideal) (k0_pay4 (k0_pay2 (iblk m c 2 t) (iblk m c 9 t) (iblk m c 7 t) (iblk m c 8 t) (iblk m c 3 t) (iblk m c 4 t)) (k0_pay3 (iblk m c 5 t)) (iblk m c 6 t) (iblk m c 1 t) (iblk m c 10 t) (iblk m c 11 t) (iblk m c 12 t) (iblk m c 0 t)) (k0_pay5 (iblk m c 13 t)) (k0_pay6 (iblk m c 14 t))
      (k0_pay7 (k0_pay2 (iblk m c 2 t) (iblk m c 9 t) (iblk m c 7 t) (iblk m c 8 t) (iblk m c 3 t) (iblk m c 4 t)) (k0_pay3 (iblk m c 5 t)) (iblk m c 6 t) (iblk m c 1 t) (iblk m c 10 t) (iblk m c 11 t) (iblk m c 12 t) (iblk m c 0 t)) (ix2 r d)
      = norm (sum m c (rowOf t r)) (normScale m c d) (normShift m c d) d := by
  rw [pay1]
  have e3 : ∀ k : Fin 2048, k0_pay3 (F := Ideal) (iblk m c 5 t) (ix2 r k) = iblk m c 5 t (ix2 r k) := by
    intro k
    pointwise [k0_pay3]
  simp only [pay4, pay2 _ _ _ _ _ _ (read_averaging m c t), e3, read_tokens, read_attended, read_scanned, read_bonus, read_gate, read_gates,
    read_gatesBias, read_scale, read_shift, read_branchA, read_branchB, read_outer, read_normScale, read_normShift]
  rfl

theorem pay8 (a0 : Vec Ideal S256x1024 .f32) (a1 : Vec Ideal S256x512 .bf16) (a2 a3 a4 : Vec Ideal S256x512 .f32) (a5 : Vec Ideal S256x2048 .bf16) (a6 : Vec Ideal S1x2048 .f32)
    (a7 a8 : Vec Ideal S1x512 .f32) (a9 : Vec Ideal S512x512 .bf16) (a10 a11 : Vec Ideal S512x1024 .bf16) (a12 : Vec Ideal S1024x1024 .bf16) (a13 a14 : Vec Ideal S1x1024 .f32) :
    k0_pay8 (F := Ideal) a0 a1 a2 a3 a4 a5 a6 a7 a8 a9 a10 a11 a12 a13 a14 = k0_pay2 a2 a9 a7 a8 a3 a4 := by
  unfold k0_pay8
  simp (disch := decide) only [r0_0, r0_1, r0_2, View.ld_unit_lit']

theorem pay9 (a0 : Vec Ideal S256x1024 .f32) (a1 : Vec Ideal S256x512 .bf16) (a2 a3 a4 : Vec Ideal S256x512 .f32) (a5 : Vec Ideal S256x2048 .bf16) (a6 : Vec Ideal S1x2048 .f32)
    (a7 a8 : Vec Ideal S1x512 .f32) (a9 : Vec Ideal S512x512 .bf16) (a10 a11 : Vec Ideal S512x1024 .bf16) (a12 : Vec Ideal S1024x1024 .bf16) (a13 a14 : Vec Ideal S1x1024 .f32) :
    k0_pay9 (F := Ideal) a0 a1 a2 a3 a4 a5 a6 a7 a8 a9 a10 a11 a12 a13 a14 = k0_pay3 a5 := by
  unfold k0_pay9
  simp (disch := decide) only [r0_3, View.ld_unit_lit']

theorem final : (dats m 0 c).arrAt 15 cfg0.N = result m c := by
  refine (dats m 0 c).arrAt_eq_of_covers 15 _ (by decide +kernel) fun t hf y => ?_
  blk_simp
  rw [after0_15]
  frame_out
  have hy : y = ix2 (y 0) (y 1) := by funext k; fin_cases k <;> rfl
  have e0 : ((View.whole main_v21).slice (win0_15.rect t)).emb y = ix2 (rowOf t (y 0)) (y 1) := by
    unfold rowOf
    blk_ext [idxA t]
  rw [pay8, pay9, e0]
  conv_lhs => rw [hy]
  exact out m c t (y 0) (y 1)

end Cert.Kernel3Ideal.Merge

end
-- ==== Proof.MergeRef.lean ====
/- The merge of the two branches: what the reference's result holds. -/
module

public import proofs.«01_k».proof.Proof.Merge
public import proofs.«01_k».proof.Proof.Gen.Reference3Ideal.Read

@[expose] public section

set_option maxRecDepth 16384

noncomputable section

namespace Cert.Reference3Ideal.Merge

open Idealize.ShloMosaic Idealize.ShloMosaic.TcCoe Cert.Reference3Ideal Cert.Reference3Ideal.Gen Cert.Reference3Ideal.Read Cert.Merge Cert.Moe

variable (x0 : (⟨S4x4224x1024, .f32⟩ : BufTy).Contents (Elt Ideal)) (x1 : (⟨S4x4224x512, .bf16⟩ : BufTy).Contents (Elt Ideal))
  (x2 x3 x4 : (⟨S4x4224x512, .f32⟩ : BufTy).Contents (Elt Ideal)) (x5 : (⟨S4x4224x2048, .bf16⟩ : BufTy).Contents (Elt Ideal))
  (x6 : (⟨S2048, .f32⟩ : BufTy).Contents (Elt Ideal)) (x7 x8 : (⟨S512, .f32⟩ : BufTy).Contents (Elt Ideal))
  (x9 x10 : (⟨S512x1024, .f32⟩ : BufTy).Contents (Elt Ideal)) (x11 : (⟨S1024x1024, .f32⟩ : BufTy).Contents (Elt Ideal))
  (x12 x13 : (⟨S1024, .f32⟩ : BufTy).Contents (Elt Ideal))

/-- Feature `k` of head `a` of the scan's output. -/
theorem v6_apply (n : Fin 16896) (a : Fin 8) (k : Fin 64) :
    val_main_v6 (F := Ideal) x2 (ix3 n a k) = val_main_v2 (F := Ideal) x2 (ix2 n (inHead a k)) := by
  rw [val_main_v6_apply]
  refine congrArg _ ?_
  funext b
  match b with
  | ⟨0, _⟩ => exact Fin.ext (show ((n.val * 8 + a.val) * 64 + k.val) / 512 = n.val by omega)
  | ⟨1, _⟩ => exact Fin.ext (show ((n.val * 8 + a.val) * 64 + k.val) % 512 = a.val * 64 + k.val by omega)

theorem v10_apply (n : Fin 16896) (a : Fin 8) :
    val_main_v10 (F := Ideal) x2 (ix3 n a (0 : Fin 1)) = headMean (fun k => val_main_v2 (F := Ideal) x2 (ix2 n k)) a := by
  unfold headMean headWidth
  simp only [← v6_apply]
  pointwise [val_main_v10, val_main_v9, val_main_v8, val_main_v7, val_main_cst, val_main_cst_0]

theorem v12_apply (n : Fin 16896) (a : Fin 8) (k : Fin 64) :
    val_main_v12 (F := Ideal) x2 (ix3 n a k) = centred (fun k => val_main_v2 (F := Ideal) x2 (ix2 n k)) (inHead a k) := by
  unfold centred
  rw [head_inHead, ← v10_apply]
  show _ = val_main_v2 (F := Ideal) x2 (ix2 n (inHead a k)) - _
  rw [← v6_apply]
  pointwise [val_main_v12, val_main_v11]

theorem v17_apply (n : Fin 16896) (a : Fin 8) :
    val_main_v17 (F := Ideal) x2 (ix3 n a (0 : Fin 1)) = headMean (fun k => centred (fun k => val_main_v2 (F := Ideal) x2 (ix2 n k)) k
      * centred (fun k => val_main_v2 (F := Ideal) x2 (ix2 n k)) k) a := by
  unfold headMean headWidth
  simp only [← v12_apply]
  pointwise [val_main_v17, val_main_v16, val_main_v15, val_main_v14, val_main_v13, val_main_cst_1, val_main_cst_2]

theorem v24_apply (n : Fin 16896) (a : Fin 8) (k : Fin 64) :
    val_main_v24 (F := Ideal) x2 (ix3 n a k) = headNorm (fun k => val_main_v2 (F := Ideal) x2 (ix2 n k)) (inHead a k) := by
  unfold headNorm headEps
  rw [head_inHead, ← v17_apply, ← v12_apply]
  pointwise [val_main_v24, val_main_v23, val_main_v22, val_main_v21, val_main_v20, val_main_v19, val_main_v18, val_main_v12, val_main_v11, val_main_cst_3]

theorem v25_apply (n : Fin 16896) (i : Fin 512) :
    val_main_v25 (F := Ideal) x2 (ix2 n i) = headNorm (fun k => val_main_v2 (F := Ideal) x2 (ix2 n k)) i := by
  rw [val_main_v25_apply]
  have e : idx_main_v25 (ix2 n i) = ix3 n (head i) ⟨i.val % 64, by omega⟩ := by
    funext b
    match b with
    | ⟨0, _⟩ => exact Fin.ext (show (n.val * 512 + i.val) / 512 = n.val by omega)
    | ⟨1, _⟩ => exact Fin.ext (show (n.val * 512 + i.val) / 64 % 8 = i.val / 64 by omega)
    | ⟨2, _⟩ => exact Fin.ext (show (n.val * 512 + i.val) % 64 = i.val % 64 by omega)
  rw [e, v24_apply]
  refine congrArg _ (Fin.ext ?_)
  show i.val / 64 * 64 + i.val % 64 = i.val
  omega

theorem v33_apply (n : Fin 16896) (i : Fin 512) :
    val_main_v33 (F := Ideal) x2 x3 x4 x7 x8 (ix2 n i)
      = branch (headNorm fun k => val_main_v2 (F := Ideal) x2 (ix2 n k)) (fun k => x7 (ix1 k)) (fun k => x8 (ix1 k))
          (fun k => val_main_v3 (F := Ideal) x3 (ix2 n k)) (fun k => val_main_v4 (F := Ideal) x4 (ix2 n k)) i := by
  unfold branch
  rw [← v25_apply]
  pointwise [val_main_v33, val_main_v32, val_main_v31, val_main_v30, val_main_v29, val_main_v28, val_main_v27, val_main_v26]

theorem v51_apply (n : Fin 16896) (e : Fin 1024) :
    val_main_v51 (F := Ideal) x1 x2 x3 x4 x5 x6 x7 x8 x9 x10 (ix2 n e)
      = mixed (fun k => val_main_v1 (F := Ideal) x1 (ix2 n k)) (fun k => val_main_v33 (F := Ideal) x2 x3 x4 x7 x8 (ix2 n k))
          (fun k => val_main_v5 (F := Ideal) x5 (ix2 n k)) (fun k => x6 (ix1 k)) (fun k e => x9 (ix2 k e)) (fun k e => x10 (ix2 k e)) e := by
  unfold mixed
  pointwise [val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34, val_main_cst_4, val_main_cst_5]
  rfl

theorem v55_apply (n : Fin 16896) (d : Fin 1024) :
    val_main_v55 (F := Ideal) x0 x1 x2 x3 x4 x5 x6 x7 x8 x9 x10 x11 (ix2 n d)
      = residual (fun k => val_main_v0 (F := Ideal) x0 (ix2 n k))
          (fun e => val_main_v51 (F := Ideal) x1 x2 x3 x4 x5 x6 x7 x8 x9 x10 (ix2 n e)) (fun e d => x11 (ix2 e d)) d := by
  unfold Cert.Merge.residual alpha
  pointwise [val_main_v55, val_main_v54, val_main_v53, val_main_v52, val_main_cst_6]

theorem v79_apply (n : Fin 16896) (d : Fin 1024) :
    val_main_v79 (F := Ideal) x0 x1 x2 x3 x4 x5 x6 x7 x8 x9 x10 x11 x12 x13 (ix2 n d)
      = norm (fun k => val_main_v55 (F := Ideal) x0 x1 x2 x3 x4 x5 x6 x7 x8 x9 x10 x11 (ix2 n k)) (x12 (ix1 d)) (x13 (ix1 d)) d := by
  unfold Cert.Moe.norm mean
  pointwise [val_main_v79, val_main_v78, val_main_v77, val_main_v76, val_main_v75, val_main_v74, val_main_v73, val_main_v72, val_main_v71,
    val_main_v70, val_main_v69, val_main_v68, val_main_v67, val_main_v66, val_main_v65, val_main_v64, val_main_v63, val_main_v62, val_main_v61,
    val_main_v60, val_main_v59, val_main_v58, val_main_v57, val_main_v56, val_main_cst_7, val_main_cst_8, val_main_cst_9, val_main_cst_10, val_main_cst_11]
  rfl

/-- The reference's result, every layer of it written out. -/
theorem v79_whole (n : Fin 16896) (d : Fin 1024) :
    val_main_v79 (F := Ideal) x0 x1 x2 x3 x4 x5 x6 x7 x8 x9 x10 x11 x12 x13 (ix2 n d)
      = norm (Cert.Merge.residual (fun k => val_main_v0 (F := Ideal) x0 (ix2 n k))
          (mixed (fun k => val_main_v1 (F := Ideal) x1 (ix2 n k))
            (branch (headNorm fun k => val_main_v2 (F := Ideal) x2 (ix2 n k)) (fun k => x7 (ix1 k)) (fun k => x8 (ix1 k))
              (fun k => val_main_v3 (F := Ideal) x3 (ix2 n k)) (fun k => val_main_v4 (F := Ideal) x4 (ix2 n k)))
            (fun k => val_main_v5 (F := Ideal) x5 (ix2 n k)) (fun k => x6 (ix1 k)) (fun k e => x9 (ix2 k e)) (fun k e => x10 (ix2 k e)))
          (fun e d => x11 (ix2 e d))) (x12 (ix1 d)) (x13 (ix1 d)) d := by
  rw [v79_apply]
  refine congrArg (fun f => norm f (x12 (ix1 d)) (x13 (ix1 d)) d) (funext fun k => ?_)
  rw [v55_apply]
  refine congrArg (fun f => Cert.Merge.residual (fun k => val_main_v0 (F := Ideal) x0 (ix2 n k)) f (fun e d => x11 (ix2 e d)) k) (funext fun e => ?_)
  rw [v51_apply]
  refine congrArg (fun f => mixed (fun k => val_main_v1 (F := Ideal) x1 (ix2 n k)) f (fun k => val_main_v5 (F := Ideal) x5 (ix2 n k)) (fun k => x6 (ix1 k))
    (fun k e => x9 (ix2 k e)) (fun k e => x10 (ix2 k e)) e) (funext fun j => ?_)
  exact v33_apply x2 x3 x4 x7 x8 n j

end Cert.Reference3Ideal.Merge

end
-- ==== Proof.MergeEquation.lean ====
/- The merge of the two branches: the kernel's result array is the reference's when the scan's output is finite. -/
module

public import proofs.«01_k».proof.Proof.MergeValue
public import proofs.«01_k».proof.Proof.MergeRef
public import proofs.«01_k».proof.Proof.Equation
public import proofs.«01_k».proof.Pre_finite_scan

@[expose] public section

set_option maxRecDepth 16384

noncomputable section

namespace Cert.Merge

open Idealize.ShloMosaic Idealize.ShloMosaic.TcCoe Cert.Kernel3Ideal Cert.Kernel3Ideal.Merge Cert.Moe

theorem pre_facts : Cert.Pre_finite_scan.Facts := ⟨by decide⟩

/-- A number whose absolute value is below `⊤` is a real one. -/
theorem real_of_lt (v : EReal) (h : max v (-v) < ⊤) : ∃ r : ℝ, v = r := by
  refine ⟨v.toReal, (EReal.coe_toReal ?_ ?_).symm⟩
  · rintro rfl
    simp at h
  · rintro rfl
    simp at h

/-- The precondition says that the scan's output is finite. -/
theorem scan_finite [Cert.Pre_finite_scan.Facts] (x0 : (⟨Cert.Pre_finite_scan.S4x4224x1024, .f32⟩ : BufTy).Contents (Elt Ideal))
    (x1 : (⟨Cert.Pre_finite_scan.S4x4224x512, .bf16⟩ : BufTy).Contents (Elt Ideal)) (x2 x3 x4 : (⟨Cert.Pre_finite_scan.S4x4224x512, .f32⟩ : BufTy).Contents (Elt Ideal))
    (x5 : (⟨Cert.Pre_finite_scan.S4x4224x2048, .bf16⟩ : BufTy).Contents (Elt Ideal)) (x6 : (⟨Cert.Pre_finite_scan.S2048, .f32⟩ : BufTy).Contents (Elt Ideal))
    (x7 x8 : (⟨Cert.Pre_finite_scan.S512, .f32⟩ : BufTy).Contents (Elt Ideal)) (x9 x10 : (⟨Cert.Pre_finite_scan.S512x1024, .f32⟩ : BufTy).Contents (Elt Ideal))
    (x11 : (⟨Cert.Pre_finite_scan.S1024x1024, .f32⟩ : BufTy).Contents (Elt Ideal)) (x12 x13 : (⟨Cert.Pre_finite_scan.S1024, .f32⟩ : BufTy).Contents (Elt Ideal))
    (h : Cert.Pre_finite_scan.fn (F := Ideal) x0 x1 x2 x3 x4 x5 x6 x7 x8 x9 x10 x11 x12 x13 = fun _ => 1#1) (i : Cert.Pre_finite_scan.S4x4224x512.Idx) :
    ∃ r : ℝ, x2 i = (r : EReal) := by
  have h' := congrFun h i
  have h'' : BitVec.ofBool (decide (max (x2 i) (-(x2 i)) < (FloatOps.ofBits (F := Ideal) .f32 0x7F800000#32 : EReal))) = 1#1 := h'
  rw [Cert.Equation.ofBits_inf] at h''
  refine real_of_lt (x2 i) ?_
  by_contra hn
  rw [decide_eq_false hn] at h''
  exact absurd h'' (by decide)

theorem equation (m : (ℓ : Loc nD τ sig) → Buf (Elt Ideal) ℓ) (c : Dev nD)
    (hy : ∀ i : S4x4224x512.Idx, ∃ r : ℝ, (m ((c : Thread nD τ).loc main_arg2) : S4x4224x512.Idx → EReal) i = (r : EReal)) :
    result m c = Cert.Reference3Ideal.Read.val_main_v79 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) (m ((c : Thread nD τ).loc main_arg13)) := by
  funext i
  have hi : i = ix2 (i 0) (i 1) := by funext k; fin_cases k <;> rfl
  refine Eq.trans ?_ (congrArg _ hi).symm
  refine Eq.trans ?_ (Cert.Reference3Ideal.Merge.v79_whole _ _ _ _ _ _ _ _ _ _ _ _ _ _ (i 0) (i 1)).symm
  have hs : ∀ n k, ∃ r : ℝ, scanned m c n k = (r : EReal) := by
    intro n k
    have e : scanned m c n k = Cert.Reference3Ideal.Read.val_main_v2 (F := Ideal) (m ((c : Thread nD τ).loc main_arg2)) (ix2 n k) := rfl
    rw [e, Cert.Reference3Ideal.Read.val_main_v2_apply]
    exact hy _
  unfold result sum recurrent
  rw [splitNorm_eq _ (hs (i 0))]
  rfl

end Cert.Merge

end
-- ==== Proof.Mix.lean ====
/- What the RWKV-7 mixing makes of a token before its scan: the mathematics of the token shift, of the decay, of the sums within a
   head, and of the decay summed within a chunk of 64 tokens. -/
module

public import proofs.«01_k».proof.Proof.HeadNorm
public import Idealize.ShloMosaic.PureOps.Ideal

@[expose] public section

set_option maxRecDepth 16384

noncomputable section

namespace Cert.Mix

open Idealize.ShloMosaic Cert.Merge

/-- The numbers the two programs write down: a half, one, and the least sum of squares a head is divided by. -/
def half : EReal := Ideal.ofBits .f32 0x3F000000#32
def one : EReal := Ideal.ofBits .f32 0x3F800000#32
def least : EReal := Ideal.ofBits .f32 0x179ABE15#32

theorem zero_eq : Ideal.ofBits .f32 0x00000000#32 = 0 := by
  simp [Ideal.ofBits, Ideal.ieee]
theorem one_eq : one = 1 := by
  unfold one
  simp [Ideal.ofBits, Ideal.ieee]
  rw [← EReal.coe_mul]
  norm_num
theorem least_real : ∃ r : ℝ, 0 < r ∧ least = r := by
  unfold least
  simp [Ideal.ofBits, Ideal.ieee]
  refine ⟨_, ?_, (EReal.coe_mul _ _).symm⟩
  positivity

/-- The token shift of feature `j`: the token `u`, the token before it `p`, the share `mu`. -/
def shifted (u p mu : Fin 1792 → EReal) (j : Fin 1792) : EReal := u j + (p j - u j) * mu j

/-- The columns of the shifted token. -/
def colR (x : Fin 1792 → EReal) (i : Fin 512) : EReal := x ⟨i.val, by omega⟩
def colK (x : Fin 1792 → EReal) (i : Fin 512) : EReal := x ⟨512 + i.val, by omega⟩
def colV (x : Fin 1792 → EReal) (i : Fin 512) : EReal := x ⟨1024 + i.val, by omega⟩
def colW (x : Fin 1792 → EReal) (k : Fin 64) : EReal := x ⟨1536 + k.val, by omega⟩
def colA (x : Fin 1792 → EReal) (k : Fin 64) : EReal := x ⟨1600 + k.val, by omega⟩
def colG (x : Fin 1792 → EReal) (k : Fin 128) : EReal := x ⟨1664 + k.val, by omega⟩

/-- What the decay is made of: the bias and the low-rank map. -/
def decayArg (x : Fin 1792 → EReal) (w0 : Fin 512 → EReal) (w : Fin 64 → Fin 512 → EReal) (i : Fin 512) : EReal :=
  w0 i + ∑ k, Ideal.tanh (colW x k) * w k i

/-- The logarithm of the decay. -/
def logDecay (z : EReal) : EReal := -Ideal.exp (-(max (-z) 0 + Ideal.log1p (Ideal.exp (-(max z (-z))))) - half)

/-- The rate at which the state forgets a key. -/
def rate (x : Fin 1792 → EReal) (a0 : Fin 512 → EReal) (w : Fin 64 → Fin 512 → EReal) (i : Fin 512) : EReal :=
  Ideal.logistic (a0 i + ∑ k, colA x k * w k i)

/-- The gate. -/
def gate (x : Fin 1792 → EReal) (w : Fin 128 → Fin 512 → EReal) (i : Fin 512) : EReal :=
  ∑ k, Ideal.logistic (colG x k) * w k i

/-- The sum over the head of feature `i`. -/
def headSum (f : Fin 512 → EReal) (i : Fin 512) : EReal := ∑ k, f (inHead (head i) k)

/-- The entry of the summing matrix: one within the head and zero outside. -/
def summing (i j : Fin 512) : EReal := if head i = head j then one else 0

/-- A head's sum as the kernel takes it: a product by that matrix, of the value and of what its rounding left out. -/
def splitSum (u : Fin 512 → EReal) (j : Fin 512) : EReal := (∑ k, u k * summing k j) + ∑ k, (u k - u k) * summing k j

/-- The removal key's direction, for a way `S` to sum over a head. -/
def direction (S : (Fin 512 → EReal) → Fin 512 → EReal) (kk : Fin 512 → EReal) (i : Fin 512) : EReal :=
  kk i * Ideal.rsqrt (max (S (fun k => kk k * kk k) i) least)

/-- The key written to the state. -/
def written (k a ka : Fin 512 → EReal) (i : Fin 512) : EReal := k i * (one + (a i - one) * ka i)

/-- The bonus, for a way `S` to sum over a head. -/
def bonus (S : (Fin 512 → EReal) → Fin 512 → EReal) (r k v rk : Fin 512 → EReal) (i : Fin 512) : EReal :=
  S (fun k' => r k' * k k' * rk k') i * v i

theorem splitSum_eq (u : Fin 512 → EReal) (hu : ∀ i, ∃ r : ℝ, u i = r) : splitSum u = headSum u := by
  choose r hr using hu
  obtain rfl : u = fun i => (r i : EReal) := funext hr
  funext j
  unfold splitSum headSum summing
  rw [one_eq]
  have e0 : ∀ k : Fin 512, ((r k : EReal) - (r k : EReal)) * (if head k = head j then (1 : EReal) else 0) = 0 := by
    intro k
    rw [← EReal.coe_sub, sub_self, EReal.coe_zero, zero_mul]
  have e1 : ∀ k : Fin 512, (r k : EReal) * (if head k = head j then (1 : EReal) else 0)
      = ((if head k = head j then r k else 0 : ℝ) : EReal) := by
    intro k
    split
    · rw [mul_one]
    · rw [mul_zero, EReal.coe_zero]
  simp only [e0, e1, Finset.sum_const_zero, add_zero]
  rw [coe_sum, coe_sum, sum_heads]
  simp only [head_inHead]
  congr 1
  rw [Finset.sum_eq_single (head j)]
  · simp
  · intro a _ ha
    simp [ha]
  · simp

/-- The tokens are summed in chunks of 64: the sum of `f` over the chunk of token `n`, up to `n`. -/
def upTo (f : Fin 16896 → EReal) (n : Fin 16896) : EReal :=
  ∑ k : Fin 64, if k.val ≤ n.val % 64 then f ⟨n.val / 64 * 64 + k.val, by omega⟩ else 0

/-- The chunk sum over the rows of a tile of 384 tokens, by the entries of a matrix of ones and zeros. -/
theorem upTo_tile (f : Fin 16896 → EReal) (q : Nat) (hq : q < 44) (r : Fin 384) :
    (∑ s : Fin 384, (if s.val ≤ r.val ∧ r.val / 64 = s.val / 64 then (1 : EReal) else 0) * f ⟨q * 384 + s.val, by omega⟩)
      = upTo f ⟨q * 384 + r.val, by omega⟩ := by
  have e : ∀ g : Fin 384 → EReal, ∑ s, g s = ∑ a : Fin 6, ∑ k : Fin 64, g ⟨a.val * 64 + k.val, by omega⟩ := by
    intro g
    rw [← Fintype.sum_prod_type' (f := fun (a : Fin 6) (k : Fin 64) => g ⟨a.val * 64 + k.val, by omega⟩)]
    refine (Fintype.sum_equiv (finProdFinEquiv (m := 6) (n := 64)) _ _ fun p => ?_).symm
    congr 1
    apply Fin.ext
    show p.1.val * 64 + p.2.val = p.2.val + 64 * p.1.val
    omega
  rw [e, Finset.sum_eq_single (⟨r.val / 64, by omega⟩ : Fin 6)]
  · unfold upTo
    refine Finset.sum_congr rfl fun k _ => ?_
    have hk := k.isLt
    by_cases h : k.val ≤ r.val % 64
    · rw [if_pos (by constructor <;> (dsimp only; omega)), if_pos (show k.val ≤ (q * 384 + r.val) % 64 by omega), one_mul]
      refine congrArg f (Fin.ext ?_)
      show q * 384 + (r.val / 64 * 64 + k.val) = (q * 384 + r.val) / 64 * 64 + k.val
      omega
    · rw [if_neg (by rintro ⟨h1, h2⟩; dsimp only at h1; omega), if_neg (show ¬k.val ≤ (q * 384 + r.val) % 64 by omega), zero_mul]
  · intro a _ ha
    refine Finset.sum_eq_zero fun k _ => ?_
    have hk := k.isLt
    rw [if_neg, zero_mul]
    rintro ⟨_, h2⟩
    apply ha
    apply Fin.ext
    show a.val = r.val / 64
    dsimp only at h2
    omega
  · intro h
    exact absurd (Finset.mem_univ _) h

/-- What the call is given, by its entries: the tokens of the four sequences one after the other, and the weights. -/
structure Input where
  tokens : Fin 16896 → Fin 1792 → EReal
  share : Fin 1792 → EReal
  decayBias : Fin 512 → EReal
  decayMap : Fin 64 → Fin 512 → EReal
  rateBias : Fin 512 → EReal
  rateMap : Fin 64 → Fin 512 → EReal
  gateMap : Fin 128 → Fin 512 → EReal
  keyScale : Fin 512 → EReal
  rateScale : Fin 512 → EReal
  bonusScale : Fin 512 → EReal

/-- The token before token `n`: zero at the start of a sequence of 4224 tokens. -/
def before (u : Fin 16896 → Fin 1792 → EReal) (n : Fin 16896) (j : Fin 1792) : EReal :=
  if n.val % 4224 = 0 then 0 else u ⟨n.val - 1, by omega⟩ j

namespace Input
variable (S : (Fin 512 → EReal) → Fin 512 → EReal) (I : Input) (n : Fin 16896)

/-- Token `n` shifted; its receptance, key and value. -/
def token : Fin 1792 → EReal := shifted (I.tokens n) (before I.tokens n) I.share
def receptance : Fin 512 → EReal := colR (I.token n)
def key : Fin 512 → EReal := colK (I.token n)
def value : Fin 512 → EReal := colV (I.token n)

/-- The logarithm of token `n`'s decay, and its sum over the chunk up to the token. -/
def decay (i : Fin 512) : EReal := logDecay (decayArg (I.token n) I.decayBias I.decayMap i)
def total (i : Fin 512) : EReal := upTo (fun n => I.decay n i) n

def forget : Fin 512 → EReal := rate (I.token n) I.rateBias I.rateMap
def removal : Fin 512 → EReal := direction S fun k => I.key n k * I.keyScale k
def stored : Fin 512 → EReal := written (I.key n) (I.forget n) I.rateScale

/-- The results of the call, feature by feature. -/
def outAt (i : Fin 512) : EReal := -I.removal S n i * Ideal.exp (I.total n i - I.decay n i)
def outBt (i : Fin 512) : EReal := I.removal S n i * I.forget n i * Ideal.exp (-I.total n i)
def outKt (i : Fin 512) : EReal := I.stored n i * Ideal.exp (-I.total n i)
def outRt (i : Fin 512) : EReal := I.receptance n i * Ideal.exp (I.total n i)
def outChunk (i : Fin 512) : EReal := Ideal.exp (I.total n i)
def outBonus (i : Fin 512) : EReal := bonus S (I.receptance n) (I.stored n) (I.value n) I.bonusScale i
def outGate (i : Fin 512) : EReal := gate (I.token n) I.gateMap i
end Input

end Cert.Mix

end
-- ==== Proof.MixPay.lean ====
/- The RWKV-7 mixing before its scan: what the kernel makes of a tile of 384 tokens, entry by entry. -/
module

public import proofs.«01_k».proof.Proof.Mix
public import proofs.«01_k».proof.Proof.Gen.Kernel5Ideal.Skeleton
public import Idealize.ShloMosaic.Lib.Pipeline.ValueKit
public import Idealize.ShloMosaic.Lib.Pointwise
public import Idealize.ShloMosaic.Lib.KernelVsHost
public import Idealize.ShloMosaic.PureOps.Ideal

@[expose] public section

set_option maxRecDepth 16384

noncomputable section

namespace Cert.Kernel5Ideal.Mix

open Idealize.ShloMosaic Idealize.ShloMosaic.TcCoe Cert.Kernel5Ideal Cert.Kernel5Ideal.Gen Cert.Mix
open Cert.Merge (head inHead head_inHead)

/-- Row `r` of tile `q`, as a token's number. -/
def rowAt (q : Fin 44) (r : Fin 384) : Fin 16896 := ⟨q.val * 384 + r.val, by omega⟩

section Shift
variable (I : Input) (q : Fin 44) (v3 : Vec Ideal S384x1792 .f32) (v8 v20 : Vec Ideal S1x1792 .f32)

/-- The tile's tokens shifted: the row above each, and above the first the one carried over. -/
theorem pay7_apply (h3 : ∀ r j, v3 (ix2 r j) = I.tokens (rowAt q r) j) (h8 : ∀ j, v8 (ix2 (0 : Fin 1) j) = before I.tokens (rowAt q 0) j)
    (h20 : ∀ j, v20 (ix2 (0 : Fin 1) j) = I.share j) (r : Fin 384) (j : Fin 1792) :
    k0_pay7 v3 v8 v20 (ix2 r j) = I.token (rowAt q r) j := by
  unfold Input.token shifted
  rw [← h3, ← h20]
  unfold k0_pay7 k0_pay5
  pointwise
  refine congrArg (fun x => v3 (ix2 r j) + (x - v3 (ix2 r j)) * v20 (ix2 (0 : Fin 1) j)) ?_
  have hr := r.isLt
  by_cases h : r.val = 0
  · have e : r = 0 := Fin.ext h
    subst e
    exact h8 j
  · have e : (BitVec.ofNat 32 r.val == 0#32) = false := by
      refine beq_eq_false_iff_ne.mpr fun e => h ?_
      have := congrArg BitVec.toNat e
      rw [BitVec.toNat_ofNat, BitVec.toNat_ofNat] at this
      omega
    simp only [Scalar.select, IntOp.cmpi, e]
    have hb : before I.tokens (rowAt q r) j = I.tokens ⟨(rowAt q r).val - 1, by omega⟩ j := by
      unfold before
      exact if_neg (show ¬(q.val * 384 + r.val) % 4224 = 0 by omega)
    refine (if_neg (by decide)).trans ?_
    rw [h3, hb]
    refine congrArg (fun n => I.tokens n j) (Fin.ext ?_)
    show q.val * 384 + (r.val + 384 - 1) % 384 = q.val * 384 + r.val - 1
    omega
end Shift

section Columns
variable (I : Input) (n : Fin 16896) (r : Fin 384) (v3 : Vec Ideal S384x1792 .f32) (v8 v20 : Vec Ideal S1x1792 .f32)
  (hx : ∀ j, k0_pay7 v3 v8 v20 (ix2 r j) = I.token n j)
include hx

theorem pay8_apply (i : Fin 512) : k0_pay8 v3 v8 v20 (ix2 r i) = I.receptance n i := by
  unfold Input.receptance colR
  rw [← hx]
  pointwise [k0_pay8]
theorem pay9_apply (i : Fin 512) : k0_pay9 v3 v8 v20 (ix2 r i) = I.key n i := by
  unfold Input.key colK
  rw [← hx]
  pointwise [k0_pay9]
theorem pay10_apply (i : Fin 512) : k0_pay10 v3 v8 v20 (ix2 r i) = I.value n i := by
  unfold Input.value colV
  rw [← hx]
  pointwise [k0_pay10]
theorem pay11_apply (k : Fin 64) : k0_pay11 v3 v8 v20 (ix2 r k) = colA (I.token n) k := by
  unfold colA
  rw [← hx]
  pointwise [k0_pay11]
theorem pay12_apply (k : Fin 128) : k0_pay12 v3 v8 v20 (ix2 r k) = colG (I.token n) k := by
  unfold colG
  rw [← hx]
  pointwise [k0_pay12]
theorem pay13_apply (v31 : Vec Ideal S1x512 .f32) (v34 : Vec Ideal S64x512 .f32) (i : Fin 512)
    (h31 : ∀ i, v31 (ix2 (0 : Fin 1) i) = I.decayBias i) (h34 : ∀ k i, v34 (ix2 k i) = I.decayMap k i) :
    k0_pay13 v3 v8 v20 v31 v34 (ix2 r i) = decayArg (I.token n) I.decayBias I.decayMap i := by
  unfold decayArg colW
  simp only [← hx, ← h31, ← h34]
  unfold k0_pay13
  pointwise
end Columns

theorem pay14_apply (v37 : FVec Ideal S384x512 .f32) (r : Fin 384) (i : Fin 512) :
    k0_pay14 v37 (Scalar.ofBits .f32 0x00000000#32) (ix2 r i) = logDecay (v37 (ix2 r i)) := by
  unfold logDecay half k0_pay14
  pointwise
  simp only [zero_sub]
  rfl

theorem pay15_apply (v29 : FVec Ideal S384x64 .f32) (v55 : Vec Ideal S1x512 .f32) (v57 : Vec Ideal S64x512 .f32) (r : Fin 384) (i : Fin 512) :
    k0_pay15 v29 v55 v57 (ix2 r i) = Ideal.logistic (v55 (ix2 (0 : Fin 1) i) + ∑ k, v29 (ix2 r k) * v57 (ix2 k i)) := by
  unfold k0_pay15
  pointwise
theorem pay16_apply (v30 : FVec Ideal S384x128 .f32) (v63 : Vec Ideal S128x512 .f32) (r : Fin 384) (i : Fin 512) :
    k0_pay16 v30 v63 (ix2 r i) = ∑ k, Ideal.logistic (v30 (ix2 r k)) * v63 (ix2 k i) := by
  unfold k0_pay16
  pointwise
theorem pay18_apply (v26 : FVec Ideal S384x512 .f32) (v67 : Vec Ideal S1x512 .f32) (r : Fin 384) (i : Fin 512) :
    k0_pay18 v26 v67 (ix2 r i) = v26 (ix2 r i) * v67 (ix2 (0 : Fin 1) i) := by
  unfold k0_pay18
  pointwise
theorem pay19_apply (v26 : FVec Ideal S384x512 .f32) (v65 : Vec Ideal S512x512 .bf16) (v67 : Vec Ideal S1x512 .f32) (r : Fin 384) (i : Fin 512)
    (h65 : ∀ k i, v65 (ix2 k i) = summing k i) :
    k0_pay19 v26 v65 v67 (ix2 r i) = splitSum (fun k => (v26 (ix2 r k) * v67 (ix2 (0 : Fin 1) k)) * (v26 (ix2 r k) * v67 (ix2 (0 : Fin 1) k))) i := by
  unfold splitSum
  simp only [← h65]
  unfold k0_pay19 k0_pay17
  pointwise
  simp only [pay18_apply]
theorem pay20_apply (v70 v78 : FVec Ideal S384x512 .f32) (r : Fin 384) (i : Fin 512) :
    k0_pay20 v70 v78 (ix2 r i) = v70 (ix2 r i) * Ideal.rsqrt (max (v78 (ix2 r i)) least) := by
  unfold k0_pay20 least
  pointwise
theorem pay21_apply (v26 v61 : FVec Ideal S384x512 .f32) (v85 : Vec Ideal S1x512 .f32) (r : Fin 384) (i : Fin 512) :
    k0_pay21 v26 v61 v85 (ix2 r i) = written (fun k => v26 (ix2 r k)) (fun k => v61 (ix2 r k)) (fun k => v85 (ix2 (0 : Fin 1) k)) i := by
  unfold k0_pay21 written one
  pointwise
theorem pay22_apply (v25 v26 v27 v61 : FVec Ideal S384x512 .f32) (v65 : Vec Ideal S512x512 .bf16) (v85 v93 : Vec Ideal S1x512 .f32) (r : Fin 384) (i : Fin 512)
    (h65 : ∀ k i, v65 (ix2 k i) = summing k i) :
    k0_pay22 v25 v26 v27 v61 (k0_pay17 v65) v85 v93 (ix2 r i)
      = bonus splitSum (fun k => v25 (ix2 r k)) (fun k => k0_pay21 v26 v61 v85 (ix2 r k)) (fun k => v27 (ix2 r k)) (fun k => v93 (ix2 (0 : Fin 1) k)) i := by
  unfold bonus splitSum
  simp only [← h65]
  unfold k0_pay22 k0_pay17
  pointwise
theorem pay23_apply (v27 : FVec Ideal S384x512 .f32) (r : Fin 384) (i : Fin 512) : k0_pay23 v27 (ix2 r i) = v27 (ix2 r i) := by
  unfold k0_pay23
  pointwise
theorem pay24_apply (v54 : FVec Ideal S384x512 .f32) (v109 : Vec Ideal S384x384 .f32) (r : Fin 384) (i : Fin 512) :
    k0_pay24 v54 v109 (ix2 r i) = ∑ s, v109 (ix2 r s) * v54 (ix2 s i) := by
  unfold k0_pay24
  pointwise
theorem pay25_apply (v54 : FVec Ideal S384x512 .f32) (v109 : Vec Ideal S384x384 .f32) (r : Fin 384) (i : Fin 512) :
    k0_pay25 v54 v109 (ix2 r i) = Ideal.exp (-k0_pay24 v54 v109 (ix2 r i)) := by
  unfold k0_pay25
  pointwise
  rw [zero_sub]
theorem pay27_apply (v54 v82 v111 : FVec Ideal S384x512 .f32) (r : Fin 384) (i : Fin 512) :
    k0_pay27 v54 v82 v111 k0_pay26 (ix2 r i) = -v82 (ix2 r i) * Ideal.exp (v111 (ix2 r i) - v54 (ix2 r i)) := by
  unfold k0_pay27 k0_pay26
  pointwise
  rw [zero_sub]
theorem pay28_apply (v61 v82 v114 : FVec Ideal S384x512 .f32) (r : Fin 384) (i : Fin 512) :
    k0_pay28 v61 v82 v114 (ix2 r i) = v82 (ix2 r i) * v61 (ix2 r i) * v114 (ix2 r i) := by
  unfold k0_pay28
  pointwise
theorem pay29_apply (v91 v114 : FVec Ideal S384x512 .f32) (r : Fin 384) (i : Fin 512) :
    k0_pay29 v91 v114 (ix2 r i) = v91 (ix2 r i) * v114 (ix2 r i) := by
  unfold k0_pay29
  pointwise
theorem pay30_apply (v25 v111 : FVec Ideal S384x512 .f32) (r : Fin 384) (i : Fin 512) :
    k0_pay30 v25 v111 (ix2 r i) = v25 (ix2 r i) * Ideal.exp (v111 (ix2 r i)) := by
  unfold k0_pay30
  pointwise

/-- The rows that end the tile's six chunks. -/
theorem pay31_apply (v111 : FVec Ideal S384x512 .f32) (i : Fin 512) :
    k0_pay31 v111 (ix3 (0 : Fin 1) (0 : Fin 1) i) = Ideal.exp (v111 (ix2 (63 : Fin 384) i)) := by
  unfold k0_pay31
  pointwise
theorem pay32_apply (v111 : FVec Ideal S384x512 .f32) (i : Fin 512) :
    k0_pay32 v111 (ix3 (0 : Fin 1) (0 : Fin 1) i) = Ideal.exp (v111 (ix2 (127 : Fin 384) i)) := by
  unfold k0_pay32
  pointwise
theorem pay33_apply (v111 : FVec Ideal S384x512 .f32) (i : Fin 512) :
    k0_pay33 v111 (ix3 (0 : Fin 1) (0 : Fin 1) i) = Ideal.exp (v111 (ix2 (191 : Fin 384) i)) := by
  unfold k0_pay33
  pointwise
theorem pay34_apply (v111 : FVec Ideal S384x512 .f32) (i : Fin 512) :
    k0_pay1 (k0_pay34 v111) (ix3 (0 : Fin 1) (0 : Fin 1) i) = Ideal.exp (v111 (ix2 (255 : Fin 384) i)) := by
  unfold k0_pay1 k0_pay34
  pointwise
theorem pay2_apply (v111 : FVec Ideal S384x512 .f32) (i : Fin 512) :
    k0_pay2 v111 (ix3 (0 : Fin 1) (0 : Fin 1) i) = Ideal.exp (v111 (ix2 (319 : Fin 384) i)) := by
  unfold k0_pay2
  pointwise
theorem pay3_apply (v111 : FVec Ideal S384x512 .f32) (i : Fin 512) :
    k0_pay3 v111 (ix3 (0 : Fin 1) (0 : Fin 1) i) = Ideal.exp (v111 (ix2 (383 : Fin 384) i)) := by
  unfold k0_pay3
  pointwise

/-- What is carried to the next tile: zeros, and the tile's last row. -/
theorem pay4_apply (r : Fin 8) (j : Fin 1792) : (k0_pay4 : FVec Ideal S8x1792 .f32) (ix2 r j) = 0 := by
  unfold k0_pay4
  pointwise
theorem pay6_apply (v3 : Vec Ideal S384x1792 .f32) (j : Fin 1792) : k0_pay6 v3 (ix2 (0 : Fin 1) j) = v3 (ix2 (383 : Fin 384) j) := by
  unfold k0_pay6 k0_pay5
  pointwise

end Cert.Kernel5Ideal.Mix

end
-- ==== Proof.MixRun.lean ====
/- One run of the body of the mixing's first call at a grid point that is not a sequence's first tile. -/
module

public import proofs.«01_k».proof.Proof.Gen.Kernel5Ideal.Frame.RunA

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in

/-- What the body stores into each output and into the carried row, with the proof that it runs. -/
noncomputable def kernelRun0_B (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) :
    Σ' (L12 : List (View.Piece (Elt F) S384x512 .bf16)), Σ' (L13 : List (View.Piece (Elt F) S384x512 .bf16)), Σ' (L14 : List (View.Piece (Elt F) S384x512 .bf16)), Σ' (L15 : List (View.Piece (Elt F) S384x512 .bf16)), Σ' (L16 : List (View.Piece (Elt F) S384x512 .bf16)), Σ' (L17 : List (View.Piece (Elt F) S6x1x512 .f32)), Σ' (L18 : List (View.Piece (Elt F) S384x512 .f32)), Σ' (L19 : List (View.Piece (Elt F) S384x512 .f32)), { LS0 : List (View.Piece (Elt F) S8x1792 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (arg22.view.loc (c : Thread nD τ) ↦[arg22.view.set]{fullShare} arg22.view.writes (Elt F) (harg22.unread xs0) LS0)) -∗ K ⟨⟩))
          ⊢ wp frame (wpE (defs₀ (F := F)) Variants.none c none) E (cc0_rwkv_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_rwkv_a_eq_skeleton]; unfold cc0_rwkv_a_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg22.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexact HS0

end Cert.Kernel5Ideal.Gen

end
-- ==== Proof.MixHeld.lean ====
/- What one run of the body leaves in each buffer of the mixing's first call. -/
module

public import proofs.«01_k».proof.Proof.MixRun
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces that case A stores into buffer 12 cover it. -/
theorem cover0_A_12 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (y : S384x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).1 S384x512.size (by sl_kernel_rfl) y

/-- What case A leaves in buffer 12. -/
def out0_A_12 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) : Vec F S384x512 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).1)

/-- The pieces that case A stores into buffer 13 cover it. -/
theorem cover0_A_13 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (y : S384x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.1 S384x512.size (by sl_kernel_rfl) y

/-- What case A leaves in buffer 13. -/
def out0_A_13 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) : Vec F S384x512 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.1)

/-- The pieces that case A stores into buffer 14 cover it. -/
theorem cover0_A_14 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (y : S384x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.1 S384x512.size (by sl_kernel_rfl) y

/-- What case A leaves in buffer 14. -/
def out0_A_14 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) : Vec F S384x512 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.1)

/-- The pieces that case A stores into buffer 15 cover it. -/
theorem cover0_A_15 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (y : S384x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.1 S384x512.size (by sl_kernel_rfl) y

/-- What case A leaves in buffer 15. -/
def out0_A_15 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) : Vec F S384x512 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.1)

/-- The pieces that case A stores into buffer 16 cover it. -/
theorem cover0_A_16 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (y : S384x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.1 S384x512.size (by sl_kernel_rfl) y

/-- What case A leaves in buffer 16. -/
def out0_A_16 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) : Vec F S384x512 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.1)

/-- The pieces that case A stores into buffer 17 cover it. -/
theorem cover0_A_17 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (y : S6x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.1 S1x1x512.size (by sl_kernel_rfl) y

/-- What case A leaves in buffer 17. -/
def out0_A_17 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) : Vec F S6x1x512 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.1)

/-- The pieces that case A stores into buffer 18 cover it. -/
theorem cover0_A_18 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (y : S384x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.2.1 S384x512.size (by sl_kernel_rfl) y

/-- What case A leaves in buffer 18. -/
def out0_A_18 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) : Vec F S384x512 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.2.1)

/-- The pieces that case A stores into buffer 19 cover it. -/
theorem cover0_A_19 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (y : S384x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.2.2.1 S384x512.size (by sl_kernel_rfl) y

/-- What case A leaves in buffer 19. -/
def out0_A_19 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) : Vec F S384x512 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.2.2.1)

/-- The pieces that case A stores into buffer 0 cover it. -/
theorem scover0_A_0 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (y : S8x1792.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.2.2.2.1 (by sl_whole_mem) y

/-- What case A leaves in buffer 0. -/
def sout0_A_0 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) : Vec F S8x1792 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11).2.2.2.2.2.2.2.2.1)

/-- The pieces that case B stores into buffer 12 cover it. -/
theorem cover0_B_12 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) (y : S384x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).1 S384x512.size (by sl_kernel_rfl) y

/-- What case B leaves in buffer 12. -/
def out0_B_12 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) : Vec F S384x512 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).1)

/-- The pieces that case B stores into buffer 13 cover it. -/
theorem cover0_B_13 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) (y : S384x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.1 S384x512.size (by sl_kernel_rfl) y

/-- What case B leaves in buffer 13. -/
def out0_B_13 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) : Vec F S384x512 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.1)

/-- The pieces that case B stores into buffer 14 cover it. -/
theorem cover0_B_14 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) (y : S384x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.1 S384x512.size (by sl_kernel_rfl) y

/-- What case B leaves in buffer 14. -/
def out0_B_14 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) : Vec F S384x512 .bf16 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.1)

/-- The pieces that case B stores into buffer 15 cover it. -/
theorem cover0_B_15 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) (y : S384x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.1 S384x512.size (by sl_kernel_rfl) y

/-- What case B leaves in buffer 15. -/
def out0_B_15 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) : Vec F S384x512 .bf16 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.1)

/-- The pieces that case B stores into buffer 16 cover it. -/
theorem cover0_B_16 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) (y : S384x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.1 S384x512.size (by sl_kernel_rfl) y

/-- What case B leaves in buffer 16. -/
def out0_B_16 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) : Vec F S384x512 .bf16 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.1)

/-- The pieces that case B stores into buffer 17 cover it. -/
theorem cover0_B_17 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) (y : S6x1x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.1 S1x1x512.size (by sl_kernel_rfl) y

/-- What case B leaves in buffer 17. -/
def out0_B_17 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) : Vec F S6x1x512 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.1)

/-- The pieces that case B stores into buffer 18 cover it. -/
theorem cover0_B_18 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) (y : S384x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.2.1 S384x512.size (by sl_kernel_rfl) y

/-- What case B leaves in buffer 18. -/
def out0_B_18 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) : Vec F S384x512 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.2.1)

/-- The pieces that case B stores into buffer 19 cover it. -/
theorem cover0_B_19 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) (y : S384x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.2.2.1 S384x512.size (by sl_kernel_rfl) y

/-- What case B leaves in buffer 19. -/
def out0_B_19 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) : Vec F S384x512 .f32 :=
  VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.2.2.1)

/-- What case B leaves in buffer 0. -/
def sout0_B_0 (c : Dev nD) (i : grid0.Coords) (arg2 : Memref sig .tc .vmem S384x1792 .f32) (harg2 : arg2.IsWhole) (arg3 : Memref sig .tc .vmem S1x1792 .f32) (harg3 : arg3.IsWhole) (arg4 : Memref sig .tc .vmem S1x512 .f32) (harg4 : arg4.IsWhole) (arg5 : Memref sig .tc .vmem S64x512 .f32) (harg5 : arg5.IsWhole) (arg6 : Memref sig .tc .vmem S1x512 .f32) (harg6 : arg6.IsWhole) (arg7 : Memref sig .tc .vmem S64x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S384x384 .f32) (harg12 : arg12.IsWhole) (arg13 : Memref sig .tc .vmem S512x512 .bf16) (harg13 : arg13.IsWhole) (arg14 : Memref sig .tc .vmem S384x512 .bf16) (harg14 : arg14.IsWhole) (arg15 : Memref sig .tc .vmem S384x512 .bf16) (harg15 : arg15.IsWhole) (arg16 : Memref sig .tc .vmem S384x512 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S6x1x512 .f32) (harg19 : arg19.IsWhole) (arg20 : Memref sig .tc .vmem S384x512 .f32) (harg20 : arg20.IsWhole) (arg21 : Memref sig .tc .vmem S384x512 .f32) (harg21 : arg21.IsWhole) (arg22 : Memref sig .tc .vmem S8x1792 .f32) (harg22 : arg22.IsWhole) (hc0 : ¬cond0_0 i)
    (x0 : Vec F S384x1792 .f32) (x1 : Vec F S1x1792 .f32) (x2 : Vec F S1x512 .f32) (x3 : Vec F S64x512 .f32) (x4 : Vec F S1x512 .f32) (x5 : Vec F S64x512 .f32) (x6 : Vec F S128x512 .f32) (x7 : Vec F S1x512 .f32) (x8 : Vec F S1x512 .f32) (x9 : Vec F S1x512 .f32) (x10 : Vec F S384x384 .f32) (x11 : Vec F S512x512 .bf16) (xs0 : Vec F S8x1792 .f32) : Vec F S8x1792 .f32 :=
  arg22.view.read (Elt F) (arg22.view.writes (Elt F) (harg22.unread xs0) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 xs0).2.2.2.2.2.2.2.2.1)

end Cert.Kernel5Ideal.Gen

end
-- ==== Proof.MixFrame.lean ====
/- The whole run of the mixing's first call, and its frame. -/
module

public import proofs.«01_k».proof.Proof.MixHeld
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' buffers and the carried row hold after a grid point. -/
def outsAt0 (c : Dev nD) : (n : ℕ) → n < cfg0.N → Vec F S384x512 .bf16 × Vec F S384x512 .bf16 × Vec F S384x512 .bf16 × Vec F S384x512 .bf16 × Vec F S384x512 .bf16 × Vec F S6x1x512 .f32 × Vec F S384x512 .f32 × Vec F S384x512 .f32 × Vec F S8x1792 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 11 = 0 then
      (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.2.2.2.2)

/-- The same at a point of case A. -/
theorem outsAt0_A (c : Dev nD) (t : Fin cfg0.N) (h0 : t.val % 11 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans rfl

/-- The same at a point of case B. -/
theorem outsAt0_B (c : Dev nD) (t : Fin cfg0.N) (h0 : ¬t.val % 11 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans rfl

/-- What holds of the carried row before each point. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2)) ∗ (∃ r, prngReg c r)) := by
  cases n with
  | zero => exact absurd rfl hz
  | succ n => rfl

/-- The data of the run: what the arrays hold, and what each buffer holds before and after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨_ + 20, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Buffer 0 after a point. -/
theorem after0_0 (c : Dev nD) (t : Fin cfg0.N) : (dats m 0 c).after 0 t = iblk m c 0 t := by dsimp only [dats]
/-- Buffer 1 after a point. -/
theorem after0_1 (c : Dev nD) (t : Fin cfg0.N) : (dats m 0 c).after 1 t = iblk m c 1 t := by dsimp only [dats]
/-- Buffer 2 after a point. -/
theorem after0_2 (c : Dev nD) (t : Fin cfg0.N) : (dats m 0 c).after 2 t = iblk m c 2 t := by dsimp only [dats]
/-- Buffer 3 after a point. -/
theorem after0_3 (c : Dev nD) (t : Fin cfg0.N) : (dats m 0 c).after 3 t = iblk m c 3 t := by dsimp only [dats]
/-- Buffer 4 after a point. -/
theorem after0_4 (c : Dev nD) (t : Fin cfg0.N) : (dats m 0 c).after 4 t = iblk m c 4 t := by dsimp only [dats]
/-- Buffer 5 after a point. -/
theorem after0_5 (c : Dev nD) (t : Fin cfg0.N) : (dats m 0 c).after 5 t = iblk m c 5 t := by dsimp only [dats]
/-- Buffer 6 after a point. -/
theorem after0_6 (c : Dev nD) (t : Fin cfg0.N) : (dats m 0 c).after 6 t = iblk m c 6 t := by dsimp only [dats]
/-- Buffer 7 after a point. -/
theorem after0_7 (c : Dev nD) (t : Fin cfg0.N) : (dats m 0 c).after 7 t = iblk m c 7 t := by dsimp only [dats]
/-- Buffer 8 after a point. -/
theorem after0_8 (c : Dev nD) (t : Fin cfg0.N) : (dats m 0 c).after 8 t = iblk m c 8 t := by dsimp only [dats]
/-- Buffer 9 after a point. -/
theorem after0_9 (c : Dev nD) (t : Fin cfg0.N) : (dats m 0 c).after 9 t = iblk m c 9 t := by dsimp only [dats]
/-- Buffer 10 after a point. -/
theorem after0_10 (c : Dev nD) (t : Fin cfg0.N) : (dats m 0 c).after 10 t = iblk m c 10 t := by dsimp only [dats]
/-- Buffer 11 after a point. -/
theorem after0_11 (c : Dev nD) (t : Fin cfg0.N) : (dats m 0 c).after 11 t = iblk m c 11 t := by dsimp only [dats]
/-- Buffer 12 after a point. -/
theorem after0_12 (c : Dev nD) (t : Fin cfg0.N) : (dats m 0 c).after 12 t = (outsAt0 m c t.val t.isLt).1 := by dsimp only [dats]
/-- Buffer 13 after a point. -/
theorem after0_13 (c : Dev nD) (t : Fin cfg0.N) : (dats m 0 c).after 13 t = (outsAt0 m c t.val t.isLt).2.1 := by dsimp only [dats]
/-- Buffer 14 after a point. -/
theorem after0_14 (c : Dev nD) (t : Fin cfg0.N) : (dats m 0 c).after 14 t = (outsAt0 m c t.val t.isLt).2.2.1 := by dsimp only [dats]
/-- Buffer 15 after a point. -/
theorem after0_15 (c : Dev nD) (t : Fin cfg0.N) : (dats m 0 c).after 15 t = (outsAt0 m c t.val t.isLt).2.2.2.1 := by dsimp only [dats]
/-- Buffer 16 after a point. -/
theorem after0_16 (c : Dev nD) (t : Fin cfg0.N) : (dats m 0 c).after 16 t = (outsAt0 m c t.val t.isLt).2.2.2.2.1 := by dsimp only [dats]
/-- Buffer 17 after a point. -/
theorem after0_17 (c : Dev nD) (t : Fin cfg0.N) : (dats m 0 c).after 17 t = (outsAt0 m c t.val t.isLt).2.2.2.2.2.1 := by dsimp only [dats]
/-- Buffer 18 after a point. -/
theorem after0_18 (c : Dev nD) (t : Fin cfg0.N) : (dats m 0 c).after 18 t = (outsAt0 m c t.val t.isLt).2.2.2.2.2.2.1 := by dsimp only [dats]
/-- Buffer 19 after a point. -/
theorem after0_19 (c : Dev nD) (t : Fin cfg0.N) : (dats m 0 c).after 19 t = (outsAt0 m c t.val t.isLt).2.2.2.2.2.2.2.1 := by dsimp only [dats]

/-- Buffer 0 before a point. -/
theorem before0_0 (c : Dev nD) (t : Fin cfg0.N) (d) : (dats m 0 c).before 0 t d = iblk m c 0 t :=
  before0_0_of m (dats m 0 c) (A_eq m c 0) (after0_0 m c) t d
/-- Buffer 1 before a point. -/
theorem before0_1 (c : Dev nD) (t : Fin cfg0.N) (d) : (dats m 0 c).before 1 t d = iblk m c 1 t :=
  before0_1_of m (dats m 0 c) (A_eq m c 1) (after0_1 m c) t d
/-- Buffer 2 before a point. -/
theorem before0_2 (c : Dev nD) (t : Fin cfg0.N) (d) : (dats m 0 c).before 2 t d = iblk m c 2 t :=
  before0_2_of m (dats m 0 c) (A_eq m c 2) (after0_2 m c) t d
/-- Buffer 3 before a point. -/
theorem before0_3 (c : Dev nD) (t : Fin cfg0.N) (d) : (dats m 0 c).before 3 t d = iblk m c 3 t :=
  before0_3_of m (dats m 0 c) (A_eq m c 3) (after0_3 m c) t d
/-- Buffer 4 before a point. -/
theorem before0_4 (c : Dev nD) (t : Fin cfg0.N) (d) : (dats m 0 c).before 4 t d = iblk m c 4 t :=
  before0_4_of m (dats m 0 c) (A_eq m c 4) (after0_4 m c) t d
/-- Buffer 5 before a point. -/
theorem before0_5 (c : Dev nD) (t : Fin cfg0.N) (d) : (dats m 0 c).before 5 t d = iblk m c 5 t :=
  before0_5_of m (dats m 0 c) (A_eq m c 5) (after0_5 m c) t d
/-- Buffer 6 before a point. -/
theorem before0_6 (c : Dev nD) (t : Fin cfg0.N) (d) : (dats m 0 c).before 6 t d = iblk m c 6 t :=
  before0_6_of m (dats m 0 c) (A_eq m c 6) (after0_6 m c) t d
/-- Buffer 7 before a point. -/
theorem before0_7 (c : Dev nD) (t : Fin cfg0.N) (d) : (dats m 0 c).before 7 t d = iblk m c 7 t :=
  before0_7_of m (dats m 0 c) (A_eq m c 7) (after0_7 m c) t d
/-- Buffer 8 before a point. -/
theorem before0_8 (c : Dev nD) (t : Fin cfg0.N) (d) : (dats m 0 c).before 8 t d = iblk m c 8 t :=
  before0_8_of m (dats m 0 c) (A_eq m c 8) (after0_8 m c) t d
/-- Buffer 9 before a point. -/
theorem before0_9 (c : Dev nD) (t : Fin cfg0.N) (d) : (dats m 0 c).before 9 t d = iblk m c 9 t :=
  before0_9_of m (dats m 0 c) (A_eq m c 9) (after0_9 m c) t d
/-- Buffer 10 before a point. -/
theorem before0_10 (c : Dev nD) (t : Fin cfg0.N) (d) : (dats m 0 c).before 10 t d = iblk m c 10 t :=
  before0_10_of m (dats m 0 c) (A_eq m c 10) (after0_10 m c) t d
/-- Buffer 11 before a point. -/
theorem before0_11 (c : Dev nD) (t : Fin cfg0.N) (d) : (dats m 0 c).before 11 t d = iblk m c 11 t :=
  before0_11_of m (dats m 0 c) (A_eq m c 11) (after0_11 m c) t d

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 16000000 in

/-- The body does so at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 44 := lt_of_lt_of_eq t.isLt (show cfg0.N = 44 from N_0)
  by_cases h0 : t.val % 11 = 0
  · by_cases hz : t.val = 0
    · rw [PhiS_castSucc m c t, PhiS_zero m c _ _ hz, PhiA0_eq]
      rw [outsAt0_A m c t h0]
      unfold out0_A_12 out0_A_13 out0_A_14 out0_A_15 out0_A_16 out0_A_17 out0_A_18 out0_A_19 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_12 out0_A_13 out0_A_14 out0_A_15 out0_A_16 out0_A_17 out0_A_18 out0_A_19 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexists _; iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 44 := lt_of_lt_of_eq t.isLt (show cfg0.N = 44 from N_0); omega
    · rw [PhiS_castSucc m c t, PhiS_pos m c _ _ hz]
      rw [outsAt0_B m c t h0]
      unfold out0_B_12 out0_B_13 out0_B_14 out0_B_15 out0_B_16 out0_B_17 out0_B_18 out0_B_19 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, HS0⟩
      isplitl [HS0 Hg]
      · isplitl [HS0]
        · unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The same, as the run asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 44 := N_0; omega)

set_option backward.isDefEq.respectTransparency.types false in

/-- The run of the whole program, with its semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The program ends, its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel5Ideal.Gen

end
-- ==== Proof.MixPosts.lean ====
/- What the arrays hold at the end of the run of the mixing's first call. -/
module

public import proofs.«01_k».proof.Proof.MixFrame
public import Idealize.ShloMosaic.Lib.Pipeline.Value

@[expose] public section

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What output 12's array holds at the end. -/
theorem post12 (r : PUnit × MemSt nD τ sig (Elt F)) (h : Pipeline.FramePost cfgs (dats m) 0 (V m) r) (c : Dev nD) :
    r.2.mem ((c : Thread nD τ).loc main_v23_0) = (dats m 0 c).arrAt 12 cfg0.N :=
  (h c).1 12

/-- What output 13's array holds at the end. -/
theorem post13 (r : PUnit × MemSt nD τ sig (Elt F)) (h : Pipeline.FramePost cfgs (dats m) 0 (V m) r) (c : Dev nD) :
    r.2.mem ((c : Thread nD τ).loc main_v23_1) = (dats m 0 c).arrAt 13 cfg0.N :=
  (h c).1 13

/-- What output 14's array holds at the end. -/
theorem post14 (r : PUnit × MemSt nD τ sig (Elt F)) (h : Pipeline.FramePost cfgs (dats m) 0 (V m) r) (c : Dev nD) :
    r.2.mem ((c : Thread nD τ).loc main_v23_2) = (dats m 0 c).arrAt 14 cfg0.N :=
  (h c).1 14

/-- What output 15's array holds at the end. -/
theorem post15 (r : PUnit × MemSt nD τ sig (Elt F)) (h : Pipeline.FramePost cfgs (dats m) 0 (V m) r) (c : Dev nD) :
    r.2.mem ((c : Thread nD τ).loc main_v23_3) = (dats m 0 c).arrAt 15 cfg0.N :=
  (h c).1 15

/-- What output 16's array holds at the end. -/
theorem post16 (r : PUnit × MemSt nD τ sig (Elt F)) (h : Pipeline.FramePost cfgs (dats m) 0 (V m) r) (c : Dev nD) :
    r.2.mem ((c : Thread nD τ).loc main_v23_4) = (dats m 0 c).arrAt 16 cfg0.N :=
  (h c).1 16

/-- What output 17's array holds at the end. -/
theorem post17 (r : PUnit × MemSt nD τ sig (Elt F)) (h : Pipeline.FramePost cfgs (dats m) 0 (V m) r) (c : Dev nD) :
    r.2.mem ((c : Thread nD τ).loc main_v23_5) = (dats m 0 c).arrAt 17 cfg0.N :=
  (h c).1 17

/-- What output 18's array holds at the end. -/
theorem post18 (r : PUnit × MemSt nD τ sig (Elt F)) (h : Pipeline.FramePost cfgs (dats m) 0 (V m) r) (c : Dev nD) :
    r.2.mem ((c : Thread nD τ).loc main_v23_6) = (dats m 0 c).arrAt 18 cfg0.N :=
  (h c).1 18

/-- What output 19's array holds at the end. -/
theorem post19 (r : PUnit × MemSt nD τ sig (Elt F)) (h : Pipeline.FramePost cfgs (dats m) 0 (V m) r) (c : Dev nD) :
    r.2.mem ((c : Thread nD τ).loc main_v23_7) = (dats m 0 c).arrAt 19 cfg0.N :=
  (h c).1 19

/-- Argument arg0 is kept. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument arg1 is kept. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument arg2 is kept. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument arg3 is kept. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- Argument arg4 is kept. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument arg5 is kept. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- Argument arg6 is kept. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- Argument arg7 is kept. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument arg8 is kept. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- Argument arg9 is kept. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

set_option maxHeartbeats 273960 in

/-- The run: each output's array as its blocks are written back, and the arguments unchanged. -/
theorem run_blocks : θ_run defs (onTc (τ := τ) (main (F := F))) ⟨m, fun _ => 0, ρ⟩ fun r => ∀ c : Dev nD,
      r.2.mem ((c : Thread nD τ).loc main_v23_0) = (dats m 0 c).arrAt 12 cfg0.N
      ∧ r.2.mem ((c : Thread nD τ).loc main_v23_1) = (dats m 0 c).arrAt 13 cfg0.N
      ∧ r.2.mem ((c : Thread nD τ).loc main_v23_2) = (dats m 0 c).arrAt 14 cfg0.N
      ∧ r.2.mem ((c : Thread nD τ).loc main_v23_3) = (dats m 0 c).arrAt 15 cfg0.N
      ∧ r.2.mem ((c : Thread nD τ).loc main_v23_4) = (dats m 0 c).arrAt 16 cfg0.N
      ∧ r.2.mem ((c : Thread nD τ).loc main_v23_5) = (dats m 0 c).arrAt 17 cfg0.N
      ∧ r.2.mem ((c : Thread nD τ).loc main_v23_6) = (dats m 0 c).arrAt 18 cfg0.N
      ∧ r.2.mem ((c : Thread nD τ).loc main_v23_7) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post12 m r h c,
      post13 m r h c,
      post14 m r h c,
      post15 m r h c,
      post16 m r h c,
      post17 m r h c,
      post18 m r h c,
      post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.Kernel5Ideal.Value

end
-- ==== Proof.MixBlocks.lean ====
/- What the first call of the RWKV-7 mixing reads: its blocks, index by index. -/
module

public import proofs.«01_k».proof.Proof.MixPay
public import proofs.«01_k».proof.Proof.MixPosts
public import Idealize.ShloMosaic.Lib.Pipeline.ValueKit
public import Idealize.ShloMosaic.Lib.Pointwise
public import Idealize.ShloMosaic.PureOps.Ideal

@[expose] public section

set_option maxRecDepth 16384

noncomputable section

namespace Cert.Kernel5Ideal.Mix

open Idealize.ShloMosaic Idealize.ShloMosaic.TcCoe Cert.Kernel5Ideal Cert.Kernel5Ideal.Gen Cert.Merge Cert.Mix

theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem idxB : ∀ t : Fin cfg0.N, win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

theorem point_lt (t : Fin cfg0.N) : t.val < 44 := lt_of_lt_of_eq t.isLt N_0

/-- The tile of point `t`. -/
def tileOf (t : Fin cfg0.N) : Fin 44 := ⟨t.val, point_lt t⟩

variable (m : (ℓ : Loc nD τ sig) → Buf (Elt Ideal) ℓ) (c : Dev nD) (t : Fin cfg0.N)

/-- What the call is given. -/
def input : Input where
  tokens n j := V m c main_v0 (ix2 n j)
  share j := m ((c : Thread nD τ).loc main_arg1) (ix1 j)
  decayBias i := m ((c : Thread nD τ).loc main_arg2) (ix1 i)
  decayMap k i := m ((c : Thread nD τ).loc main_arg3) (ix2 k i)
  rateBias i := m ((c : Thread nD τ).loc main_arg4) (ix1 i)
  rateMap k i := m ((c : Thread nD τ).loc main_arg5) (ix2 k i)
  gateMap k i := m ((c : Thread nD τ).loc main_arg6) (ix2 k i)
  keyScale i := m ((c : Thread nD τ).loc main_arg7) (ix1 i)
  rateScale i := m ((c : Thread nD τ).loc main_arg8) (ix1 i)
  bonusScale i := m ((c : Thread nD τ).loc main_arg9) (ix2 (head i) (⟨i.val % 64, by omega⟩ : Fin 64))

/-- Each number divided by 64 and rounded down, as the host code does it: over the features and over a tile's rows. -/
def floorDiv (x : IVec S512x512 32) : IVec S512x512 32 :=
  select (andi
      (cmpi .ne (signi x) (broadcastInDim S512x512 ![] bcast_S_S512x512 (signi (constantI S_ 32 64#32))))
      (cmpi .ne (Host.remsi x (broadcastInDim S512x512 ![] bcast_S_S512x512 (constantI S_ 32 64#32))) (broadcastInDim S512x512 ![] bcast_S_S512x512 (constantI S_ 32 0#32))))
    (subi (Host.divsi x (broadcastInDim S512x512 ![] bcast_S_S512x512 (constantI S_ 32 64#32))) (broadcastInDim S512x512 ![] bcast_S_S512x512 (constantI S_ 32 1#32)))
    (Host.divsi x (broadcastInDim S512x512 ![] bcast_S_S512x512 (constantI S_ 32 64#32)))
def floorDivRows (x : IVec S384x384 32) : IVec S384x384 32 :=
  select (andi
      (cmpi .ne (signi x) (broadcastInDim S384x384 ![] bcast_S_S384x384 (signi (constantI S_ 32 64#32))))
      (cmpi .ne (Host.remsi x (broadcastInDim S384x384 ![] bcast_S_S384x384 (constantI S_ 32 64#32))) (broadcastInDim S384x384 ![] bcast_S_S384x384 (constantI S_ 32 0#32))))
    (subi (Host.divsi x (broadcastInDim S384x384 ![] bcast_S_S384x384 (constantI S_ 32 64#32))) (broadcastInDim S384x384 ![] bcast_S_S384x384 (constantI S_ 32 1#32)))
    (Host.divsi x (broadcastInDim S384x384 ![] bcast_S_S384x384 (constantI S_ 32 64#32)))

theorem summing_host : V m c main_v16 = (truncf .bf16 (select (cmpi .eq (floorDiv (iotaInDim S512x512 32 0)) (floorDiv (iotaInDim S512x512 32 1)))
    (broadcastInDim S512x512 ![] bcast_S_S512x512 (constant S_ .f32 0x3F800000#32 : FVec Ideal S_ .f32))
    (broadcastInDim S512x512 ![] bcast_S_S512x512 (constant S_ .f32 0x00000000#32 : FVec Ideal S_ .f32))) bitsLt_bf16_f32 : FVec Ideal S512x512 .bf16) := by
  entry_read
  rfl

theorem lower_host : V m c main_v9 = (select (andi (cmpi .sge (iotaInDim S384x384 32 0) (iotaInDim S384x384 32 1))
      (cmpi .eq (floorDivRows (iotaInDim S384x384 32 0)) (floorDivRows (iotaInDim S384x384 32 1))))
    (broadcastInDim S384x384 ![] bcast_S_S384x384 (constant S_ .f32 0x3F800000#32 : FVec Ideal S_ .f32))
    (broadcastInDim S384x384 ![] bcast_S_S384x384 (constant S_ .f32 0x00000000#32 : FVec Ideal S_ .f32)) : FVec Ideal S384x384 .f32) := by
  entry_read
  rfl

/-- The weights as the host code lays them out: one row each. -/
theorem main_v17_host : V m c main_v17 = (shapeCast S1x1792 (m ((c : Thread nD τ).loc main_arg1) : FVec Ideal S1792 .f32) shapeCasts_S1792_S1x1792 : FVec Ideal S1x1792 .f32) := by
  entry_read
  rfl
theorem main_v18_host : V m c main_v18 = (shapeCast S1x512 (m ((c : Thread nD τ).loc main_arg2) : FVec Ideal S512 .f32) shapeCasts_S512_S1x512 : FVec Ideal S1x512 .f32) := by
  entry_read
  rfl
theorem main_v19_host : V m c main_v19 = (shapeCast S1x512 (m ((c : Thread nD τ).loc main_arg4) : FVec Ideal S512 .f32) shapeCasts_S512_S1x512 : FVec Ideal S1x512 .f32) := by
  entry_read
  rfl
theorem main_v20_host : V m c main_v20 = (shapeCast S1x512 (m ((c : Thread nD τ).loc main_arg7) : FVec Ideal S512 .f32) shapeCasts_S512_S1x512 : FVec Ideal S1x512 .f32) := by
  entry_read
  rfl
theorem main_v21_host : V m c main_v21 = (shapeCast S1x512 (m ((c : Thread nD τ).loc main_arg8) : FVec Ideal S512 .f32) shapeCasts_S512_S1x512 : FVec Ideal S1x512 .f32) := by
  entry_read
  rfl
theorem main_v22_host : V m c main_v22 = (shapeCast S1x512 (m ((c : Thread nD τ).loc main_arg9) : FVec Ideal S8x64 .f32) shapeCasts_S8x64_S1x512 : FVec Ideal S1x512 .f32) := by
  entry_read
  rfl

/-- The scalar steps of that division. -/
theorem floorDiv_scalar : ∀ i : Fin 512, Scalar.select
        (IntOp.andi
          (IntOp.cmpi CmpIPredicate.ne
            (if BitVec.ofNat 32 i.val = 0 then (0 : BitVec 32) else if (BitVec.ofNat 32 i.val).msb = true then -1 else 1)
            (if 64#32 = 0 then (0 : BitVec 32) else if (64#32).msb = true then -1 else 1))
          (IntOp.cmpi CmpIPredicate.ne (IntOp.remsi ArithUnit.host (BitVec.ofNat 32 i.val) 64#32) 0#32))
        (IntOp.subi (IntOp.divsi ArithUnit.host (BitVec.ofNat 32 i.val) 64#32) 1#32)
        (IntOp.divsi ArithUnit.host (BitVec.ofNat 32 i.val) 64#32) = BitVec.ofNat 32 (i.val / 64) := by
  decide +kernel

theorem floorDiv0 (i j : Fin 512) : floorDiv (iotaInDim S512x512 32 0) (ix2 i j) = BitVec.ofNat 32 (i.val / 64) := by
  pointwise [floorDiv]
  exact floorDiv_scalar i
theorem floorDiv1 (i j : Fin 512) : floorDiv (iotaInDim S512x512 32 1) (ix2 i j) = BitVec.ofNat 32 (j.val / 64) := by
  pointwise [floorDiv]
  exact floorDiv_scalar j
theorem floorDivRows0 (i j : Fin 384) : floorDivRows (iotaInDim S384x384 32 0) (ix2 i j) = BitVec.ofNat 32 (i.val / 64) := by
  pointwise [floorDivRows]
  exact floorDiv_scalar ⟨i.val, by omega⟩
theorem floorDivRows1 (i j : Fin 384) : floorDivRows (iotaInDim S384x384 32 1) (ix2 i j) = BitVec.ofNat 32 (j.val / 64) := by
  pointwise [floorDivRows]
  exact floorDiv_scalar ⟨j.val, by omega⟩

theorem quotient_eq_iff (i j : Nat) (hi : i < 512) (hj : j < 512) : BitVec.ofNat 32 (i / 64) = BitVec.ofNat 32 (j / 64) ↔ i / 64 = j / 64 := by
  rw [← BitVec.toNat_inj, BitVec.toNat_ofNat, BitVec.toNat_ofNat]
  omega

theorem toInt_small : ∀ a : Fin 512, (BitVec.ofNat 32 a.val).toInt = (a.val : Int) := by
  decide +kernel

theorem read_summing (i j : Fin 512) : iblk m c 11 t (ix2 i j) = summing i j := by
  have e : iblk m c 11 t (ix2 i j) = V m c main_v16 (ix2 i j) := by blk_ext [iblk, idxB t]
  rw [e, summing_host]
  unfold summing one
  pointwise
  rw [floorDiv0, floorDiv1, ← zero_eq]
  have hh : head i = head j ↔ BitVec.ofNat 32 (i.val / 64) = BitVec.ofNat 32 (j.val / 64) := by
    rw [quotient_eq_iff i.val j.val i.isLt j.isLt]
    exact Fin.mk.injEq _ _ _ _ ▸ Iff.rfl
  by_cases h : head i = head j
  · rw [if_pos h, hh.mp h]
    simp [Scalar.select, IntOp.cmpi]
  · rw [if_neg h]
    have h'' : (BitVec.ofNat 32 (i.val / 64) == BitVec.ofNat 32 (j.val / 64)) = false := beq_eq_false_iff_ne.mpr fun q => h (hh.mpr q)
    simp only [Scalar.select, IntOp.cmpi, h'']
    simp

theorem read_lower (r s : Fin 384) : iblk m c 10 t (ix2 r s) = if s.val ≤ r.val ∧ r.val / 64 = s.val / 64 then (1 : EReal) else 0 := by
  have e : iblk m c 10 t (ix2 r s) = V m c main_v9 (ix2 r s) := by blk_ext [iblk, idxB t]
  rw [e, lower_host, ← one_eq, ← zero_eq]
  unfold one
  pointwise
  rw [floorDivRows0, floorDivRows1]
  have hr := r.isLt
  have hs := s.isLt
  have h1 : IntOp.cmpi CmpIPredicate.sge (BitVec.ofNat 32 r.val) (BitVec.ofNat 32 s.val) = BitVec.ofBool (decide (s.val ≤ r.val)) := by
    have q : (BitVec.ofNat 32 s.val).sle (BitVec.ofNat 32 r.val) = decide (s.val ≤ r.val) := by
      rw [BitVec.sle_eq_decide, toInt_small ⟨s.val, by omega⟩, toInt_small ⟨r.val, by omega⟩]
      exact decide_eq_decide.mpr Int.ofNat_le
    simp only [IntOp.cmpi, q]
  have h2 : IntOp.cmpi CmpIPredicate.eq (BitVec.ofNat 32 (r.val / 64)) (BitVec.ofNat 32 (s.val / 64)) = BitVec.ofBool (decide (r.val / 64 = s.val / 64)) := by
    have q : (BitVec.ofNat 32 (r.val / 64) == BitVec.ofNat 32 (s.val / 64)) = decide (r.val / 64 = s.val / 64) := by
      rw [Bool.eq_iff_iff, beq_iff_eq, decide_eq_true_iff]
      exact quotient_eq_iff r.val s.val (by omega) (by omega)
    simp only [IntOp.cmpi, q]
  rw [h1, h2]
  by_cases a : s.val ≤ r.val <;> by_cases b : r.val / 64 = s.val / 64 <;> simp [a, b, Scalar.select, IntOp.andi]

theorem tokens_eq : (input m c).tokens = fun n j => V m c main_v0 (ix2 n j) := rfl

theorem read_tokens (r : Fin 384) (j : Fin 1792) : iblk m c 0 t (ix2 r j) = (input m c).tokens (rowAt (tileOf t) r) j := by
  have h : iblk m c 0 t (ix2 r j) = V m c main_v0 (ix2 (rowAt (tileOf t) r) j) := by
    unfold rowAt tileOf
    blk_ext [iblk, idxA t]
  rw [h, tokens_eq]
theorem read_share (j : Fin 1792) : iblk m c 1 t (ix2 (0 : Fin 1) j) = (input m c).share j := by
  have e : iblk m c 1 t (ix2 (0 : Fin 1) j) = V m c main_v17 (ix2 (0 : Fin 1) j) := by blk_ext [iblk, idxA t]
  rw [e, main_v17_host]
  unfold input
  exact shapeCast_apply (s := S1792) (t := S1x1792) (m ((c : Thread nD τ).loc main_arg1)) shapeCasts_S1792_S1x1792 (ix2 (0 : Fin 1) j) (ix1 j) (by
    rw [Shape.rowMajor_val_one, Shape.rowMajor_val_two]
    exact (show j.val = 0 * 1792 + j.val by omega))
theorem read_decayBias (i : Fin 512) : iblk m c 2 t (ix2 (0 : Fin 1) i) = (input m c).decayBias i := by
  have e : iblk m c 2 t (ix2 (0 : Fin 1) i) = V m c main_v18 (ix2 (0 : Fin 1) i) := by blk_ext [iblk, idxA t]
  rw [e, main_v18_host]
  unfold input
  pointwise
theorem read_rateBias (i : Fin 512) : iblk m c 4 t (ix2 (0 : Fin 1) i) = (input m c).rateBias i := by
  have e : iblk m c 4 t (ix2 (0 : Fin 1) i) = V m c main_v19 (ix2 (0 : Fin 1) i) := by blk_ext [iblk, idxA t]
  rw [e, main_v19_host]
  unfold input
  pointwise
theorem read_keyScale (i : Fin 512) : iblk m c 7 t (ix2 (0 : Fin 1) i) = (input m c).keyScale i := by
  have e : iblk m c 7 t (ix2 (0 : Fin 1) i) = V m c main_v20 (ix2 (0 : Fin 1) i) := by blk_ext [iblk, idxB t]
  rw [e, main_v20_host]
  unfold input
  pointwise
theorem read_rateScale (i : Fin 512) : iblk m c 8 t (ix2 (0 : Fin 1) i) = (input m c).rateScale i := by
  have e : iblk m c 8 t (ix2 (0 : Fin 1) i) = V m c main_v21 (ix2 (0 : Fin 1) i) := by blk_ext [iblk, idxB t]
  rw [e, main_v21_host]
  unfold input
  pointwise
theorem read_bonusScale (i : Fin 512) : iblk m c 9 t (ix2 (0 : Fin 1) i) = (input m c).bonusScale i := by
  have e : iblk m c 9 t (ix2 (0 : Fin 1) i) = V m c main_v22 (ix2 (0 : Fin 1) i) := by blk_ext [iblk, idxB t]
  rw [e, main_v22_host]
  unfold input
  exact shapeCast_apply (s := S8x64) (t := S1x512) (m ((c : Thread nD τ).loc main_arg9)) shapeCasts_S8x64_S1x512 (ix2 (0 : Fin 1) i) _ (by
    rw [Shape.rowMajor_val_two, Shape.rowMajor_val_two]
    exact (show i.val / 64 * 64 + i.val % 64 = 0 * 512 + i.val by omega))
theorem read_decayMap (k : Fin 64) (i : Fin 512) : iblk m c 3 t (ix2 k i) = (input m c).decayMap k i := by
  unfold input
  blk_ext [iblk, V, idxA t]
theorem read_rateMap (k : Fin 64) (i : Fin 512) : iblk m c 5 t (ix2 k i) = (input m c).rateMap k i := by
  unfold input
  blk_ext [iblk, V, idxA t]
theorem read_gateMap (k : Fin 128) (i : Fin 512) : iblk m c 6 t (ix2 k i) = (input m c).gateMap k i := by
  unfold input
  blk_ext [iblk, V, idxA t]

end Cert.Kernel5Ideal.Mix

end
-- ==== Proof.MixCases.lean ====
/- What the mixing's kernel leaves after each grid point: the results of the tile, and the row it carries to the next. -/
module

public import proofs.«01_k».proof.Proof.MixBlocks

@[expose] public section

set_option maxRecDepth 16384

noncomputable section

namespace Cert.Kernel5Ideal.Mix

open Idealize.ShloMosaic Idealize.ShloMosaic.TcCoe Cert.Kernel5Ideal Cert.Kernel5Ideal.Gen Cert.Mix

variable (m : (ℓ : Loc nD τ sig) → Buf (Elt Ideal) ℓ) (c : Dev nD) (t : Fin cfg0.N)

section Row
/-! The payloads over the row `p` carried from the tile before. -/
variable (p : Vec Ideal S1x1792 .f32)

def decays : FVec Ideal S384x512 .f32 :=
  k0_pay14 (k0_pay13 (iblk m c 0 t) p (iblk m c 1 t) (iblk m c 2 t) (iblk m c 3 t)) (FloatOps.ofBits FTy.f32 0#32)
def totals : FVec Ideal S384x512 .f32 := k0_pay24 (decays m c t p) (iblk m c 10 t)
def rates : FVec Ideal S384x512 .f32 := k0_pay15 (k0_pay11 (iblk m c 0 t) p (iblk m c 1 t)) (iblk m c 4 t) (iblk m c 5 t)
def removals : FVec Ideal S384x512 .f32 :=
  k0_pay20 (k0_pay18 (k0_pay9 (iblk m c 0 t) p (iblk m c 1 t)) (iblk m c 7 t))
    (k0_pay19 (k0_pay9 (iblk m c 0 t) p (iblk m c 1 t)) (iblk m c 11 t) (iblk m c 7 t))
def storedKeys : FVec Ideal S384x512 .f32 := k0_pay21 (k0_pay9 (iblk m c 0 t) p (iblk m c 1 t)) (rates m c t p) (iblk m c 8 t)

def tile12 : FVec Ideal S384x512 .f32 := k0_pay27 (decays m c t p) (removals m c t p) (totals m c t p) k0_pay26
def tile13 : FVec Ideal S384x512 .f32 := k0_pay28 (rates m c t p) (removals m c t p) (k0_pay25 (decays m c t p) (iblk m c 10 t))
def tile14 : FVec Ideal S384x512 .f32 := k0_pay29 (storedKeys m c t p) (k0_pay25 (decays m c t p) (iblk m c 10 t))
def tile15 : FVec Ideal S384x512 .f32 := k0_pay30 (k0_pay8 (iblk m c 0 t) p (iblk m c 1 t)) (totals m c t p)
def tile16 : FVec Ideal S384x512 .f32 := k0_pay23 (k0_pay10 (iblk m c 0 t) p (iblk m c 1 t))
def tile17 : Vec Ideal S6x1x512 .f32 := fun y => Ideal.exp (totals m c t p (ix2 (⟨(y 0).val * 64 + 63, by have := (y 0).isLt; dsimp at this; omega⟩ : Fin 384) (y 2)))
def tile18 : FVec Ideal S384x512 .f32 :=
  k0_pay22 (k0_pay8 (iblk m c 0 t) p (iblk m c 1 t)) (k0_pay9 (iblk m c 0 t) p (iblk m c 1 t)) (k0_pay10 (iblk m c 0 t) p (iblk m c 1 t))
    (rates m c t p) (k0_pay17 (iblk m c 11 t)) (iblk m c 8 t) (iblk m c 9 t)
def tile19 : FVec Ideal S384x512 .f32 := k0_pay16 (k0_pay12 (iblk m c 0 t) p (iblk m c 1 t)) (iblk m c 6 t)

variable (hp : ∀ j, p (ix2 (0 : Fin 1) j) = before (input m c).tokens (rowAt (tileOf t) 0) j)
include hp

theorem token_apply (r : Fin 384) (j : Fin 1792) :
    k0_pay7 (iblk m c 0 t) p (iblk m c 1 t) (ix2 r j) = (input m c).token (rowAt (tileOf t) r) j :=
  pay7_apply (input m c) (tileOf t) _ _ _ (read_tokens m c t) hp (read_share m c t) r j

theorem decays_apply (r : Fin 384) (i : Fin 512) : decays m c t p (ix2 r i) = (input m c).decay (rowAt (tileOf t) r) i := by
  unfold decays
  refine (pay14_apply _ r i).trans ?_
  rw [pay13_apply (input m c) (rowAt (tileOf t) r) r _ _ _ (token_apply m c t p hp r) _ _ i (read_decayBias m c t) (read_decayMap m c t)]
  rfl

theorem totals_apply (r : Fin 384) (i : Fin 512) : totals m c t p (ix2 r i) = (input m c).total (rowAt (tileOf t) r) i := by
  unfold totals
  rw [pay24_apply]
  simp only [read_lower m c t, decays_apply m c t p hp]
  exact upTo_tile (fun n => (input m c).decay n i) (tileOf t).val (tileOf t).isLt r

theorem rates_apply (r : Fin 384) (i : Fin 512) : rates m c t p (ix2 r i) = (input m c).forget (rowAt (tileOf t) r) i := by
  unfold rates
  rw [pay15_apply]
  simp only [pay11_apply (input m c) (rowAt (tileOf t) r) r _ _ _ (token_apply m c t p hp r), read_rateBias m c t, read_rateMap m c t]
  rfl

theorem removals_apply (r : Fin 384) (i : Fin 512) : removals m c t p (ix2 r i) = (input m c).removal splitSum (rowAt (tileOf t) r) i := by
  unfold removals
  rw [pay20_apply, pay18_apply, pay19_apply _ _ _ r i (read_summing m c t)]
  simp only [pay9_apply (input m c) (rowAt (tileOf t) r) r _ _ _ (token_apply m c t p hp r), read_keyScale m c t]
  rfl

theorem storedKeys_apply (r : Fin 384) (i : Fin 512) : storedKeys m c t p (ix2 r i) = (input m c).stored (rowAt (tileOf t) r) i := by
  unfold storedKeys
  rw [pay21_apply]
  simp only [pay9_apply (input m c) (rowAt (tileOf t) r) r _ _ _ (token_apply m c t p hp r), rates_apply m c t p hp, read_rateScale m c t]
  rfl

theorem tile12_apply (r : Fin 384) (i : Fin 512) : tile12 m c t p (ix2 r i) = (input m c).outAt splitSum (rowAt (tileOf t) r) i := by
  unfold tile12
  rw [pay27_apply, removals_apply m c t p hp, totals_apply m c t p hp, decays_apply m c t p hp]
  rfl
theorem tile13_apply (r : Fin 384) (i : Fin 512) : tile13 m c t p (ix2 r i) = (input m c).outBt splitSum (rowAt (tileOf t) r) i := by
  unfold tile13
  rw [pay28_apply, pay25_apply, removals_apply m c t p hp, rates_apply m c t p hp]
  have h := totals_apply m c t p hp r i
  unfold totals at h
  rw [h]
  rfl
theorem tile14_apply (r : Fin 384) (i : Fin 512) : tile14 m c t p (ix2 r i) = (input m c).outKt (rowAt (tileOf t) r) i := by
  unfold tile14
  rw [pay29_apply, pay25_apply, storedKeys_apply m c t p hp]
  have h := totals_apply m c t p hp r i
  unfold totals at h
  rw [h]
  rfl
theorem tile15_apply (r : Fin 384) (i : Fin 512) : tile15 m c t p (ix2 r i) = (input m c).outRt (rowAt (tileOf t) r) i := by
  unfold tile15
  rw [pay30_apply, totals_apply m c t p hp, pay8_apply (input m c) (rowAt (tileOf t) r) r _ _ _ (token_apply m c t p hp r)]
  rfl
theorem tile16_apply (r : Fin 384) (i : Fin 512) : tile16 m c t p (ix2 r i) = (input m c).value (rowAt (tileOf t) r) i := by
  unfold tile16
  rw [pay23_apply, pay10_apply (input m c) (rowAt (tileOf t) r) r _ _ _ (token_apply m c t p hp r)]
theorem tile17_apply (a : Fin 6) (i : Fin 512) :
    tile17 m c t p (ix3 a (0 : Fin 1) i) = (input m c).outChunk (rowAt (tileOf t) ⟨a.val * 64 + 63, by omega⟩) i := by
  show Ideal.exp (totals m c t p (ix2 (⟨a.val * 64 + 63, by omega⟩ : Fin 384) i)) = _
  rw [totals_apply m c t p hp]
  rfl
theorem tile18_apply (r : Fin 384) (i : Fin 512) : tile18 m c t p (ix2 r i) = (input m c).outBonus splitSum (rowAt (tileOf t) r) i := by
  unfold tile18
  rw [pay22_apply _ _ _ _ _ _ _ r i (read_summing m c t)]
  have h := fun k => storedKeys_apply m c t p hp r k
  unfold storedKeys at h
  simp only [h, pay8_apply (input m c) (rowAt (tileOf t) r) r _ _ _ (token_apply m c t p hp r),
    pay10_apply (input m c) (rowAt (tileOf t) r) r _ _ _ (token_apply m c t p hp r), read_bonusScale m c t]
  rfl
theorem tile19_apply (r : Fin 384) (i : Fin 512) : tile19 m c t p (ix2 r i) = (input m c).outGate (rowAt (tileOf t) r) i := by
  unfold tile19
  rw [pay16_apply]
  simp only [pay12_apply (input m c) (rowAt (tileOf t) r) r _ _ _ (token_apply m c t p hp r), read_gateMap m c t]
  rfl
end Row

/-- The six pieces the chunk results are stored in. -/
theorem pieces_apply (v : FVec Ideal S384x512 .f32) :
    (View.canon [⟨Rect.unit ![5, 0, 0] ![1, 1, 512] inb_S6x1x512_S1x1x512_5_0_0, k0_pay3 v⟩,
      ⟨Rect.unit ![4, 0, 0] ![1, 1, 512] inb_S6x1x512_S1x1x512_4_0_0, k0_pay2 v⟩,
      ⟨Rect.unit ![3, 0, 0] ![1, 1, 512] inb_S6x1x512_S1x1x512_3_0_0, k0_pay1 (k0_pay34 v)⟩,
      ⟨Rect.unit ![2, 0, 0] ![1, 1, 512] inb_S6x1x512_S1x1x512_2_0_0, k0_pay33 v⟩,
      ⟨Rect.unit ![1, 0, 0] ![1, 1, 512] inb_S6x1x512_S1x1x512_1_0_0, k0_pay32 v⟩,
      ⟨Rect.unit ![0, 0, 0] ![1, 1, 512] inb_S6x1x512_S1x1x512_0_0_0, k0_pay31 v⟩] : Vec Ideal S6x1x512 .f32)
      = fun y => Ideal.exp (v (ix2 (⟨(y 0).val * 64 + 63, by have := (y 0).isLt; dsimp at this; omega⟩ : Fin 384) (y 2))) := by
  funext y
  have key : ∀ (w : Vec Ideal S1x1x512 .f32) (b : Fin 6) (d : Fin 384), d.val = b.val * 64 + 63 → (∀ i, w (ix3 (0 : Fin 1) (0 : Fin 1) i) = Ideal.exp (v (ix2 d i))) →
      View.TileAt y ![b.val, 0, 0] ![1, 1, 512] w
        (Ideal.exp (v (ix2 (⟨(y 0).val * 64 + 63, by have := (y 0).isLt; dsimp at this; omega⟩ : Fin 384) (y 2)))) := by
    intro w b d hd hw x hx
    have h0 : (y 0).val = b.val + (x 0).val := hx 0
    have h2 : (y 2).val = 0 + (x 2).val := hx 2
    have x0 : (x 0).val < 1 := (x 0).isLt
    have e : x = ix3 (0 : Fin 1) (0 : Fin 1) (x 2) := by
      funext k
      fin_cases k
      · exact Subsingleton.elim (α := Fin 1) _ _
      · exact Subsingleton.elim (α := Fin 1) _ _
      · rfl
    rw [e]
    refine (hw (x 2)).trans (congrArg Ideal.exp (congrArg v ?_))
    have e1 : d = (⟨(y 0).val * 64 + 63, by have := (y 0).isLt; dsimp at this; omega⟩ : Fin 384) := Fin.ext (by rw [hd]; dsimp only; omega)
    have e2 : (x 2 : Fin 512) = y 2 := Fin.ext (by omega)
    rw [e1, e2]
  refine View.canon_eq_of_allAt _ y _ (View.cover_of_tiled_head _ _ _ rfl y) ?_
  refine View.allAt_cons_unit _ _ _ _ _ (key _ 5 383 rfl (pay3_apply v)) ?_
  refine View.allAt_cons_unit _ _ _ _ _ (key _ 4 319 rfl (pay2_apply v)) ?_
  refine View.allAt_cons_unit _ _ _ _ _ (key _ 3 255 rfl (pay34_apply v)) ?_
  refine View.allAt_cons_unit _ _ _ _ _ (key _ 2 191 rfl (pay33_apply v)) ?_
  refine View.allAt_cons_unit _ _ _ _ _ (key _ 1 127 rfl (pay32_apply v)) ?_
  refine View.allAt_cons_unit _ _ _ _ _ (key _ 0 63 rfl (pay31_apply v)) ?_
  exact View.allAt_nil y _

/-- The first row of the carried buffer. -/
theorem emb_row (j : Fin 1792) : (Rect.unit (s := S8x1792) ![0, 0] ![1, 1792] inb_S8x1792_S1x1792_0_0).emb (ix2 (0 : Fin 1) j) = ix2 (0 : Fin 8) j := by
  funext k
  apply Fin.ext
  fin_cases k
  · rfl
  · show 0 + 1 * j.val = j.val
    omega

/-- Each point leaves the last token of its tile in the carried row. -/
theorem carried (j : Fin 1792) :
    (outsAt0 m c t.val t.isLt).2.2.2.2.2.2.2.2 (ix2 (0 : Fin 8) j) = (input m c).tokens (rowAt (tileOf t) 383) j := by
  rw [← read_tokens m c t, ← pay6_apply (iblk m c 0 t), ← emb_row j]
  by_cases h0 : t.val % 11 = 0
  · rw [outsAt0_A m c t h0]
    frame_out
    exact View.canon_cons_emb _ _ _ _
  · rw [outsAt0_B m c t h0]
    frame_out
    exact View.read_writes_cons_emb _ _ _ _ _ _

/-- The row read after the whole buffer has been filled with zeros. -/
def rowZero := (View.whole cc0_scratch0 : View sig .tc .vmem S8x1792 .f32).readCov (Val := Elt Ideal)
  [⟨Rect.unit ![0, 0] ![8, 1792] inb_S8x1792_S8x1792_0_0, (k0_pay4 : FVec Ideal S8x1792 .f32)⟩]
  (Rect.unit (s := S8x1792) ![0, 0] ![1, 1792] inb_S8x1792_S1x1792_0_0).toLoadRect

/-- The row a point finds: zeros at the start of a sequence, and the last token of the tile before elsewhere. -/
def rowBefore : Vec Ideal S1x1792 .f32 :=
  if t.val % 11 = 0 then rowZero
  else View.ld (outsAt0 m c (t.val - 1) (Nat.lt_of_le_of_lt (Nat.sub_le _ _) t.isLt)).2.2.2.2.2.2.2.2 (Rect.unit ![0, 0] ![1, 1792] inb_S8x1792_S1x1792_0_0)

theorem rowBefore_apply (j : Fin 1792) : rowBefore m c t (ix2 (0 : Fin 1) j) = before (input m c).tokens (rowAt (tileOf t) 0) j := by
  have hv : (rowAt (tileOf t) 0).val = t.val * 384 := by
    show t.val * 384 + 0 = _
    omega
  unfold rowBefore before
  by_cases h0 : t.val % 11 = 0
  · rw [if_pos h0, if_pos (by rw [hv]; omega)]
    unfold rowZero
    refine (congrFun (View.readCov_eq_canon' (Val := Elt Ideal) _ _ _) _).trans ?_
    refine (congrFun (View.canon_cons_unit_lit (Val := Elt Ideal) (S := S8x1792) (e := .f32) inb_S8x1792_S8x1792_0_0 (k0_pay4 : FVec Ideal S8x1792 .f32) [] (by decide)) _).trans ?_
    refine (congrArg (k0_pay4 : FVec Ideal S8x1792 .f32) (emb_row j)).trans ?_
    exact pay4_apply 0 j
  · rw [if_neg h0, if_neg (by rw [hv]; omega)]
    refine (congrArg _ (emb_row j)).trans ?_
    refine (carried m c ⟨t.val - 1, Nat.lt_of_le_of_lt (Nat.sub_le _ _) t.isLt⟩ j).trans ?_
    refine congrArg (fun n => (input m c).tokens n j) (Fin.ext ?_)
    show (t.val - 1) * 384 + 383 = (rowAt (tileOf t) 0).val - 1
    rw [hv]
    omega

/-! What each point leaves in the buffers of the results. -/

/-- A buffer stored whole is read back as it was stored. -/
theorem back (h : (Memref.whole cc0_scratch0).IsWhole) (X : Vec Ideal S8x1792 .f32) :
    View.read (Elt Ideal) (View.whole cc0_scratch0) (h.unread X) = X := h.read_unread X

theorem left12 : (outsAt0 m c t.val t.isLt).1 = tile12 m c t (rowBefore m c t) := by
  unfold rowBefore
  by_cases h0 : t.val % 11 = 0
  · rw [outsAt0_A m c t h0, if_pos h0]
    frame_out
    rfl
  · rw [outsAt0_B m c t h0, if_neg h0]
    frame_out
    rw [back]
    rfl

theorem left13 : (outsAt0 m c t.val t.isLt).2.1 = tile13 m c t (rowBefore m c t) := by
  unfold rowBefore
  by_cases h0 : t.val % 11 = 0
  · rw [outsAt0_A m c t h0, if_pos h0]
    frame_out
    rfl
  · rw [outsAt0_B m c t h0, if_neg h0]
    frame_out
    rw [back]
    rfl

theorem left14 : (outsAt0 m c t.val t.isLt).2.2.1 = tile14 m c t (rowBefore m c t) := by
  unfold rowBefore
  by_cases h0 : t.val % 11 = 0
  · rw [outsAt0_A m c t h0, if_pos h0]
    frame_out
    rfl
  · rw [outsAt0_B m c t h0, if_neg h0]
    frame_out
    rw [back]
    rfl

theorem left15 : (outsAt0 m c t.val t.isLt).2.2.2.1 = tile15 m c t (rowBefore m c t) := by
  unfold rowBefore
  by_cases h0 : t.val % 11 = 0
  · rw [outsAt0_A m c t h0, if_pos h0]
    frame_out
    rfl
  · rw [outsAt0_B m c t h0, if_neg h0]
    frame_out
    rw [back]
    rfl

theorem left16 : (outsAt0 m c t.val t.isLt).2.2.2.2.1 = tile16 m c t (rowBefore m c t) := by
  unfold rowBefore
  by_cases h0 : t.val % 11 = 0
  · rw [outsAt0_A m c t h0, if_pos h0]
    frame_out
    rfl
  · rw [outsAt0_B m c t h0, if_neg h0]
    frame_out
    rw [back]
    rfl

theorem left17 : (outsAt0 m c t.val t.isLt).2.2.2.2.2.1 = tile17 m c t (rowBefore m c t) := by
  unfold rowBefore
  by_cases h0 : t.val % 11 = 0
  · rw [outsAt0_A m c t h0, if_pos h0]
    frame_out
    exact pieces_apply _
  · rw [outsAt0_B m c t h0, if_neg h0]
    frame_out
    rw [back]
    exact pieces_apply _

theorem left18 : (outsAt0 m c t.val t.isLt).2.2.2.2.2.2.1 = tile18 m c t (rowBefore m c t) := by
  unfold rowBefore
  by_cases h0 : t.val % 11 = 0
  · rw [outsAt0_A m c t h0, if_pos h0]
    frame_out
    rfl
  · rw [outsAt0_B m c t h0, if_neg h0]
    frame_out
    rw [back]
    rfl

theorem left19 : (outsAt0 m c t.val t.isLt).2.2.2.2.2.2.2.1 = tile19 m c t (rowBefore m c t) := by
  unfold rowBefore
  by_cases h0 : t.val % 11 = 0
  · rw [outsAt0_A m c t h0, if_pos h0]
    frame_out
    rfl
  · rw [outsAt0_B m c t h0, if_neg h0]
    frame_out
    rw [back]
    rfl

end Cert.Kernel5Ideal.Mix

end
-- ==== Proof.MixValue.lean ====
/- The first call of the RWKV-7 mixing: the whole arrays of its results. -/
module

public import proofs.«01_k».proof.Proof.MixCases

@[expose] public section

set_option maxRecDepth 16384

noncomputable section

namespace Cert.Kernel5Ideal.Mix

open Idealize.ShloMosaic Idealize.ShloMosaic.TcCoe Cert.Kernel5Ideal Cert.Kernel5Ideal.Gen Cert.Mix

variable (m : (ℓ : Loc nD τ sig) → Buf (Elt Ideal) ℓ) (c : Dev nD)

theorem idxC : ∀ t : Fin cfg0.N, win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0
    ∧ win0_16.index t (0 : Fin 2) = t.val ∧ win0_16.index t (1 : Fin 2) = 0 := by
  decide +kernel
theorem idxD : ∀ t : Fin cfg0.N, win0_17.index t (0 : Fin 3) = t.val ∧ win0_17.index t (1 : Fin 3) = 0 ∧ win0_17.index t (2 : Fin 3) = 0
    ∧ win0_18.index t (0 : Fin 2) = t.val ∧ win0_18.index t (1 : Fin 2) = 0
    ∧ win0_19.index t (0 : Fin 2) = t.val ∧ win0_19.index t (1 : Fin 2) = 0 := by
  decide +kernel

/-! The results, entry by entry. -/

def result12 : Buf (Elt Ideal) ((c : Thread nD τ).loc main_v23_0) := fun i => (input m c).outAt splitSum (i 0) (i 1)
def result13 : Buf (Elt Ideal) ((c : Thread nD τ).loc main_v23_1) := fun i => (input m c).outBt splitSum (i 0) (i 1)
def result14 : Buf (Elt Ideal) ((c : Thread nD τ).loc main_v23_2) := fun i => (input m c).outKt (i 0) (i 1)
def result15 : Buf (Elt Ideal) ((c : Thread nD τ).loc main_v23_3) := fun i => (input m c).outRt (i 0) (i 1)
def result16 : Buf (Elt Ideal) ((c : Thread nD τ).loc main_v23_4) := fun i => (input m c).value (i 0) (i 1)
def result17 : Buf (Elt Ideal) ((c : Thread nD τ).loc main_v23_5) := fun i =>
  (input m c).outChunk (⟨(i 0).val * 64 + 63, by have := (i 0).isLt; dsimp at this; omega⟩ : Fin 16896) (i 2)
def result18 : Buf (Elt Ideal) ((c : Thread nD τ).loc main_v23_6) := fun i => (input m c).outBonus splitSum (i 0) (i 1)
def result19 : Buf (Elt Ideal) ((c : Thread nD τ).loc main_v23_7) := fun i => (input m c).outGate (i 0) (i 1)

theorem final12 : (dats m 0 c).arrAt 12 cfg0.N = result12 m c := by
  refine (dats m 0 c).arrAt_eq_of_covers 12 _ (by decide +kernel) fun t hf y => ?_
  blk_simp
  rw [after0_12, left12]
  have hy : y = ix2 (y 0) (y 1) := by funext k; fin_cases k <;> rfl
  have e0 : ((View.whole main_v23_0).slice (win0_12.rect t)).emb y = ix2 (rowAt (tileOf t) (y 0)) (y 1) := by
    unfold rowAt tileOf
    blk_ext [idxC t]
  rw [e0]
  conv_lhs => rw [hy]
  exact tile12_apply m c t _ (rowBefore_apply m c t) (y 0) (y 1)

theorem final13 : (dats m 0 c).arrAt 13 cfg0.N = result13 m c := by
  refine (dats m 0 c).arrAt_eq_of_covers 13 _ (by decide +kernel) fun t hf y => ?_
  blk_simp
  rw [after0_13, left13]
  have hy : y = ix2 (y 0) (y 1) := by funext k; fin_cases k <;> rfl
  have e0 : ((View.whole main_v23_1).slice (win0_13.rect t)).emb y = ix2 (rowAt (tileOf t) (y 0)) (y 1) := by
    unfold rowAt tileOf
    blk_ext [idxC t]
  rw [e0]
  conv_lhs => rw [hy]
  exact tile13_apply m c t _ (rowBefore_apply m c t) (y 0) (y 1)

theorem final14 : (dats m 0 c).arrAt 14 cfg0.N = result14 m c := by
  refine (dats m 0 c).arrAt_eq_of_covers 14 _ (by decide +kernel) fun t hf y => ?_
  blk_simp
  rw [after0_14, left14]
  have hy : y = ix2 (y 0) (y 1) := by funext k; fin_cases k <;> rfl
  have e0 : ((View.whole main_v23_2).slice (win0_14.rect t)).emb y = ix2 (rowAt (tileOf t) (y 0)) (y 1) := by
    unfold rowAt tileOf
    blk_ext [idxC t]
  rw [e0]
  conv_lhs => rw [hy]
  exact tile14_apply m c t _ (rowBefore_apply m c t) (y 0) (y 1)

theorem final15 : (dats m 0 c).arrAt 15 cfg0.N = result15 m c := by
  refine (dats m 0 c).arrAt_eq_of_covers 15 _ (by decide +kernel) fun t hf y => ?_
  blk_simp
  rw [after0_15, left15]
  have hy : y = ix2 (y 0) (y 1) := by funext k; fin_cases k <;> rfl
  have e0 : ((View.whole main_v23_3).slice (win0_15.rect t)).emb y = ix2 (rowAt (tileOf t) (y 0)) (y 1) := by
    unfold rowAt tileOf
    blk_ext [idxC t]
  rw [e0]
  conv_lhs => rw [hy]
  exact tile15_apply m c t _ (rowBefore_apply m c t) (y 0) (y 1)

theorem final16 : (dats m 0 c).arrAt 16 cfg0.N = result16 m c := by
  refine (dats m 0 c).arrAt_eq_of_covers 16 _ (by decide +kernel) fun t hf y => ?_
  blk_simp
  rw [after0_16, left16]
  have hy : y = ix2 (y 0) (y 1) := by funext k; fin_cases k <;> rfl
  have e0 : ((View.whole main_v23_4).slice (win0_16.rect t)).emb y = ix2 (rowAt (tileOf t) (y 0)) (y 1) := by
    unfold rowAt tileOf
    blk_ext [idxC t]
  rw [e0]
  conv_lhs => rw [hy]
  exact tile16_apply m c t _ (rowBefore_apply m c t) (y 0) (y 1)

theorem final17 : (dats m 0 c).arrAt 17 cfg0.N = result17 m c := by
  refine (dats m 0 c).arrAt_eq_of_covers 17 _ (by decide +kernel) fun t hf y => ?_
  blk_simp
  rw [after0_17, left17]
  have ht := point_lt t
  have h0 : (y 0).val < 6 := (y 0).isLt
  have hy : y = ix3 (y 0) (0 : Fin 1) (y 2) := by
    funext k
    fin_cases k
    · rfl
    · exact Subsingleton.elim (α := Fin 1) _ _
    · rfl
  have e0 : ((View.whole main_v23_5).slice (win0_17.rect t)).emb y = ix3 (⟨t.val * 6 + (y 0).val, by omega⟩ : Fin 264) (0 : Fin 1) (y 2) := by
    blk_ext [idxD t]
  rw [e0]
  conv_lhs => rw [hy]
  refine (tile17_apply m c t _ (rowBefore_apply m c t) (y 0) (y 2)).trans ?_
  refine congrArg (fun n => (input m c).outChunk n (y 2)) (Fin.ext ?_)
  show t.val * 384 + ((y 0).val * 64 + 63) = (t.val * 6 + (y 0).val) * 64 + 63
  omega

theorem final18 : (dats m 0 c).arrAt 18 cfg0.N = result18 m c := by
  refine (dats m 0 c).arrAt_eq_of_covers 18 _ (by decide +kernel) fun t hf y => ?_
  blk_simp
  rw [after0_18, left18]
  have hy : y = ix2 (y 0) (y 1) := by funext k; fin_cases k <;> rfl
  have e0 : ((View.whole main_v23_6).slice (win0_18.rect t)).emb y = ix2 (rowAt (tileOf t) (y 0)) (y 1) := by
    unfold rowAt tileOf
    blk_ext [idxD t]
  rw [e0]
  conv_lhs => rw [hy]
  exact tile18_apply m c t _ (rowBefore_apply m c t) (y 0) (y 1)

theorem final19 : (dats m 0 c).arrAt 19 cfg0.N = result19 m c := by
  refine (dats m 0 c).arrAt_eq_of_covers 19 _ (by decide +kernel) fun t hf y => ?_
  blk_simp
  rw [after0_19, left19]
  have hy : y = ix2 (y 0) (y 1) := by funext k; fin_cases k <;> rfl
  have e0 : ((View.whole main_v23_7).slice (win0_19.rect t)).emb y = ix2 (rowAt (tileOf t) (y 0)) (y 1) := by
    unfold rowAt tileOf
    blk_ext [idxD t]
  rw [e0]
  conv_lhs => rw [hy]
  exact tile19_apply m c t _ (rowBefore_apply m c t) (y 0) (y 1)

end Cert.Kernel5Ideal.Mix

end
-- ==== Proof.MixRef.lean ====
/- The RWKV-7 mixing before its scan: what the reference's results hold. -/
module

public import proofs.«01_k».proof.Proof.Mix
public import proofs.«01_k».proof.Proof.Gen.Reference5Ideal.Read
public import Idealize.ShloMosaic.Lib.Pointwise
public import Idealize.ShloMosaic.Lib.KernelVsHost

@[expose] public section

set_option maxRecDepth 16384

noncomputable section

namespace Cert.Reference5Ideal.Mix

open Idealize.ShloMosaic Idealize.ShloMosaic.TcCoe Cert.Reference5Ideal Cert.Reference5Ideal.Gen Cert.Reference5Ideal.Read Cert.Mix
open Cert.Merge (head inHead head_inHead)

variable (x0 : (⟨S4x4224x1792, .f32⟩ : BufTy).Contents (Elt Ideal)) (x1 : (⟨S1792, .f32⟩ : BufTy).Contents (Elt Ideal))
  (x2 : (⟨S512, .f32⟩ : BufTy).Contents (Elt Ideal)) (x3 : (⟨S64x512, .f32⟩ : BufTy).Contents (Elt Ideal))
  (x4 : (⟨S512, .f32⟩ : BufTy).Contents (Elt Ideal)) (x5 : (⟨S64x512, .f32⟩ : BufTy).Contents (Elt Ideal))
  (x6 : (⟨S128x512, .f32⟩ : BufTy).Contents (Elt Ideal)) (x7 x8 : (⟨S512, .f32⟩ : BufTy).Contents (Elt Ideal))
  (x9 : (⟨S8x64, .f32⟩ : BufTy).Contents (Elt Ideal))

/-- What the call is given. -/
def input : Input where
  tokens n j := x0 (ix3 (⟨n.val / 4224, by omega⟩ : Fin 4) (⟨n.val % 4224, by omega⟩ : Fin 4224) j)
  share j := x1 (ix1 j)
  decayBias i := x2 (ix1 i)
  decayMap k i := x3 (ix2 k i)
  rateBias i := x4 (ix1 i)
  rateMap k i := x5 (ix2 k i)
  gateMap k i := x6 (ix2 k i)
  keyScale i := x7 (ix1 i)
  rateScale i := x8 (ix1 i)
  bonusScale i := x9 (ix2 (head i) (⟨i.val % 64, by omega⟩ : Fin 64))

/-- The tokens one later, with a zero before each sequence. -/
theorem v1_apply (b : Fin 4) (l : Fin 4224) (j : Fin 1792) :
    val_main_v1 (F := Ideal) x0 (ix3 b l j)
      = if h : l.val = 0 then 0 else x0 (ix3 b (⟨l.val - 1, by omega⟩ : Fin 4224) j) := by
  rw [val_main_v1_apply]
  unfold val_main_v0
  split
  · next h =>
    rw [pad_apply_of_not_inside _ _ _ _ _ _ _ _ (1 : Fin 3)]
    · rw [val_main_call0_v0_apply, val_main_c_apply]
      show (((0#32 : BitVec 32).toInt : ℝ) : EReal) = 0
      simp
    · rintro ⟨h1, _⟩
      change 1 ≤ l.val at h1
      omega
  · next h =>
    refine pad_apply_of_inside _ _ _ _ _ _ _ _ _ fun a => ?_
    match a with
    | ⟨0, _⟩ => show b.val = 0 + b.val * 1; omega
    | ⟨1, _⟩ => show l.val = 1 + (l.val - 1) * 1; omega
    | ⟨2, _⟩ => show j.val = 0 + j.val * 1; omega

theorem v7_apply (n : Fin 16896) (j : Fin 1792) :
    val_main_v7 (F := Ideal) x0 x1 (ix2 n j) = (input x0 x1 x2 x3 x4 x5 x6 x7 x8 x9).token n j := by
  have e : val_main_v7 (F := Ideal) x0 x1 (ix2 n j)
      = val_main_v6 (F := Ideal) x0 x1 (ix3 (⟨n.val / 4224, by omega⟩ : Fin 4) (⟨n.val % 4224, by omega⟩ : Fin 4224) j) := by
    rw [val_main_v7_apply]
    refine congrArg _ ?_
    funext b
    match b with
    | ⟨0, _⟩ => exact Fin.ext (show (n.val * 1792 + j.val) / 7569408 = n.val / 4224 by omega)
    | ⟨1, _⟩ => exact Fin.ext (show (n.val * 1792 + j.val) / 1792 % 4224 = n.val % 4224 by omega)
    | ⟨2, _⟩ => exact Fin.ext (show (n.val * 1792 + j.val) % 1792 = j.val by omega)
  rw [e]
  have p : before (input x0 x1 x2 x3 x4 x5 x6 x7 x8 x9).tokens n j
      = val_main_v1 (F := Ideal) x0 (ix3 (⟨n.val / 4224, by omega⟩ : Fin 4) (⟨n.val % 4224, by omega⟩ : Fin 4224) j) := by
    rw [v1_apply]
    unfold before
    by_cases h : n.val % 4224 = 0
    · rw [if_pos h, dif_pos h]
    · rw [if_neg h, dif_neg h]
      have e1 : (n.val - 1) / 4224 = n.val / 4224 := by omega
      have e2 : (n.val - 1) % 4224 = n.val % 4224 - 1 := by omega
      show x0 (ix3 (⟨(n.val - 1) / 4224, _⟩ : Fin 4) (⟨(n.val - 1) % 4224, _⟩ : Fin 4224) j) = _
      simp only [e1, e2]
  unfold Input.token shifted
  rw [p]
  pointwise [val_main_v6, val_main_v5, val_main_v4, val_main_v3, val_main_v2]
  rfl

theorem v8_apply (n : Fin 16896) (i : Fin 512) : val_main_v8 (F := Ideal) x0 x1 (ix2 n i) = (input x0 x1 x2 x3 x4 x5 x6 x7 x8 x9).receptance n i := by
  unfold Input.receptance colR
  rw [← v7_apply]
  pointwise [val_main_v8]

theorem v9_apply (n : Fin 16896) (i : Fin 512) : val_main_v9 (F := Ideal) x0 x1 (ix2 n i) = (input x0 x1 x2 x3 x4 x5 x6 x7 x8 x9).key n i := by
  unfold Input.key colK
  rw [← v7_apply]
  pointwise [val_main_v9]

theorem v10_apply (n : Fin 16896) (i : Fin 512) : val_main_v10 (F := Ideal) x0 x1 (ix2 n i) = (input x0 x1 x2 x3 x4 x5 x6 x7 x8 x9).value n i := by
  unfold Input.value colV
  rw [← v7_apply]
  pointwise [val_main_v10]

theorem v18_apply (n : Fin 16896) (i : Fin 512) :
    val_main_v18 (F := Ideal) x0 x1 x2 x3 (ix2 n i) = decayArg ((input x0 x1 x2 x3 x4 x5 x6 x7 x8 x9).token n) (input x0 x1 x2 x3 x4 x5 x6 x7 x8 x9).decayBias (input x0 x1 x2 x3 x4 x5 x6 x7 x8 x9).decayMap i := by
  unfold decayArg colW
  simp only [← v7_apply]
  pointwise [val_main_v18, val_main_v17, val_main_v16, val_main_v15, val_main_v14, val_main_v11]
  rfl

theorem v75_apply (n : Fin 16896) (i : Fin 512) :
    val_main_v75 (F := Ideal) x0 x1 x2 x3 (ix2 n i) = (input x0 x1 x2 x3 x4 x5 x6 x7 x8 x9).decay n i := by
  unfold Input.decay logDecay half
  rw [← v18_apply]
  pointwise [val_main_v75, val_main_v74, val_main_v23, val_main_v22, val_main_cst, val_main_v21, val_main_v20, val_main_call1_v11, val_main_call1_v10,
    val_main_call1_v9, val_main_call1_v8, val_main_call1_v7, val_main_call1_v6, val_main_call1_v5, val_main_call1_v4, val_main_call1_v3,
    val_main_call1_v2, val_main_call1_v1, val_main_call1_v0, val_main_call1_cst, val_main_v19]
  rw [if_neg (not_not.mpr rfl)]
  show -Ideal.exp (-(max (-val_main_v18 x0 x1 x2 x3 (ix2 n i)) 0 + Ideal.log1p (Ideal.exp
    (-(max (-val_main_v18 x0 x1 x2 x3 (ix2 n i)) (- -val_main_v18 x0 x1 x2 x3 (ix2 n i)))))) - _) = _
  rw [neg_neg, max_comm (-val_main_v18 x0 x1 x2 x3 (ix2 n i)) (val_main_v18 x0 x1 x2 x3 (ix2 n i))]

theorem v33_apply (n : Fin 16896) (i : Fin 512) :
    val_main_v33 (F := Ideal) x0 x1 x4 x5 (ix2 n i) = (input x0 x1 x2 x3 x4 x5 x6 x7 x8 x9).forget n i := by
  unfold Input.forget rate colA Ideal.logistic
  simp only [← v7_apply]
  pointwise [val_main_v33, val_main_v32, val_main_v31, val_main_v30, val_main_v29, val_main_v28, val_main_v27, val_main_v26, val_main_v25,
    val_main_v24, val_main_v12, val_main_cst_0, val_main_cst_1]
  rfl

theorem v40_apply (n : Fin 16896) (i : Fin 512) :
    val_main_v40 (F := Ideal) x0 x1 x6 (ix2 n i) = (input x0 x1 x2 x3 x4 x5 x6 x7 x8 x9).outGate n i := by
  unfold Input.outGate gate colG Ideal.logistic
  simp only [← v7_apply]
  pointwise [val_main_v40, val_main_v39, val_main_v38, val_main_v37, val_main_v36, val_main_v35, val_main_v34, val_main_v13,
    val_main_cst_2, val_main_cst_3]
  rfl

theorem v43_apply (n : Fin 16896) (i : Fin 512) :
    val_main_v43 (F := Ideal) x0 x1 x7 (ix2 n i) = (input x0 x1 x2 x3 x4 x5 x6 x7 x8 x9).key n i * (input x0 x1 x2 x3 x4 x5 x6 x7 x8 x9).keyScale i := by
  rw [← v9_apply]
  pointwise [val_main_v43, val_main_v42, val_main_v41]
  rfl

theorem v61_apply (n : Fin 16896) (i : Fin 512) :
    val_main_v61 (F := Ideal) x0 x1 x4 x5 x8 (ix2 n i) = (input x0 x1 x2 x3 x4 x5 x6 x7 x8 x9).stored n i := by
  unfold Input.stored written one
  rw [← v9_apply, ← v33_apply]
  pointwise [val_main_v61, val_main_v60, val_main_v59, val_main_v58, val_main_v57, val_main_v56, val_main_v55, val_main_v54,
    val_main_cst_6, val_main_cst_7]
  rfl

/-- Feature `k` of head `a`. -/
theorem v44_apply (n : Fin 16896) (a : Fin 8) (k : Fin 64) :
    val_main_v44 (F := Ideal) x0 x1 x7 (ix3 n a k) = (input x0 x1 x2 x3 x4 x5 x6 x7 x8 x9).key n (inHead a k) * (input x0 x1 x2 x3 x4 x5 x6 x7 x8 x9).keyScale (inHead a k) := by
  rw [← v43_apply, val_main_v44_apply]
  refine congrArg _ ?_
  funext b
  match b with
  | ⟨0, _⟩ => exact Fin.ext (show ((n.val * 8 + a.val) * 64 + k.val) / 512 = n.val by omega)
  | ⟨1, _⟩ => exact Fin.ext (show ((n.val * 8 + a.val) * 64 + k.val) % 512 = a.val * 64 + k.val by omega)

theorem v52_apply (n : Fin 16896) (a : Fin 8) (k : Fin 64) :
    val_main_v52 (F := Ideal) x0 x1 x7 (ix3 n a k) = (input x0 x1 x2 x3 x4 x5 x6 x7 x8 x9).removal headSum n (inHead a k) := by
  unfold Input.removal direction headSum least
  simp only [head_inHead, ← v44_apply]
  pointwise [val_main_v52, val_main_v51, val_main_v50, val_main_v49, val_main_v48, val_main_v47, val_main_v46, val_main_v45, val_main_cst_4, val_main_cst_5]

theorem v53_apply (n : Fin 16896) (i : Fin 512) :
    val_main_v53 (F := Ideal) x0 x1 x7 (ix2 n i) = (input x0 x1 x2 x3 x4 x5 x6 x7 x8 x9).removal headSum n i := by
  rw [val_main_v53_apply]
  have e : idx_main_v53 (ix2 n i) = ix3 n (head i) (⟨i.val % 64, by omega⟩ : Fin 64) := by
    funext b
    match b with
    | ⟨0, _⟩ => exact Fin.ext (show (n.val * 512 + i.val) / 512 = n.val by omega)
    | ⟨1, _⟩ => exact Fin.ext (show (n.val * 512 + i.val) / 64 % 8 = i.val / 64 by omega)
    | ⟨2, _⟩ => exact Fin.ext (show (n.val * 512 + i.val) % 64 = i.val % 64 by omega)
  rw [e, v52_apply]
  refine congrArg _ (Fin.ext ?_)
  show i.val / 64 * 64 + i.val % 64 = i.val
  omega

theorem v62_apply (n : Fin 16896) (a : Fin 8) (k : Fin 64) :
    val_main_v62 (F := Ideal) x0 x1 (ix3 n a k) = (input x0 x1 x2 x3 x4 x5 x6 x7 x8 x9).receptance n (inHead a k) := by
  rw [← v8_apply, val_main_v62_apply]
  refine congrArg _ ?_
  funext b
  match b with
  | ⟨0, _⟩ => exact Fin.ext (show ((n.val * 8 + a.val) * 64 + k.val) / 512 = n.val by omega)
  | ⟨1, _⟩ => exact Fin.ext (show ((n.val * 8 + a.val) * 64 + k.val) % 512 = a.val * 64 + k.val by omega)

theorem v63_apply (n : Fin 16896) (a : Fin 8) (k : Fin 64) :
    val_main_v63 (F := Ideal) x0 x1 x4 x5 x8 (ix3 n a k) = (input x0 x1 x2 x3 x4 x5 x6 x7 x8 x9).stored n (inHead a k) := by
  rw [← v61_apply, val_main_v63_apply]
  refine congrArg _ ?_
  funext b
  match b with
  | ⟨0, _⟩ => exact Fin.ext (show ((n.val * 8 + a.val) * 64 + k.val) / 512 = n.val by omega)
  | ⟨1, _⟩ => exact Fin.ext (show ((n.val * 8 + a.val) * 64 + k.val) % 512 = a.val * 64 + k.val by omega)

theorem v70_apply (n : Fin 16896) (a : Fin 8) (k : Fin 64) :
    val_main_v70 (F := Ideal) x0 x1 (ix3 n a k) = (input x0 x1 x2 x3 x4 x5 x6 x7 x8 x9).value n (inHead a k) := by
  rw [← v10_apply, val_main_v70_apply]
  refine congrArg _ ?_
  funext b
  match b with
  | ⟨0, _⟩ => exact Fin.ext (show ((n.val * 8 + a.val) * 64 + k.val) / 512 = n.val by omega)
  | ⟨1, _⟩ => exact Fin.ext (show ((n.val * 8 + a.val) * 64 + k.val) % 512 = a.val * 64 + k.val by omega)

theorem scale_apply (a : Fin 8) (k : Fin 64) : (input x0 x1 x2 x3 x4 x5 x6 x7 x8 x9).bonusScale (inHead a k) = x9 (ix2 a k) := by
  show x9 (ix2 (head (inHead a k)) (⟨(inHead a k).val % 64, _⟩ : Fin 64)) = _
  rw [head_inHead]
  refine congrArg (fun q => x9 (ix2 a q)) (Fin.ext ?_)
  show (a.val * 64 + k.val) % 64 = k.val
  omega

theorem v72_apply (n : Fin 16896) (a : Fin 8) (k : Fin 64) :
    val_main_v72 (F := Ideal) x0 x1 x4 x5 x8 x9 (ix3 n a k) = (input x0 x1 x2 x3 x4 x5 x6 x7 x8 x9).outBonus headSum n (inHead a k) := by
  unfold Input.outBonus bonus headSum
  simp only [head_inHead, scale_apply]
  rw [← v70_apply]
  simp only [← v62_apply, ← v63_apply]
  pointwise [val_main_v72, val_main_v71, val_main_v69, val_main_v68, val_main_v67, val_main_v66, val_main_v65, val_main_v64, val_main_cst_8]

theorem v73_apply (n : Fin 16896) (i : Fin 512) :
    val_main_v73 (F := Ideal) x0 x1 x4 x5 x8 x9 (ix2 n i) = (input x0 x1 x2 x3 x4 x5 x6 x7 x8 x9).outBonus headSum n i := by
  rw [val_main_v73_apply]
  have e : idx_main_v73 (ix2 n i) = ix3 n (head i) (⟨i.val % 64, by omega⟩ : Fin 64) := by
    funext b
    match b with
    | ⟨0, _⟩ => exact Fin.ext (show (n.val * 512 + i.val) / 512 = n.val by omega)
    | ⟨1, _⟩ => exact Fin.ext (show (n.val * 512 + i.val) / 64 % 8 = i.val / 64 by omega)
    | ⟨2, _⟩ => exact Fin.ext (show (n.val * 512 + i.val) % 64 = i.val % 64 by omega)
  rw [e, v72_apply]
  refine congrArg _ (Fin.ext ?_)
  show i.val / 64 * 64 + i.val % 64 = i.val
  omega

/-- A sum from the left is the sum. -/
theorem foldl_sum (m : Nat) (g : Fin m → EReal) : (List.finRange m).foldl (fun r n => r + g n) 0 = ∑ n, g n := by
  rw [Fin.sum_univ_def, List.sum_eq_foldl, List.foldl_map]

/-- The positions of the window: one row of 64. -/
def windowAt (k : Fin 64) : (⟨3, ![1, 64, 1]⟩ : Shape).Idx := fun a => match a with
  | ⟨0, _⟩ => ⟨0, Nat.one_pos⟩
  | ⟨1, _⟩ => k
  | ⟨2, _⟩ => ⟨0, Nat.one_pos⟩

def windowEquiv : Fin 64 ≃ (⟨3, ![1, 64, 1]⟩ : Shape).Idx where
  toFun := windowAt
  invFun w := w 1
  left_inv _ := rfl
  right_inv w := by
    funext a
    match a with
    | ⟨0, h⟩ => exact (Fin.ext (show 0 = (w ⟨0, h⟩).val from by have : (w ⟨0, h⟩).val < 1 := (w ⟨0, h⟩).isLt; omega))
    | ⟨1, _⟩ => rfl
    | ⟨2, h⟩ => exact (Fin.ext (show 0 = (w ⟨2, h⟩).val from by have : (w ⟨2, h⟩).val < 1 := (w ⟨2, h⟩).isLt; omega))

theorem window_apply (x : S264x64x512.Idx → EReal) (v : S_.Idx → EReal) (h) (hu : 0 < S_.numel) (hv : v (Shape.Idx.first hu) = 0)
    (a : Fin 264) (b : Fin 64) (i : Fin 512) :
    Host.reduceWindow (s := S264x64x512) (t := S264x64x512) (u := S_) (· + ·) ![1, 64, 1] ![1, 1, 1] ![0, 63, 0] ![0, 0, 0] x v h hu (ix3 a b i)
      = ∑ k : Fin 64, if k.val ≤ b.val then x (ix3 a k i) else 0 := by
  unfold Host.reduceWindow
  dsimp only
  rw [hv, foldl_sum, ← (windowEquiv.trans (⟨3, ![1, 64, 1]⟩ : Shape).rowMajor).sum_comp]
  have e : ∀ k : Fin 64, (⟨3, ![1, 64, 1]⟩ : Shape).rowMajor.symm ((windowEquiv.trans (⟨3, ![1, 64, 1]⟩ : Shape).rowMajor) k) = windowAt k :=
    fun k => Equiv.symm_apply_apply _ _
  have e2 : ∀ k : Fin 64, (if hin : ∀ c : Fin 3, (![0, 63, 0] : Fin 3 → Nat) c ≤ ((ix3 a b i : S264x64x512.Idx) c).val * (![1, 1, 1] : Fin 3 → Nat) c + (windowAt k c).val
        ∧ ((ix3 a b i : S264x64x512.Idx) c).val * (![1, 1, 1] : Fin 3 → Nat) c + (windowAt k c).val - (![0, 63, 0] : Fin 3 → Nat) c < S264x64x512.size c
      then x (fun c => ⟨((ix3 a b i : S264x64x512.Idx) c).val * (![1, 1, 1] : Fin 3 → Nat) c + (windowAt k c).val - (![0, 63, 0] : Fin 3 → Nat) c, (hin c).2⟩) else 0)
      = if h : 63 ≤ b.val + k.val then x (ix3 a (⟨b.val + k.val - 63, by omega⟩ : Fin 64) i) else 0 := by
    intro k
    by_cases hk : 63 ≤ b.val + k.val
    · rw [dif_pos hk, dif_pos]
      · refine congrArg x ?_
        funext c
        match c with
        | ⟨0, _⟩ => exact Fin.ext (show a.val * 1 + 0 - 0 = a.val by omega)
        | ⟨1, _⟩ => exact Fin.ext (show b.val * 1 + k.val - 63 = b.val + k.val - 63 by omega)
        | ⟨2, _⟩ => exact Fin.ext (show i.val * 1 + 0 - 0 = i.val by omega)
      · intro c
        match c with
        | ⟨0, _⟩ => exact ⟨Nat.zero_le _, show a.val * 1 + 0 - 0 < 264 by omega⟩
        | ⟨1, _⟩ => exact ⟨show 63 ≤ b.val * 1 + k.val by omega, show b.val * 1 + k.val - 63 < 64 by omega⟩
        | ⟨2, _⟩ => exact ⟨Nat.zero_le _, show i.val * 1 + 0 - 0 < 512 by omega⟩
    · rw [dif_neg hk, dif_neg]
      intro hc
      have := (hc 1).1
      change 63 ≤ b.val * 1 + k.val at this
      omega
  refine (Finset.sum_congr rfl fun k _ => (?_ : _ = if h : 63 ≤ b.val + k.val then x (ix3 a (⟨b.val + k.val - 63, by omega⟩ : Fin 64) i) else 0)).trans ?_
  · rw [← e2 k]
    simp only [e]
    rfl
  · have f1 : ∀ k : Fin 64, (if h : 63 ≤ b.val + k.val then x (ix3 a (⟨b.val + k.val - 63, by omega⟩ : Fin 64) i) else 0)
        = (if 63 ≤ b.val + k.val then x (ix3 a (⟨(b.val + k.val - 63) % 64, Nat.mod_lt _ (by decide)⟩ : Fin 64) i) else 0) := by
      intro k
      split
      · refine congrArg (fun q => x (ix3 a q i)) (Fin.ext ?_)
        show b.val + k.val - 63 = (b.val + k.val - 63) % 64
        omega
      · rfl
    simp only [f1]
    rw [← Finset.sum_filter, ← Finset.sum_filter]
    refine Finset.sum_nbij' (fun k => ⟨(b.val + k.val - 63) % 64, Nat.mod_lt _ (by decide)⟩) (fun k => ⟨(63 + k.val - b.val) % 64, Nat.mod_lt _ (by decide)⟩) ?_ ?_ ?_ ?_ ?_
    · intro k hk
      simp only [Finset.mem_filter, Finset.mem_univ, true_and] at hk ⊢
      omega
    · intro k hk
      simp only [Finset.mem_filter, Finset.mem_univ, true_and] at hk ⊢
      omega
    · intro k hk
      simp only [Finset.mem_filter, Finset.mem_univ, true_and] at hk
      refine Fin.ext ?_
      dsimp only
      omega
    · intro k hk
      simp only [Finset.mem_filter, Finset.mem_univ, true_and] at hk
      refine Fin.ext ?_
      dsimp only
      omega
    · intro k hk
      rfl

/-- The decays summed within a chunk. -/
theorem v77_apply (a : Fin 264) (b : Fin 64) (i : Fin 512) :
    val_main_v77 (F := Ideal) x0 x1 x2 x3 (ix3 a b i) = (input x0 x1 x2 x3 x4 x5 x6 x7 x8 x9).total ⟨a.val * 64 + b.val, by omega⟩ i := by
  have e : ∀ k : Fin 64, val_main_v76 (F := Ideal) x0 x1 x2 x3 (ix3 a k i) = (input x0 x1 x2 x3 x4 x5 x6 x7 x8 x9).decay ⟨a.val * 64 + k.val, by omega⟩ i := by
    intro k
    rw [← v75_apply, val_main_v76_apply]
    refine congrArg _ ?_
    funext c
    match c with
    | ⟨0, _⟩ => exact Fin.ext (show ((a.val * 64 + k.val) * 512 + i.val) / 512 = a.val * 64 + k.val by omega)
    | ⟨1, _⟩ => exact Fin.ext (show ((a.val * 64 + k.val) * 512 + i.val) % 512 = i.val by omega)
  refine (window_apply (val_main_v76 (F := Ideal) x0 x1 x2 x3) (val_main_call2_call0_v0 (F := Ideal))
    reduceWindows_S264x64x512_S264x64x512_w1s1p0_0_w64s1p63_0_w1s1p0_0 h_S_ ?_ a b i).trans ?_
  · rw [val_main_call2_call0_v0_apply, val_main_call2_call0_cst_apply]
    exact zero_eq
  · unfold Input.total upTo
    have d : (a.val * 64 + b.val) / 64 = a.val := by omega
    have d2 : (a.val * 64 + b.val) % 64 = b.val := by omega
    simp only [e, d, d2]

theorem v78_apply (n : Fin 16896) (i : Fin 512) :
    val_main_v78 (F := Ideal) x0 x1 x2 x3 (ix2 n i) = (input x0 x1 x2 x3 x4 x5 x6 x7 x8 x9).total n i := by
  rw [val_main_v78_apply]
  have e : idx_main_v78 (ix2 n i) = ix3 (⟨n.val / 64, by omega⟩ : Fin 264) (⟨n.val % 64, by omega⟩ : Fin 64) i := by
    funext c
    match c with
    | ⟨0, _⟩ => exact Fin.ext (show (n.val * 512 + i.val) / 32768 = n.val / 64 by omega)
    | ⟨1, _⟩ => exact Fin.ext (show (n.val * 512 + i.val) / 512 % 64 = n.val % 64 by omega)
    | ⟨2, _⟩ => exact Fin.ext (show (n.val * 512 + i.val) % 512 = i.val by omega)
  rw [e, v77_apply]
  refine congrArg (fun q => (input x0 x1 x2 x3 x4 x5 x6 x7 x8 x9).total q i) (Fin.ext ?_)
  show n.val / 64 * 64 + n.val % 64 = n.val
  omega

theorem v85_apply (n : Fin 16896) (i : Fin 512) :
    val_main_v85 (F := Ideal) x0 x1 x2 x3 x7 (ix2 n i) = (input x0 x1 x2 x3 x4 x5 x6 x7 x8 x9).outAt headSum n i := by
  unfold Input.outAt
  rw [← v53_apply, ← v78_apply, ← v75_apply]
  pointwise [val_main_v85, val_main_v84, val_main_v83, val_main_v82, val_main_v81]

theorem v90_apply (n : Fin 16896) (i : Fin 512) :
    val_main_v90 (F := Ideal) x0 x1 x2 x3 x4 x5 x7 (ix2 n i) = (input x0 x1 x2 x3 x4 x5 x6 x7 x8 x9).outBt headSum n i := by
  unfold Input.outBt
  rw [← v53_apply, ← v33_apply, ← v78_apply]
  pointwise [val_main_v90, val_main_v89, val_main_v88, val_main_v87, val_main_v86]

theorem v94_apply (n : Fin 16896) (i : Fin 512) :
    val_main_v94 (F := Ideal) x0 x1 x2 x3 x4 x5 x8 (ix2 n i) = (input x0 x1 x2 x3 x4 x5 x6 x7 x8 x9).outKt n i := by
  unfold Input.outKt
  rw [← v61_apply, ← v78_apply]
  pointwise [val_main_v94, val_main_v93, val_main_v92, val_main_v91]

theorem v97_apply (n : Fin 16896) (i : Fin 512) :
    val_main_v97 (F := Ideal) x0 x1 x2 x3 (ix2 n i) = (input x0 x1 x2 x3 x4 x5 x6 x7 x8 x9).outRt n i := by
  unfold Input.outRt
  rw [← v8_apply, ← v78_apply]
  pointwise [val_main_v97, val_main_v96, val_main_v95]

theorem v98_apply (n : Fin 16896) (i : Fin 512) : val_main_v98 (F := Ideal) x0 x1 (ix2 n i) = (input x0 x1 x2 x3 x4 x5 x6 x7 x8 x9).value n i := by
  rw [← v10_apply]
  pointwise [val_main_v98]

theorem v99_apply (a : Fin 264) (i : Fin 512) :
    val_main_v99 (F := Ideal) x0 x1 x2 x3 (ix3 a (0 : Fin 1) i) = (input x0 x1 x2 x3 x4 x5 x6 x7 x8 x9).outChunk ⟨a.val * 64 + 63, by omega⟩ i := by
  unfold Input.outChunk
  have e : val_main_v79 (F := Ideal) x0 x1 x2 x3 (ix3 a (63 : Fin 64) i) = (input x0 x1 x2 x3 x4 x5 x6 x7 x8 x9).total ⟨a.val * 64 + 63, by omega⟩ i := by
    rw [← v78_apply, val_main_v79_apply]
    refine congrArg _ ?_
    funext c
    match c with
    | ⟨0, _⟩ => exact Fin.ext (show ((a.val * 64 + 63) * 512 + i.val) / 512 = a.val * 64 + 63 by omega)
    | ⟨1, _⟩ => exact Fin.ext (show ((a.val * 64 + 63) * 512 + i.val) % 512 = i.val by omega)
  rw [← e]
  pointwise [val_main_v99, val_main_v80]

end Cert.Reference5Ideal.Mix

end
-- ==== Proof.MixEquation.lean ====
/- The first call of the RWKV-7 mixing: the kernel's result arrays are the reference's when what the receptance, the key, the scales
   of the key and of the bonus are made of is finite. -/
module

public import proofs.«01_k».proof.Proof.MixValue
public import proofs.«01_k».proof.Proof.MixRef
public import proofs.«01_k».proof.Proof.MergeEquation
public import proofs.«01_k».proof.Pre_finite_mix

@[expose] public section

set_option maxRecDepth 16384

noncomputable section

namespace Cert.Mix

open Idealize.ShloMosaic Idealize.ShloMosaic.TcCoe Cert.Merge

theorem pre_facts : Cert.Pre_finite_mix.Facts :=
  ⟨by decide, by decide, by decide, by decide, by decide, by decide, by decide, by decide⟩

/-! The real numbers among the extended ones, under the operations used here. -/

theorem real_add {a b : EReal} (ha : ∃ r : ℝ, a = r) (hb : ∃ r : ℝ, b = r) : ∃ r : ℝ, a + b = r := by
  obtain ⟨a, rfl⟩ := ha
  obtain ⟨b, rfl⟩ := hb
  exact ⟨a + b, (EReal.coe_add a b).symm⟩
theorem real_sub {a b : EReal} (ha : ∃ r : ℝ, a = r) (hb : ∃ r : ℝ, b = r) : ∃ r : ℝ, a - b = r := by
  obtain ⟨a, rfl⟩ := ha
  obtain ⟨b, rfl⟩ := hb
  exact ⟨a - b, (EReal.coe_sub a b).symm⟩
theorem real_mul {a b : EReal} (ha : ∃ r : ℝ, a = r) (hb : ∃ r : ℝ, b = r) : ∃ r : ℝ, a * b = r := by
  obtain ⟨a, rfl⟩ := ha
  obtain ⟨b, rfl⟩ := hb
  exact ⟨a * b, (EReal.coe_mul a b).symm⟩
theorem real_one : ∃ r : ℝ, one = r := ⟨1, one_eq⟩
theorem real_logistic (z : EReal) : ∃ r : ℝ, Ideal.logistic z = r := by
  induction z using EReal.rec with
  | bot => exact ⟨0, Ideal.logistic_bot⟩
  | top => exact ⟨1, Ideal.logistic_top⟩
  | coe x => exact ⟨_, Ideal.logistic_coe x⟩

/-- What has to be finite: the tokens' and the shares' columns of the receptance and the key, and the scales. -/
structure Input.Finite (I : Input) : Prop where
  tokens : ∀ n (j : Fin 1024), ∃ r : ℝ, I.tokens n ⟨j.val, by omega⟩ = r
  share : ∀ j : Fin 1024, ∃ r : ℝ, I.share ⟨j.val, by omega⟩ = r
  keyScale : ∀ i, ∃ r : ℝ, I.keyScale i = r
  rateScale : ∀ i, ∃ r : ℝ, I.rateScale i = r
  bonusScale : ∀ i, ∃ r : ℝ, I.bonusScale i = r

namespace Input
variable {I : Input} (h : I.Finite) (n : Fin 16896)
include h

theorem token_real (j : Fin 1024) : ∃ r : ℝ, I.token n ⟨j.val, by omega⟩ = r := by
  unfold token shifted before
  refine real_add (h.tokens n j) (real_mul (real_sub ?_ (h.tokens n j)) (h.share j))
  split
  · exact ⟨0, rfl⟩
  · exact h.tokens _ j
theorem receptance_real (i : Fin 512) : ∃ r : ℝ, I.receptance n i = r := token_real h n ⟨i.val, by omega⟩
theorem key_real (i : Fin 512) : ∃ r : ℝ, I.key n i = r := token_real h n ⟨512 + i.val, by omega⟩
theorem stored_real (i : Fin 512) : ∃ r : ℝ, I.stored n i = r := by
  unfold stored written
  exact real_mul (key_real h n i) (real_add real_one (real_mul (real_sub (real_logistic _) real_one) (h.rateScale i)))

theorem removal_eq : I.removal splitSum n = I.removal headSum n := by
  unfold removal direction
  rw [splitSum_eq]
  intro i
  exact real_mul (real_mul (key_real h n i) (h.keyScale i)) (real_mul (key_real h n i) (h.keyScale i))
theorem outAt_eq : I.outAt splitSum n = I.outAt headSum n := by
  unfold outAt
  rw [removal_eq h]
theorem outBt_eq : I.outBt splitSum n = I.outBt headSum n := by
  unfold outBt
  rw [removal_eq h]
theorem outBonus_eq : I.outBonus splitSum n = I.outBonus headSum n := by
  unfold outBonus bonus
  rw [splitSum_eq]
  intro i
  exact real_mul (real_mul (receptance_real h n i) (stored_real h n i)) (h.bonusScale i)
end Input

end Cert.Mix

namespace Cert.Mix
open Idealize.ShloMosaic Idealize.ShloMosaic.TcCoe Cert.Merge Cert.Pre_finite_mix

theorem both : ∀ a b : BitVec 1, IntOp.andi a b = 1#1 → a = 1#1 ∧ b = 1#1 := by decide

theorem real_of_bit (v : EReal) (h : BitVec.ofBool (decide (max v (-v) < (FloatOps.ofBits (F := Ideal) .f32 0x7F800000#32 : EReal))) = 1#1) : ∃ r : ℝ, v = r := by
  rw [Cert.Equation.ofBits_inf] at h
  refine real_of_lt v ?_
  by_contra hn
  rw [decide_eq_false hn] at h
  exact absurd h (by decide)

section Precondition
variable [Facts] (x0 : (⟨S4x4224x1792, .f32⟩ : BufTy).Contents (Elt Ideal)) (x1 : (⟨S1792, .f32⟩ : BufTy).Contents (Elt Ideal))
  (x2 : (⟨S512, .f32⟩ : BufTy).Contents (Elt Ideal)) (x3 : (⟨S64x512, .f32⟩ : BufTy).Contents (Elt Ideal))
  (x4 : (⟨S512, .f32⟩ : BufTy).Contents (Elt Ideal)) (x5 : (⟨S64x512, .f32⟩ : BufTy).Contents (Elt Ideal))
  (x6 : (⟨S128x512, .f32⟩ : BufTy).Contents (Elt Ideal)) (x7 x8 : (⟨S512, .f32⟩ : BufTy).Contents (Elt Ideal))
  (x9 : (⟨S8x64, .f32⟩ : BufTy).Contents (Elt Ideal))

/-- The two scales side by side. -/
def scales (a b : FVec Ideal S512 .f32) : FVec Ideal S1024 .f32 := concatenate S1024 0 [⟨S512, a⟩, ⟨S512, b⟩] Facts.concatenates_S512_S512_S1024_d0

theorem scales_left (a b : FVec Ideal S512 .f32) (i : Fin 512) : scales a b (ix1 (⟨i.val, by omega⟩ : Fin 1024)) = a (ix1 i) := by
  pointwise [scales]
theorem scales_right (a b : FVec Ideal S512 .f32) (i : Fin 512) : scales a b (ix1 (⟨512 + i.val, by omega⟩ : Fin 1024)) = b (ix1 i) := by
  pointwise [scales]

variable (h : fn (F := Ideal) x0 x1 x2 x3 x4 x5 x6 x7 x8 x9 = fun _ => 1#1)
include h

theorem bits (b : Fin 4) (l : Fin 4224) (j : Fin 1024) :
    (∃ r : ℝ, x0 (ix3 b l (⟨j.val, by omega⟩ : Fin 1792)) = r) ∧ (∃ r : ℝ, x1 (ix1 (⟨j.val, by omega⟩ : Fin 1792)) = r)
      ∧ (∃ r : ℝ, scales x7 x8 (ix1 j) = r)
      ∧ ∃ r : ℝ, scales (shapeCast S512 x9 Facts.shapeCasts_S8x64_S512) (shapeCast S512 x9 Facts.shapeCasts_S8x64_S512) (ix1 j) = r := by
  have h' := congrFun h (ix3 b l j)
  unfold fn fn_part1 at h'
  obtain ⟨h18, h24⟩ := both _ _ h'
  obtain ⟨h11, h17⟩ := both _ _ h18
  obtain ⟨h4, h10⟩ := both _ _ h11
  refine ⟨real_of_bit _ ?_, real_of_bit _ ?_, real_of_bit _ ?_, real_of_bit _ ?_⟩
  · refine Eq.trans ?_ h4
    pointwise
    rfl
  · refine Eq.trans ?_ h10
    pointwise
    rfl
  · refine Eq.trans ?_ h17
    pointwise [scales]
    rfl
  · refine Eq.trans ?_ h24
    pointwise [scales]
    rfl

theorem finite : (Cert.Reference5Ideal.Mix.input x0 x1 x2 x3 x4 x5 x6 x7 x8 x9).Finite where
  tokens n j := (bits x0 x1 x2 x3 x4 x5 x6 x7 x8 x9 h _ _ j).1
  share j := (bits x0 x1 x2 x3 x4 x5 x6 x7 x8 x9 h 0 0 j).2.1
  keyScale i := by
    have e := (bits x0 x1 x2 x3 x4 x5 x6 x7 x8 x9 h 0 0 ⟨i.val, by omega⟩).2.2.1
    rw [scales_left] at e
    exact e
  rateScale i := by
    have e := (bits x0 x1 x2 x3 x4 x5 x6 x7 x8 x9 h 0 0 ⟨512 + i.val, by omega⟩).2.2.1
    rw [scales_right] at e
    exact e
  bonusScale i := by
    have e := (bits x0 x1 x2 x3 x4 x5 x6 x7 x8 x9 h 0 0 ⟨i.val, by omega⟩).2.2.2
    rw [scales_left] at e
    have e' : (shapeCast S512 x9 Facts.shapeCasts_S8x64_S512 : FVec Ideal S512 .f32) (ix1 i) = x9 (ix2 (head i) (⟨i.val % 64, by omega⟩ : Fin 64)) := by
      pointwise [head]
    rw [e'] at e
    exact e
end Precondition

end Cert.Mix

namespace Cert.Kernel5Ideal.Mix

open Idealize.ShloMosaic Idealize.ShloMosaic.TcCoe Cert.Kernel5Ideal Cert.Kernel5Ideal.Gen Cert.Merge Cert.Mix
open Cert.Reference5Ideal.Read

variable (m : (ℓ : Loc nD τ sig) → Buf (Elt Ideal) ℓ) (c : Dev nD)

theorem main_v0_host : V m c main_v0 = (shapeCast S16896x1792 (m ((c : Thread nD τ).loc main_arg0) : FVec Ideal S4x4224x1792 .f32) shapeCasts_S4x4224x1792_S16896x1792 : FVec Ideal S16896x1792 .f32) := by
  entry_read
  rfl

theorem tokens_host : (fun (n : Fin 16896) (j : Fin 1792) => V m c main_v0 (ix2 n j)) = fun n j =>
    (m ((c : Thread nD τ).loc main_arg0) : FVec Ideal S4x4224x1792 .f32) (ix3 (⟨n.val / 4224, by omega⟩ : Fin 4) (⟨n.val % 4224, by omega⟩ : Fin 4224) j) := by
  funext n j
  rw [main_v0_host]
  refine shapeCast_apply _ shapeCasts_S4x4224x1792_S16896x1792 (ix2 n j) (ix3 (⟨n.val / 4224, by omega⟩ : Fin 4) (⟨n.val % 4224, by omega⟩ : Fin 4224) j) ?_
  rw [Shape.rowMajor_val_three, Shape.rowMajor_val_two]
  show (n.val / 4224 * 4224 + n.val % 4224) * 1792 + j.val = n.val * 1792 + j.val
  omega

/-- The kernel and the reference are given the same. -/
theorem input_eq : input m c = Cert.Reference5Ideal.Mix.input (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) := by
  unfold input Cert.Reference5Ideal.Mix.input
  rw [tokens_host]

/-! The results of the kernel are the reference's. -/

theorem equation12 (hf : (input m c).Finite) : result12 m c = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  funext i
  have hi : i = ix2 (i 0) (i 1) := by funext k; fin_cases k <;> rfl
  refine Eq.trans ?_ (congrArg _ hi).symm
  refine Eq.trans ?_ (Cert.Reference5Ideal.Mix.v85_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)).symm
  rw [← input_eq m c]
  exact congrFun (Input.outAt_eq hf (i 0)) (i 1)

theorem equation13 (hf : (input m c).Finite) : result13 m c = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  funext i
  have hi : i = ix2 (i 0) (i 1) := by funext k; fin_cases k <;> rfl
  refine Eq.trans ?_ (congrArg _ hi).symm
  refine Eq.trans ?_ (Cert.Reference5Ideal.Mix.v90_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)).symm
  rw [← input_eq m c]
  exact congrFun (Input.outBt_eq hf (i 0)) (i 1)

theorem equation14 : result14 m c = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  funext i
  have hi : i = ix2 (i 0) (i 1) := by funext k; fin_cases k <;> rfl
  refine Eq.trans ?_ (congrArg _ hi).symm
  refine Eq.trans ?_ (Cert.Reference5Ideal.Mix.v94_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)).symm
  rw [← input_eq m c]
  rfl

theorem equation15 : result15 m c = val_main_v97 (F := Ideal) (m ((c : Thread nD τ).loc main_arg0)) (m ((c : Thread nD τ).loc main_arg1)) (m ((c : Thread nD τ).loc main_arg2)) (m ((c : Thread nD τ).loc main_arg3)) := by
  funext i
  have hi : i = ix2 (i 0) (i 1) := by funext k; fin_cases k <;> rfl
  refine Eq.trans ?_ (congrArg _ hi).symm
  refine Eq.trans ?_ (Cert.Reference5Ideal.Mix.v97_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)).symm
  rw [← input_eq m c]
  rfl

theorem equation16 : result16 m c = val_main_v98 (F := Ideal) (m ((c : Thread nD τ).loc main_arg0)) (m ((c : Thread nD τ).loc main_arg1)) := by
  funext i
  have hi : i = ix2 (i 0) (i 1) := by funext k; fin_cases k <;> rfl
  refine Eq.trans ?_ (congrArg _ hi).symm
  refine Eq.trans ?_ (Cert.Reference5Ideal.Mix.v98_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)).symm
  rw [← input_eq m c]
  rfl

theorem equation17 : result17 m c = val_main_v99 (F := Ideal) (m ((c : Thread nD τ).loc main_arg0)) (m ((c : Thread nD τ).loc main_arg1)) (m ((c : Thread nD τ).loc main_arg2)) (m ((c : Thread nD τ).loc main_arg3)) := by
  funext i
  have hi : i = ix3 (i 0) (0 : Fin 1) (i 2) := by
    funext k
    fin_cases k
    · rfl
    · exact Subsingleton.elim (α := Fin 1) _ _
    · rfl
  refine Eq.trans ?_ (congrArg _ hi).symm
  refine Eq.trans ?_ (Cert.Reference5Ideal.Mix.v99_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 2)).symm
  rw [← input_eq m c]
  rfl

theorem equation18 (hf : (input m c).Finite) : result18 m c = val_main_v73 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) := by
  funext i
  have hi : i = ix2 (i 0) (i 1) := by funext k; fin_cases k <;> rfl
  refine Eq.trans ?_ (congrArg _ hi).symm
  refine Eq.trans ?_ (Cert.Reference5Ideal.Mix.v73_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)).symm
  rw [← input_eq m c]
  exact congrFun (Input.outBonus_eq hf (i 0)) (i 1)

theorem equation19 : result19 m c = val_main_v40 (F := Ideal) (m ((c : Thread nD τ).loc main_arg0)) (m ((c : Thread nD τ).loc main_arg1)) (m ((c : Thread nD τ).loc main_arg6)) := by
  funext i
  have hi : i = ix2 (i 0) (i 1) := by funext k; fin_cases k <;> rfl
  refine Eq.trans ?_ (congrArg _ hi).symm
  refine Eq.trans ?_ (Cert.Reference5Ideal.Mix.v40_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)).symm
  rw [← input_eq m c]
  rfl

end Cert.Kernel5Ideal.Mix

end
-- ==== Proof.MixKernel.lean ====
/- The first call of the RWKV-7 mixing over the words: the program there has the text of the one over the extended reals, so that its run is the run already written, at the words. -/
module

public import proofs.«01_k».proof.Defs
public import proofs.«01_k».proof.Proof.Gen.Kernel5
public import proofs.«01_k».proof.Proof.MixFrame

@[expose] public section

set_option maxRecDepth 16384

noncomputable section

namespace Cert.Kernel5.Mix

open Idealize.ShloMosaic Idealize.ShloMosaic.TcCoe Idealize.SL.Sem

set_option maxHeartbeats 6000000 in
/-- The two programs' host texts are the same. -/
theorem main_eq : Cert.Kernel5.main (F := Bits) = Cert.Kernel5Ideal.main (F := Bits) := rfl

set_option maxHeartbeats 6000000 in
/-- The two programs' tables of functions are the same. -/
theorem defs_eq : Cert.Kernel5.defs (F := Bits) = Cert.Kernel5Ideal.defs (F := Bits) :=
  congrArg (Pipeline.defs Cert.Kernel5Ideal.pcfgs) (by
    unfold Cert.Kernel5.defs₀ Cert.Kernel5Ideal.defs₀
    refine congrArg Defs.onTc ?_
    funext l p
    match l, p with
    | 0, (t, s) => rfl
    | ⟨_ + 1, h⟩, _ => exact absurd h (Nat.not_lt.2 (Nat.le_add_left _ _)))

set_option maxHeartbeats 6000000 in
/-- The call runs to its end over the words and leaves nothing in flight. -/
theorem frame : Cert.quiescent_Kernel5 := fun m ρ _ => by
  rw [main_eq, defs_eq]
  exact Cert.Kernel5Ideal.Gen.frame (F := Bits) m ρ

end Cert.Kernel5.Mix

end
-- ==== Proof.lean ====
/- The certificate: the frames of the programs of the five calls, and the equality of each call's results with its reference's. -/
module
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Equation
public import proofs.«01_k».proof.Proof.InputNorm
public import proofs.«01_k».proof.Proof.ProjectionRef
public import proofs.«01_k».proof.Proof.MergeEquation
public import proofs.«01_k».proof.Proof.MixEquation
public import proofs.«01_k».proof.Proof.MixKernel
public import Idealize.ShloMosaic.Adequacy
public import Idealize.ShloMosaic.Init
@[expose] public section
set_option maxRecDepth 16384
noncomputable section
namespace Cert.Proof
open Idealize.ShloMosaic Idealize.ShloMosaic.TcCoe Idealize.SL.Sem Cert.Kernel

/-- The reference leaves its arguments as they were and every counter at zero, from any memory. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
          r.2.mem ((c.tc : Thread Cert.ReferenceIdeal.nD Cert.ReferenceIdeal.τ).loc Cert.ReferenceIdeal.main_arg0) = m ((c.tc : Thread _ _).loc Cert.ReferenceIdeal.main_arg0)
          ∧ r.2.mem ((c.tc : Thread Cert.ReferenceIdeal.nD Cert.ReferenceIdeal.τ).loc Cert.ReferenceIdeal.main_arg1) = m ((c.tc : Thread _ _).loc Cert.ReferenceIdeal.main_arg1)
          ∧ r.2.mem ((c.tc : Thread Cert.ReferenceIdeal.nD Cert.ReferenceIdeal.τ).loc Cert.ReferenceIdeal.main_arg2) = m ((c.tc : Thread _ _).loc Cert.ReferenceIdeal.main_arg2)
          ∧ r.2.mem ((c.tc : Thread Cert.ReferenceIdeal.nD Cert.ReferenceIdeal.τ).loc Cert.ReferenceIdeal.main_arg3) = m ((c.tc : Thread _ _).loc Cert.ReferenceIdeal.main_arg3)
          ∧ r.2.mem ((c.tc : Thread Cert.ReferenceIdeal.nD Cert.ReferenceIdeal.τ).loc Cert.ReferenceIdeal.main_arg4) = m ((c.tc : Thread _ _).loc Cert.ReferenceIdeal.main_arg4)
          ∧ r.2.mem ((c.tc : Thread Cert.ReferenceIdeal.nD Cert.ReferenceIdeal.τ).loc Cert.ReferenceIdeal.main_arg5) = m ((c.tc : Thread _ _).loc Cert.ReferenceIdeal.main_arg5)
          ∧ r.2.mem ((c.tc : Thread Cert.ReferenceIdeal.nD Cert.ReferenceIdeal.τ).loc Cert.ReferenceIdeal.main_arg6) = m ((c.tc : Thread _ _).loc Cert.ReferenceIdeal.main_arg6)
          ∧ r.2.mem ((c.tc : Thread Cert.ReferenceIdeal.nD Cert.ReferenceIdeal.τ).loc Cert.ReferenceIdeal.main_arg7) = m ((c.tc : Thread _ _).loc Cert.ReferenceIdeal.main_arg7))
        ∧ r.2.sem = fun _ => 0) :=
  (θ_run (Cert.ReferenceIdeal.defs (F := Ideal)) _ _).mono (fun r h => ⟨fun c => (h c).2,
      Idealize.ShloMosaic.sem_eq_zero_of_no_sems (by decide) r.2⟩)
    (Cert.ReferenceIdeal.Value.run (F := Ideal) m ρ)

/-- On equal arguments, the router's weights finite, the kernel and the reference end with the same array. -/
theorem algebraic [Cert.Pre_finite_router.Facts] : Cert.algebraic_KernelIdeal_ReferenceIdeal_pre_finite_router := by
  intro m ρ m' ρ' hpre hagree
  refine ⟨fun c => Cert.KernelIdeal.Value.G8 m c, Cert.KernelIdeal.Value.run m ρ, ?_⟩
  refine (θ_run (Cert.ReferenceIdeal.defs (F := Ideal)) _ _).mono (fun r h c => ⟨?_, (h c).2⟩)
    (Cert.ReferenceIdeal.Value.run (F := Ideal) m' ρ')
  refine (h c).1.trans ((Cert.ReferenceIdeal.Read.val_main_v78_eq (F := Ideal) _).trans ?_)
  obtain ⟨h0, h1, h2, h3, h4, h5, h6, h7⟩ := hagree c
  have hw : ∀ k e, ¬Cert.Moe.Inf (Cert.KernelIdeal.Moe.router m c k e) := Cert.Equation.router_finite _ _ _ _ _ _ _ _ (hpre c)
  refine Eq.trans ?_ (Cert.Equation.equation m c hw).symm
  show Cert.ReferenceIdeal.Read.val_main_v78 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7)) = _
  rw [h0, h1, h2, h3, h4, h5, h6, h7]

/-- The reference of the projections leaves its arguments as they were and every counter at zero, from any memory. -/
theorem reference2_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
          r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
        ∧ r.2.sem = fun _ => 0) :=
  (θ_run (Cert.Reference2Ideal.defs (F := Ideal)) _ _).mono (fun r h => ⟨fun c => (h c).2.2.2.2,
      Idealize.ShloMosaic.sem_eq_zero_of_no_sems (by decide) r.2⟩)
    (Cert.Reference2Ideal.Value.run (F := Ideal) m ρ)

/-- The reference of the merge of the branches leaves its arguments as they were and every counter at zero, from any memory. -/
theorem reference3_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
          r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
        ∧ r.2.sem = fun _ => 0) :=
  (θ_run (Cert.Reference3Ideal.defs (F := Ideal)) _ _).mono (fun r h => ⟨fun c => (h c).2,
      Idealize.ShloMosaic.sem_eq_zero_of_no_sems (by decide) r.2⟩)
    (Cert.Reference3Ideal.Value.run (F := Ideal) m ρ)

/-- The reference of the input normalisation leaves its arguments as they were and every counter at zero, from any memory. -/
theorem reference4_frame (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
          r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
        ∧ r.2.sem = fun _ => 0) :=
  (θ_run (Cert.Reference4Ideal.defs (F := Ideal)) _ _).mono (fun r h => ⟨fun c => (h c).2,
      Idealize.ShloMosaic.sem_eq_zero_of_no_sems (by decide) r.2⟩)
    (Cert.Reference4Ideal.Value.run (F := Ideal) m ρ)

/-- The reference of the mixing's first call leaves its arguments as they were and every counter at zero, from any memory. -/
theorem reference5_frame (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
          r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
        ∧ r.2.sem = fun _ => 0) :=
  (θ_run (Cert.Reference5Ideal.defs (F := Ideal)) _ _).mono (fun r h => ⟨fun c => (h c).2.2.2.2.2.2.2.2,
      Idealize.ShloMosaic.sem_eq_zero_of_no_sems (by decide) r.2⟩)
    (Cert.Reference5Ideal.Value.run (F := Ideal) m ρ)

/-- On equal arguments the projections of the kernel and of the reference end with the same four arrays. -/
theorem algebraic2 : Cert.algebraic_Kernel2Ideal_Reference2Ideal := by
  intro m ρ m' ρ' _ hagree
  refine ⟨fun c => Cert.Kernel2Ideal.Projection.result4 m c, fun c => Cert.Kernel2Ideal.Projection.result5 m c,
    fun c => Cert.Kernel2Ideal.Projection.result6 m c, fun c => Cert.Kernel2Ideal.Projection.result7 m c, ?_, ?_⟩
  · exact (θ_run (Cert.Kernel2Ideal.defs (F := Ideal)) _ _).mono
      (fun r h c => ⟨(h c).1.trans (Cert.Kernel2Ideal.Projection.final4 m c), (h c).2.1.trans (Cert.Kernel2Ideal.Projection.final5 m c),
        (h c).2.2.1.trans (Cert.Kernel2Ideal.Projection.final6 m c), (h c).2.2.2.1.trans (Cert.Kernel2Ideal.Projection.final7 m c), (h c).2.2.2.2⟩)
      (Cert.Kernel2Ideal.Value.run_blocks (F := Ideal) m ρ)
  refine (θ_run (Cert.Reference2Ideal.defs (F := Ideal)) _ _).mono (fun r h c => ⟨?_, ?_, ?_, ?_, (h c).2.2.2.2⟩)
    (Cert.Reference2Ideal.Value.run (F := Ideal) m' ρ')
  all_goals obtain ⟨h0, h1⟩ := hagree c
  · refine (h c).1.trans ((Cert.Reference2Ideal.Read.val_main_v13_eq (F := Ideal) _ _).trans ?_)
    refine Eq.trans ?_ (Cert.Projection.equation4 m c).symm
    rw [h0, h1]
  · refine (h c).2.1.trans ((Cert.Reference2Ideal.Read.val_main_v11_eq (F := Ideal) _ _).trans ?_)
    refine Eq.trans ?_ (Cert.Projection.equation5 m c).symm
    rw [h0, h1]
  · refine (h c).2.2.1.trans ((Cert.Reference2Ideal.Read.val_main_v8_eq (F := Ideal) _ _).trans ?_)
    refine Eq.trans ?_ (Cert.Projection.equation6 m c).symm
    rw [h0, h1]
  · refine (h c).2.2.2.1.trans ((Cert.Reference2Ideal.Read.val_main_v14_eq (F := Ideal) _ _).trans ?_)
    refine Eq.trans ?_ (Cert.Projection.equation7 m c).symm
    rw [h0, h1]

/-- On equal arguments, the scan's output finite, the merge of the kernel and of the reference end with the same array. -/
theorem algebraic3 [Cert.Pre_finite_scan.Facts] : Cert.algebraic_Kernel3Ideal_Reference3Ideal_pre_finite_scan := by
  intro m ρ m' ρ' hpre hagree
  refine ⟨fun c => Cert.Kernel3Ideal.Merge.result m c, ?_, ?_⟩
  · exact (θ_run (Cert.Kernel3Ideal.defs (F := Ideal)) _ _).mono (fun r h c => ⟨(h c).1.trans (Cert.Kernel3Ideal.Merge.final m c), (h c).2⟩)
      (Cert.Kernel3Ideal.Value.run_blocks (F := Ideal) m ρ)
  refine (θ_run (Cert.Reference3Ideal.defs (F := Ideal)) _ _).mono (fun r h c => ⟨?_, (h c).2⟩)
    (Cert.Reference3Ideal.Value.run (F := Ideal) m' ρ')
  refine (h c).1.trans ((Cert.Reference3Ideal.Read.val_main_v79_eq (F := Ideal) _ _).trans ?_)
  obtain ⟨h0, h1, h2, h3, h4, h5, h6, h7, h8, h9, h10, h11, h12, h13⟩ := hagree c
  have hy := Cert.Merge.scan_finite _ _ _ _ _ _ _ _ _ _ _ _ _ _ (hpre c)
  refine Eq.trans ?_ (Cert.Merge.equation m c hy).symm
  show Cert.Reference3Ideal.Read.val_main_v79 (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6))
      (m' ((c.tc : Thread Cert.Reference3Ideal.nD Cert.Reference3Ideal.τ).loc Cert.Reference3Ideal.main_arg7))
      (m' ((c.tc : Thread Cert.Reference3Ideal.nD Cert.Reference3Ideal.τ).loc Cert.Reference3Ideal.main_arg8))
      (m' ((c.tc : Thread Cert.Reference3Ideal.nD Cert.Reference3Ideal.τ).loc Cert.Reference3Ideal.main_arg9))
      (m' ((c.tc : Thread Cert.Reference3Ideal.nD Cert.Reference3Ideal.τ).loc Cert.Reference3Ideal.main_arg10))
      (m' ((c.tc : Thread Cert.Reference3Ideal.nD Cert.Reference3Ideal.τ).loc Cert.Reference3Ideal.main_arg11))
      (m' ((c.tc : Thread Cert.Reference3Ideal.nD Cert.Reference3Ideal.τ).loc Cert.Reference3Ideal.main_arg12))
      (m' ((c.tc : Thread Cert.Reference3Ideal.nD Cert.Reference3Ideal.τ).loc Cert.Reference3Ideal.main_arg13)) = _
  rw [h0, h1, h2, h3, h4, h5, h6, h7, h8, h9, h10, h11, h12, h13]

/-- On equal arguments the input normalisation of the kernel and of the reference end with the same array. -/
theorem algebraic4 : Cert.algebraic_Kernel4Ideal_Reference4Ideal := by
  intro m ρ m' ρ' _ hagree
  refine ⟨fun c => Cert.Kernel4Ideal.InputNorm.result m c, ?_, ?_⟩
  · exact (θ_run (Cert.Kernel4Ideal.defs (F := Ideal)) _ _).mono (fun r h c => ⟨(h c).1.trans (Cert.Kernel4Ideal.InputNorm.final m c), (h c).2⟩)
      (Cert.Kernel4Ideal.Value.run_blocks (F := Ideal) m ρ)
  refine (θ_run (Cert.Reference4Ideal.defs (F := Ideal)) _ _).mono (fun r h c => ⟨?_, (h c).2⟩)
    (Cert.Reference4Ideal.Value.run (F := Ideal) m' ρ')
  refine (h c).1.trans ((Cert.Reference4Ideal.Read.val_main_v28_eq (F := Ideal) _ _).trans ?_)
  obtain ⟨h0, h1, h2, h3⟩ := hagree c
  refine Eq.trans ?_ (Cert.InputNorm.equation m c).symm
  show Cert.Reference4Ideal.Read.val_main_v28 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) = _
  rw [h0, h1, h2, h3]

set_option maxHeartbeats 4000000 in
/-- On equal arguments, finite where the precondition says so, the mixing's first call of the kernel and of the reference end with the same
    eight arrays. -/
theorem algebraic5 [Cert.Pre_finite_mix.Facts] : Cert.algebraic_Kernel5Ideal_Reference5Ideal_pre_finite_mix := by
  intro m ρ m' ρ' hpre hagree
  refine ⟨fun c => Cert.Kernel5Ideal.Mix.result12 m c, fun c => Cert.Kernel5Ideal.Mix.result13 m c, fun c => Cert.Kernel5Ideal.Mix.result14 m c, fun c => Cert.Kernel5Ideal.Mix.result15 m c, fun c => Cert.Kernel5Ideal.Mix.result16 m c, fun c => Cert.Kernel5Ideal.Mix.result17 m c, fun c => Cert.Kernel5Ideal.Mix.result18 m c, fun c => Cert.Kernel5Ideal.Mix.result19 m c, ?_, ?_⟩
  · exact (θ_run (Cert.Kernel5Ideal.defs (F := Ideal)) _ _).mono
      (fun r h c => ⟨(h c).1.trans (Cert.Kernel5Ideal.Mix.final12 m c),
        (h c).2.1.trans (Cert.Kernel5Ideal.Mix.final13 m c),
        (h c).2.2.1.trans (Cert.Kernel5Ideal.Mix.final14 m c),
        (h c).2.2.2.1.trans (Cert.Kernel5Ideal.Mix.final15 m c),
        (h c).2.2.2.2.1.trans (Cert.Kernel5Ideal.Mix.final16 m c),
        (h c).2.2.2.2.2.1.trans (Cert.Kernel5Ideal.Mix.final17 m c),
        (h c).2.2.2.2.2.2.1.trans (Cert.Kernel5Ideal.Mix.final18 m c),
        (h c).2.2.2.2.2.2.2.1.trans (Cert.Kernel5Ideal.Mix.final19 m c),
        (h c).2.2.2.2.2.2.2.2⟩)
      (Cert.Kernel5Ideal.Value.run_blocks (F := Ideal) m ρ)
  have hf : ∀ c, (Cert.Kernel5Ideal.Mix.input m c).Finite := fun c => by
    rw [Cert.Kernel5Ideal.Mix.input_eq m c]
    exact Cert.Mix.finite _ _ _ _ _ _ _ _ _ _ (hpre c)
  refine (θ_run (Cert.Reference5Ideal.defs (F := Ideal)) _ _).mono (fun r h c => ⟨?_, ?_, ?_, ?_, ?_, ?_, ?_, ?_, (h c).2.2.2.2.2.2.2.2⟩)
    (Cert.Reference5Ideal.Value.run (F := Ideal) m' ρ')
  all_goals obtain ⟨h0, h1, h2, h3, h4, h5, h6, h7, h8, h9⟩ := hagree c
  · refine (h c).1.trans ((Cert.Reference5Ideal.Read.val_main_v85_eq (F := Ideal) m' c).trans ?_)
    refine Eq.trans ?_ (Cert.Kernel5Ideal.Mix.equation12 m c (hf c)).symm
    show Cert.Reference5Ideal.Read.val_main_v85 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg7)) = _
    rw [h0, h1, h2, h3, h7]
  · refine (h c).2.1.trans ((Cert.Reference5Ideal.Read.val_main_v90_eq (F := Ideal) m' c).trans ?_)
    refine Eq.trans ?_ (Cert.Kernel5Ideal.Mix.equation13 m c (hf c)).symm
    show Cert.Reference5Ideal.Read.val_main_v90 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg7)) = _
    rw [h0, h1, h2, h3, h4, h5, h7]
  · refine (h c).2.2.1.trans ((Cert.Reference5Ideal.Read.val_main_v94_eq (F := Ideal) m' c).trans ?_)
    refine Eq.trans ?_ (Cert.Kernel5Ideal.Mix.equation14 m c).symm
    show Cert.Reference5Ideal.Read.val_main_v94 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg8)) = _
    rw [h0, h1, h2, h3, h4, h5, h8]
  · refine (h c).2.2.2.1.trans ((Cert.Reference5Ideal.Read.val_main_v97_eq (F := Ideal) m' c).trans ?_)
    refine Eq.trans ?_ (Cert.Kernel5Ideal.Mix.equation15 m c).symm
    show Cert.Reference5Ideal.Read.val_main_v97 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
    rw [h0, h1, h2, h3]
  · refine (h c).2.2.2.2.1.trans ((Cert.Reference5Ideal.Read.val_main_v98_eq (F := Ideal) _ _).trans ?_)
    refine Eq.trans ?_ (Cert.Kernel5Ideal.Mix.equation16 m c).symm
    show Cert.Reference5Ideal.Read.val_main_v98 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) = _
    rw [h0, h1]
  · refine (h c).2.2.2.2.2.1.trans ((Cert.Reference5Ideal.Read.val_main_v99_eq (F := Ideal) m' c).trans ?_)
    refine Eq.trans ?_ (Cert.Kernel5Ideal.Mix.equation17 m c).symm
    show Cert.Reference5Ideal.Read.val_main_v99 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
    rw [h0, h1, h2, h3]
  · refine (h c).2.2.2.2.2.2.1.trans ((Cert.Reference5Ideal.Read.val_main_v73_eq (F := Ideal) m' c).trans ?_)
    refine Eq.trans ?_ (Cert.Kernel5Ideal.Mix.equation18 m c (hf c)).symm
    show Cert.Reference5Ideal.Read.val_main_v73 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) = _
    rw [h0, h1, h4, h5, h8, h9]
  · refine (h c).2.2.2.2.2.2.2.1.trans ((Cert.Reference5Ideal.Read.val_main_v40_eq (F := Ideal) _ _ _).trans ?_)
    refine Eq.trans ?_ (Cert.Kernel5Ideal.Mix.equation19 m c).symm
    show Cert.Reference5Ideal.Read.val_main_v40 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg6)) = _
    rw [h0, h1, h6]

/-- Every claim the certificate states, with the side conditions of the programs and of the preconditions. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Equation.pre_facts, Cert.Merge.pre_facts, Cert.Mix.pre_facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    fun m ρ _ => Cert.Kernel2.Gen.frame m ρ,
    fun m ρ _ => Cert.Kernel2Ideal.Gen.frame m ρ,
    fun m ρ _ => reference2_frame m ρ,
    fun m ρ _ => Cert.Kernel3.Gen.frame m ρ,
    fun m ρ _ => Cert.Kernel3Ideal.Gen.frame m ρ,
    fun m ρ _ => Cert.Kernel3Ideal.Gen.frame m ρ,
    fun m ρ _ => reference3_frame m ρ,
    fun m ρ _ => reference3_frame m ρ,
    fun m ρ _ => Cert.Kernel4.Gen.frame m ρ,
    fun m ρ _ => Cert.Kernel4Ideal.Gen.frame m ρ,
    fun m ρ _ => reference4_frame m ρ,
    Cert.Kernel5.Mix.frame,
    fun m ρ _ => Cert.Kernel5Ideal.Gen.frame m ρ,
    fun m ρ _ => Cert.Kernel5Ideal.Gen.frame m ρ,
    fun m ρ _ => reference5_frame m ρ,
    fun m ρ _ => reference5_frame m ρ,
    trivial,
    @algebraic Cert.Equation.pre_facts,
    trivial,
    algebraic2,
    trivial,
    @algebraic3 Cert.Merge.pre_facts,
    trivial,
    algebraic4,
    trivial,
    @algebraic5 Cert.Mix.pre_facts⟩

end Cert.Proof
end
